-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![16, 512, 768]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = Layout.block ⟨3, ![2, 512, 768]⟩ ⟨3, ![16, 512, 768]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S16x512x64x64 : Shape := ⟨4, ![16, 512, 64, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S16x512x64x64 : S_.BroadcastsInDim S16x512x64x64 (![] : Fin 0 → Fin S16x512x64x64.rank)

variable [Facts]

def fn {F : FTy → Type} [FloatOps F] (main_arg0 : FVec F S2x512x768 .f32) (main_arg1 : FVec F S768x512 .f32) (main_arg2 : FVec F S16x512x64x64 .f32) (main_arg3 : FVec F S16x512x64x64 .f32) (main_arg4 : FVec F S512x768 .f32) : IVec S2x512x768 1 × IVec S768x512 1 × IVec S16x512x64x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S16x512x64x64 .f32 := Host.absf main_arg2
  let main_cst_1 : FVec F S_ .f32 := constant S_ .f32 0x7F800000#32
  let main_v7 : FVec F S16x512x64x64 .f32 := broadcastInDim S16x512x64x64 ![] bcast_S_S16x512x64x64 main_cst_1
  let main_v8 : IVec S16x512x64x64 1 := cmpf .olt main_v6 main_v7
  (main_v2, main_v5, main_v8)
-- ==== Pre_finite_ReferenceIdeal.lean ====
abbrev S16x512x768 : Shape := ⟨3, ![16, 512, 768]⟩
abbrev S768x4096 : Shape := ⟨2, ![768, 4096]⟩
abbrev S16x512x64x64 : Shape := ⟨4, ![16, 512, 64, 64]⟩
abbrev S4096x768 : Shape := ⟨2, ![4096, 768]⟩
abbrev S_ : Shape := ⟨0, ![]⟩

class Facts : Prop where
  bcast_S_S16x512x768 : S_.BroadcastsInDim S16x512x768 (![] : Fin 0 → Fin S16x512x768.rank)
  bcast_S_S768x4096 : S_.BroadcastsInDim S768x4096 (![] : Fin 0 → Fin S768x4096.rank)
  bcast_S_S16x512x64x64 : S_.BroadcastsInDim S16x512x64x64 (![] : Fin 0 → Fin S16x512x64x64.rank)

variable [Facts]

def fn {F : FTy → Type} [FloatOps F] (main_arg0 : FVec F S16x512x768 .f32) (main_arg1 : FVec F S768x4096 .f32) (main_arg2 : FVec F S16x512x64x64 .f32) (main_arg3 : FVec F S16x512x64x64 .f32) (main_arg4 : FVec F S4096x768 .f32) : IVec S16x512x768 1 × IVec S768x4096 1 × IVec S16x512x64x64 1 :=
  let main_v0 : FVec F S16x512x768 .f32 := Host.absf main_arg0
  let main_cst : FVec F S_ .f32 := constant S_ .f32 0x7F800000#32
  let main_v1 : FVec F S16x512x768 .f32 := broadcastInDim S16x512x768 ![] bcast_S_S16x512x768 main_cst
  let main_v2 : IVec S16x512x768 1 := cmpf .olt main_v0 main_v1
  let main_v3 : FVec F S768x4096 .f32 := Host.absf main_arg1
  let main_cst_0 : FVec F S_ .f32 := constant S_ .f32 0x7F800000#32
  let main_v4 : FVec F S768x4096 .f32 := broadcastInDim S768x4096 ![] bcast_S_S768x4096 main_cst_0
  let main_v5 : IVec S768x4096 1 := cmpf .olt main_v3 main_v4
  let main_v6 : FVec F S16x512x64x64 .f32 := Host.absf main_arg2
  let main_cst_1 : FVec F S_ .f32 := constant S_ .f32 0x7F800000#32
  let main_v7 : FVec F S16x512x64x64 .f32 := broadcastInDim S16x512x64x64 ![] bcast_S_S16x512x64x64 main_cst_1
  let main_v8 : IVec S16x512x64x64 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S16x512x64x64 : Shape := ⟨4, ![16, 512, 64, 64]⟩
abbrev S512x768 : Shape := ⟨2, ![512, 768]⟩
abbrev S_ : Shape := ⟨0, ![]⟩
abbrev S2x512x64x64 : Shape := ⟨4, ![2, 512, 64, 64]⟩
abbrev S2x64x64x512 : Shape := ⟨4, ![2, 64, 64, 512]⟩
abbrev S1024x768 : Shape := ⟨2, ![1024, 768]⟩
abbrev S8x768x512 : Shape := ⟨3, ![8, 768, 512]⟩
abbrev S8x512x768 : Shape := ⟨3, ![8, 512, 768]⟩
abbrev S2x2x4x128x1024 : Shape := ⟨5, ![2, 2, 4, 128, 1024]⟩
abbrev S512x1024 : Shape := ⟨2, ![512, 1024]⟩
abbrev S1024x512 : Shape := ⟨2, ![1024, 512]⟩
abbrev S2 : Shape := ⟨1, ![2]⟩
abbrev S7 : Shape := ⟨1, ![7]⟩
abbrev S1x768x512 : Shape := ⟨3, ![1, 768, 512]⟩
abbrev S1x512x768 : Shape := ⟨3, ![1, 512, 768]⟩
abbrev S1 : Shape := ⟨1, ![1]⟩
abbrev S1x1x1x64x512 : Shape := ⟨5, ![1, 1, 1, 64, 512]⟩
abbrev S64x512 : Shape := ⟨2, ![64, 512]⟩
abbrev S1x1x64x512 : Shape := ⟨4, ![1, 1, 64, 512]⟩
abbrev S512x512 : Shape := ⟨2, ![512, 512]⟩
abbrev S512x128 : Shape := ⟨2, ![512, 128]⟩
abbrev S1x1x1x128x1024 : Shape := ⟨5, ![1, 1, 1, 128, 1024]⟩
abbrev S128x1024 : Shape := ⟨2, ![128, 1024]⟩
abbrev S512 : Shape := ⟨1, ![512]⟩
abbrev S512x1 : Shape := ⟨2, ![512, 1]⟩
abbrev S512x64 : Shape := ⟨2, ![512, 64]⟩

abbrev nBuf : Space → Nat
  | .hbm => 42
  | .vmem => 10
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S16x512x64x64, .f32⟩
  | .hbm, ⟨3, _⟩ => ⟨S16x512x64x64, .f32⟩
  | .hbm, ⟨4, _⟩ => ⟨S512x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x64x64, .f32⟩
  | .hbm, ⟨22, _⟩ => ⟨S2x512x64x64, .bf16⟩
  | .hbm, ⟨23, _⟩ => ⟨S2x64x64x512, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2x512x64x64, .f32⟩
  | .hbm, ⟨35, _⟩ => ⟨S2x512x64x64, .bf16⟩
  | .hbm, ⟨36, _⟩ => ⟨S2x64x64x512, .bf16⟩
  | .hbm, ⟨37, _⟩ => ⟨S2x512x768, .bf16⟩
  | .hbm, ⟨38, _⟩ => ⟨S1024x768, .bf16⟩
  | .hbm, ⟨39, _⟩ => ⟨S512x768, .bf16⟩
  | .hbm, ⟨40, _⟩ => ⟨S1024x768, .f32⟩
  | .hbm, ⟨41, _⟩ => ⟨S2x512x768, .f32⟩
  | .local _ .vmem, ⟨0, _⟩ => ⟨S1024x768, .bf16⟩
  | .local _ .vmem, ⟨1, _⟩ => ⟨S768x512, .f32⟩
  | .local _ .vmem, ⟨2, _⟩ => ⟨S512x768, .bf16⟩
  | .local _ .vmem, ⟨3, _⟩ => ⟨S1024x768, .f32⟩
  | .local _ .vmem, ⟨4, _⟩ => ⟨S8x768x512, .bf16⟩
  | .local _ .vmem, ⟨5, _⟩ => ⟨S8x512x768, .bf16⟩
  | .local _ .vmem, ⟨6, _⟩ => ⟨S2x2x4x128x1024, .bf16⟩
  | .local _ .vmem, ⟨7, _⟩ => ⟨S2x2x4x128x1024, .bf16⟩
  | .local _ .vmem, ⟨8, _⟩ => ⟨S512x1024, .f32⟩
  | .local _ .vmem, ⟨9, _⟩ => ⟨S1024x512, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 2 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_c_8 : Ref sig .tc := ⟨.hbm, 26, rfl⟩
abbrev main_v13 : Ref sig .tc := ⟨.hbm, 27, rfl⟩
abbrev main_c_9 : Ref sig .tc := ⟨.hbm, 28, rfl⟩
abbrev main_v14 : Ref sig .tc := ⟨.hbm, 29, rfl⟩
abbrev main_v15 : Ref sig .tc := ⟨.hbm, 30, rfl⟩
abbrev main_c_10 : Ref sig .tc := ⟨.hbm, 31, rfl⟩
abbrev main_c_11 : Ref sig .tc := ⟨.hbm, 32, rfl⟩
abbrev main_c_12 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) (c0_i32_29 : BitVec 32) (c0_i32_30 : BitVec 32) : Fin 4 → Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v29 : BitVec 32 := Scalar.subi v2 c0_i32
  let c8_i32_26 : BitVec 32 := 8#32
  let v30 : BitVec 32 := Scalar.addi v29 c8_i32_26
  let c8_i32_27 : BitVec 32 := 8#32
  let v31 : BitVec 32 := Scalar.remsi v30 c8_i32_27
  let c8_i32_28 : BitVec 32 := 8#32
  let v32 : BitVec 32 := Scalar.muli v31 c8_i32_28
  let v33 : BitVec 32 := Scalar.addi v32 c0_i32_29
  let v34 : BitVec 32 := Scalar.addi v33 c0_i32_30
  let c0_i32_38 : BitVec 32 := 0#32
  let c0_i32_39 : BitVec 32 := 0#32
  ![0, v34.toNat, 0, 0]
def k0_off2 (d0 : Dev nD) (c0_i32 : BitVec 32) (c0_i32_191 : BitVec 32) (c0_i32_192 : BitVec 32) : Fin 4 → Nat :=
  let c1_i32_193 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v29 : BitVec 32 := Scalar.subi v2 c0_i32
  let c8_i32_26 : BitVec 32 := 8#32
  let v30 : BitVec 32 := Scalar.addi v29 c8_i32_26
  let c8_i32_27 : BitVec 32 := 8#32
  let v31 : BitVec 32 := Scalar.remsi v30 c8_i32_27
  let c8_i32_190 : BitVec 32 := 8#32
  let v152 : BitVec 32 := Scalar.muli v31 c8_i32_190
  let v153 : BitVec 32 := Scalar.addi v152 c0_i32_191
  let v154 : BitVec 32 := Scalar.addi v153 c0_i32_192
  let c0_i32_200 : BitVec 32 := 0#32
  let c0_i32_201 : BitVec 32 := 0#32
  ![1, v154.toNat, 0, 0]
def k0_dev1 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_365 : BitVec 32 := 1#32
  let v294 : BitVec 32 := Scalar.muli v7 c1_i32_365
  let v295 : BitVec 32 := Scalar.addi c0_i32_366 v294
  v295.toNat
def k0_dev2 (d0 : Dev nD) : Nat :=
  let c0_i32_369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_368 : BitVec 32 := 1#32
  let v296 : BitVec 32 := Scalar.muli v4 c1_i32_368
  let v297 : BitVec 32 := Scalar.addi c0_i32_369 v296
  v297.toNat
def k0_dev3 (d0 : Dev nD) : Nat :=
  let c0_i32_376 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_375 : BitVec 32 := 1#32
  let v298 : BitVec 32 := Scalar.muli v4 c1_i32_375
  let v299 : BitVec 32 := Scalar.addi c0_i32_376 v298
  v299.toNat
def k0_dev4 (d0 : Dev nD) : Nat :=
  let c0_i32_386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_385 : BitVec 32 := 1#32
  let v308 : BitVec 32 := Scalar.muli v4 c1_i32_385
  let v309 : BitVec 32 := Scalar.addi c0_i32_386 v308
  v309.toNat
def k0_dev5 (d0 : Dev nD) : Nat :=
  let c0_i32_1225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1224 : BitVec 32 := 1#32
  let v1040 : BitVec 32 := Scalar.muli v4 c1_i32_1224
  let v1041 : BitVec 32 := Scalar.addi c0_i32_1225 v1040
  v1041.toNat
def k0_dev6 (d0 : Dev nD) : Nat :=
  let c0_i32_1235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1234 : BitVec 32 := 1#32
  let v1050 : BitVec 32 := Scalar.muli v4 c1_i32_1234
  let v1051 : BitVec 32 := Scalar.addi c0_i32_1235 v1050
  v1051.toNat
def k0_dev7 (d0 : Dev nD) : Nat :=
  let c0_i32_2086 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2085 : BitVec 32 := 1#32
  let v1785 : BitVec 32 := Scalar.muli v4 c1_i32_2085
  let v1786 : BitVec 32 := Scalar.addi c0_i32_2086 v1785
  v1786.toNat
def k0_dev8 (d0 : Dev nD) : Nat :=
  let c0_i32_2096 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2095 : BitVec 32 := 1#32
  let v1795 : BitVec 32 := Scalar.muli v4 c1_i32_2095
  let v1796 : BitVec 32 := Scalar.addi c0_i32_2096 v1795
  v1796.toNat
def k0_dev9 (d0 : Dev nD) : Nat :=
  let c0_i32_2947 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2946 : BitVec 32 := 1#32
  let v2530 : BitVec 32 := Scalar.muli v4 c1_i32_2946
  let v2531 : BitVec 32 := Scalar.addi c0_i32_2947 v2530
  v2531.toNat
def k0_dev10 (d0 : Dev nD) : Nat :=
  let c0_i32_2957 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2956 : BitVec 32 := 1#32
  let v2540 : BitVec 32 := Scalar.muli v4 c1_i32_2956
  let v2541 : BitVec 32 := Scalar.addi c0_i32_2957 v2540
  v2541.toNat
def k0_dev11 (d0 : Dev nD) : Nat :=
  let c0_i32_3807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3806 : BitVec 32 := 1#32
  let v3275 : BitVec 32 := Scalar.muli v4 c1_i32_3806
  let v3276 : BitVec 32 := Scalar.addi c0_i32_3807 v3275
  v3276.toNat
def k0_dev12 (d0 : Dev nD) : Nat :=
  let c0_i32_3817 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3816 : BitVec 32 := 1#32
  let v3285 : BitVec 32 := Scalar.muli v4 c1_i32_3816
  let v3286 : BitVec 32 := Scalar.addi c0_i32_3817 v3285
  v3286.toNat
def k0_dev13 (d0 : Dev nD) : Nat :=
  let c0_i32_4667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_4666 : BitVec 32 := 1#32
  let v4020 : BitVec 32 := Scalar.muli v4 c1_i32_4666
  let v4021 : BitVec 32 := Scalar.addi c0_i32_4667 v4020
  v4021.toNat
def k0_dev14 (d0 : Dev nD) : Nat :=
  let c0_i32_4677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_4676 : BitVec 32 := 1#32
  let v4030 : BitVec 32 := Scalar.muli v4 c1_i32_4676
  let v4031 : BitVec 32 := Scalar.addi c0_i32_4677 v4030
  v4031.toNat
def k0_dev15 (d0 : Dev nD) : Nat :=
  let c0_i32_5526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_5525 : BitVec 32 := 1#32
  let v4765 : BitVec 32 := Scalar.muli v4 c1_i32_5525
  let v4766 : BitVec 32 := Scalar.addi c0_i32_5526 v4765
  v4766.toNat
def k0_dev16 (d0 : Dev nD) : Nat :=
  let c0_i32_5536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_5535 : BitVec 32 := 1#32
  let v4775 : BitVec 32 := Scalar.muli v4 c1_i32_5535
  let v4776 : BitVec 32 := Scalar.addi c0_i32_5536 v4775
  v4776.toNat
def k0_dev17 (d0 : Dev nD) : Nat :=
  let c0_i32_6846_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6845_r0 : BitVec 32 := 1#32
  let v5965_r0 : BitVec 32 := Scalar.muli v7 c1_i32_6845_r0
  let v5966_r0 : BitVec 32 := Scalar.addi c0_i32_6846_r0 v5965_r0
  v5966_r0.toNat
def k0_dev18 (d0 : Dev nD) : Nat :=
  let c0_i32_6849_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_6848_r0 : BitVec 32 := 1#32
  let v5967_r0 : BitVec 32 := Scalar.muli v4 c1_i32_6848_r0
  let v5968_r0 : BitVec 32 := Scalar.addi c0_i32_6849_r0 v5967_r0
  v5968_r0.toNat
abbrev stage0_0 : Fin 1 → Memref sig .tc .vmem S1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale" => some (((1 / 8) * (Real.log 2)⁻¹ : ℝ) : EReal)
  | _ => none
-- ==== ReferenceIdeal.lean ====
abbrev S16x512x768 : Shape := ⟨3, ![16, 512, 768]⟩
abbrev S768x4096 : Shape := ⟨2, ![768, 4096]⟩
abbrev S16x512x64x64 : Shape := ⟨4, ![16, 512, 64, 64]⟩
abbrev S4096x768 : Shape := ⟨2, ![4096, 768]⟩
abbrev S16x512x4096 : Shape := ⟨3, ![16, 512, 4096]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S16x64x512x512 : Shape := ⟨4, ![16, 64, 512, 512]⟩
abbrev S1x1x512x512 : Shape := ⟨4, ![1, 1, 512, 512]⟩
abbrev S16x64x512 : Shape := ⟨3, ![16, 64, 512]⟩
abbrev S16x64x512x1 : Shape := ⟨4, ![16, 64, 512, 1]⟩
abbrev S1x1x512x1 : Shape := ⟨4, ![1, 1, 512, 1]⟩
abbrev S16x64x64x512 : Shape := ⟨4, ![16, 64, 64, 512]⟩

abbrev nBuf : Space → Nat
  | .hbm => 67
  | .vmem => 0
  | .smem => 0
  | _ => 0

abbrev bufTy : (tb : Table) → Fin (tcTables nBuf tb) → BufTy
  | .hbm, ⟨0, _⟩ => ⟨S16x512x768, .f32⟩
  | .hbm, ⟨1, _⟩ => ⟨S768x4096, .f32⟩
  | .hbm, ⟨2, _⟩ => ⟨S16x512x64x64, .f32⟩
  | .hbm, ⟨3, _⟩ => ⟨S16x512x64x64, .f32⟩
  | .hbm, ⟨4, _⟩ => ⟨S4096x768, .f32⟩
  | .hbm, ⟨5, _⟩ => ⟨S16x512x4096, .f32⟩
  | .hbm, ⟨6, _⟩ => ⟨S16x512x64x64, .f32⟩
  | .hbm, ⟨7, _⟩ => ⟨S512, .i32⟩
  | .hbm, ⟨8, _⟩ => ⟨S512x1, .i32⟩
  | .hbm, ⟨9, _⟩ => ⟨S512, .i32⟩
  | .hbm, ⟨10, _⟩ => ⟨S1x512, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S_, .i32⟩
  | .hbm, ⟨19, _⟩ => ⟨S1x512, .i32⟩
  | .hbm, ⟨20, _⟩ => ⟨S1x512, .i1⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S512x512, .i1⟩
  | .hbm, ⟨25, _⟩ => ⟨S512x512, .i1⟩
  | .hbm, ⟨26, _⟩ => ⟨S512x512, .i1⟩
  | .hbm, ⟨27, _⟩ => ⟨S512x512, .i1⟩
  | .hbm, ⟨28, _⟩ => ⟨S16x64x512x512, .f32⟩
  | .hbm, ⟨29, _⟩ => ⟨S_, .f32⟩
  | .hbm, ⟨30, _⟩ => ⟨S16x64x512x512, .f32⟩
  | .hbm, ⟨31, _⟩ => ⟨S16x64x512x512, .f32⟩
  | .hbm, ⟨32, _⟩ => ⟨S1x1x512x512, .i1⟩
  | .hbm, ⟨33, _⟩ => ⟨S_, .f32⟩
  | .hbm, ⟨34, _⟩ => ⟨S_, .f32⟩
  | .hbm, ⟨35, _⟩ => ⟨S16x64x512x512, .i1⟩
  | .hbm, ⟨36, _⟩ => ⟨S16x64x512x512, .f32⟩
  | .hbm, ⟨37, _⟩ => ⟨S16x64x512x512, .f32⟩
  | .hbm, ⟨38, _⟩ => ⟨S_, .f32⟩
  | .hbm, ⟨39, _⟩ => ⟨S16x64x512, .f32⟩
  | .hbm, ⟨40, _⟩ => ⟨S16x64x512x1, .f32⟩
  | .hbm, ⟨41, _⟩ => ⟨S16x64x512x512, .f32⟩
  | .hbm, ⟨42, _⟩ => ⟨S16x64x512x512, .f32⟩
  | .hbm, ⟨43, _⟩ => ⟨S16x64x512x512, .f32⟩
  | .hbm, ⟨44, _⟩ => ⟨S_, .i1⟩
  | .hbm, ⟨45, _⟩ => ⟨S512, .i1⟩
  | .hbm, ⟨46, _⟩ => ⟨S1x1x512x1, .i1⟩
  | .hbm, ⟨47, _⟩ => ⟨S_, .f32⟩
  | .hbm, ⟨48, _⟩ => ⟨S16x64x512, .f32⟩
  | .hbm, ⟨49, _⟩ => ⟨S16x64x512x1, .f32⟩
  | .hbm, ⟨50, _⟩ => ⟨S_, .f32⟩
  | .hbm, ⟨51, _⟩ => ⟨S_, .f32⟩
  | .hbm, ⟨52, _⟩ => ⟨S16x64x512x1, .i1⟩
  | .hbm, ⟨53, _⟩ => ⟨S16x64x512x1, .f32⟩
  | .hbm, ⟨54, _⟩ => ⟨S16x64x512x1, .f32⟩
  | .hbm, ⟨55, _⟩ => ⟨S16x64x512x512, .f32⟩
  | .hbm, ⟨56, _⟩ => ⟨S16x64x512x512, .f32⟩
  | .hbm, ⟨57, _⟩ => ⟨S1x1x512x1, .i1⟩
  | .hbm, ⟨58, _⟩ => ⟨S_, .f32⟩
  | .hbm, ⟨59, _⟩ => ⟨S_, .f32⟩
  | .hbm, ⟨60, _⟩ => ⟨S16x64x512x512, .i1⟩
  | .hbm, ⟨61, _⟩ => ⟨S16x64x512x512, .f32⟩
  | .hbm, ⟨62, _⟩ => ⟨S16x64x512x512, .f32⟩
  | .hbm, ⟨63, _⟩ => ⟨S16x64x64x512, .f32⟩
  | .hbm, ⟨64, _⟩ => ⟨S16x512x64x64, .f32⟩
  | .hbm, ⟨65, _⟩ => ⟨S16x512x4096, .f32⟩
  | .hbm, ⟨66, _⟩ => ⟨S16x512x768, .f32⟩
  | _, _ => ⟨S16x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.KernelIdeal.Walk.lean ====
/-
The body of the kernel written as the loops it comes from: eight hops, each a set of copies of the
key and value heads, two remote copies of the weight blocks, and eight pairs of heads. The printed
body is this program with every loop written out; `body_eq` says so.
-/
module

public import proofs.«01_k».proof.Proof.Gen.KernelIdeal.Skeleton
public import proofs.«01_k».proof.Proof.Gen.KernelIdeal.Points
public import Idealize.ShloMosaic.Lib.Tactic

@[expose] public section

set_option maxRecDepth 16384

noncomputable section

namespace Cert.KernelIdeal.Walk

open Idealize.ShloMosaic Idealize.SL.Sem Cert.KernelIdeal Cert.KernelIdeal.Gen

variable {F : FTy → Type} [FloatOps F] [Named F]

/-! ## The buffers -/

abbrev xM : Memref sig .tc .vmem S1024x768 .bf16 := Memref.whole cc0_stg0_0
abbrev wqM : Memref sig .tc .vmem S768x512 .f32 := Memref.whole cc0_stg1_0
abbrev woM : Memref sig .tc .vmem S512x768 .bf16 := Memref.whole cc0_stg2_0
abbrev outM : Memref sig .tc .vmem S1024x768 .f32 := Memref.whole cc0_stg3_0
abbrev wqH : Memref sig .tc .vmem S8x768x512 .bf16 := Memref.whole cc0_scratch0
abbrev woH : Memref sig .tc .vmem S8x512x768 .bf16 := Memref.whole cc0_scratch1
abbrev biasM : Memref sig .tc .vmem S512x1024 .f32 := Memref.whole cc0_scratch4
abbrev ctxM : Memref sig .tc .vmem S1024x512 .bf16 := Memref.whole cc0_scratch5

/-- The host's key (0) and value (1) operands. -/
abbrev kvR : Fin 2 → Ref sig .tc
  | 0 => main_v11
  | 1 => main_v18
/-- The core's two key (0) and value (1) buffers. -/
abbrev kvB : Fin 2 → Ref sig .tc
  | 0 => cc0_scratch2
  | 1 => cc0_scratch3

def kvSrcM : Fin 2 → Memref sig .tc .hbm S2x64x64x512 .bf16
  | 0 => Memref.whole main_v11
  | 1 => Memref.whole main_v18
def kvBufM : Fin 2 → Memref sig .tc .vmem S2x2x4x128x1024 .bf16
  | 0 => Memref.whole cc0_scratch2
  | 1 => Memref.whole cc0_scratch3

theorem kvSrcM_whole (w : Fin 2) : (kvSrcM w).IsWhole := by
  match w with
  | 0 => exact Memref.isWhole_whole _
  | 1 => exact Memref.isWhole_whole _
theorem kvBufM_whole (w : Fin 2) : (kvBufM w).IsWhole := by
  match w with
  | 0 => exact Memref.isWhole_whole _
  | 1 => exact Memref.isWhole_whole _

/-! ## The semaphores -/

/-- The semaphore the copies into slot `s` land on. -/
def kvS (s : Fin 2) : DmaSem sig := ⟨4 + s.val, by have := s.isLt; show _ < 34; omega⟩
/-- Which of the two weight buffers: 0 the query weights, 1 the output weights. -/
def ssem (w : Fin 2) (j : Fin 7) : DmaSem sig :=
  ⟨6 + 14 * w.val + j.val, by have := w.isLt; have := j.isLt; show _ < 34; omega⟩
def rsem (w : Fin 2) (j : Fin 7) : DmaSem sig :=
  ⟨13 + 14 * w.val + j.val, by have := w.isLt; have := j.isLt; show _ < 34; omega⟩

abbrev left (d : Dev nD) : Dev nD := ⟨k0_dev1 d, k0_dev1_lt d⟩
abbrev right (d : Dev nD) : Dev nD := ⟨k0_dev3 d, k0_dev3_lt d⟩

/-! ## The copies of the heads -/

/-- Which head a hop's copy takes: the operand, the batch, the pair and the half of the pair. -/
structure Cp where
  w : Fin 2
  b : Fin 2
  p : Fin 4
  i : Fin 2
deriving DecidableEq

/-- The row of heads the copy reads from, as the kernel computes it. -/
def srcOff (d : Dev nD) (h : Fin 8) (q : Cp) : Fin 4 → Nat :=
  ![q.b.val, k0_off1 d (BitVec.ofNat 32 h.val) (BitVec.ofNat 32 (2 * q.p.val)) (BitVec.ofNat 32 q.i.val) 1, 0, 0]

theorem srcOff_eq (d : Dev nD) (h : Fin 8) (q : Cp) :
    srcOff d h q = ![q.b.val, 8 * (((d.val + 8) - h.val) % 8) + 2 * q.p.val + q.i.val, 0, 0] := by
  unfold srcOff
  rw [k0_off1_eq d h q.p q.i]
  rfl

theorem srcOff_inb (d : Dev nD) (h : Fin 8) (q : Cp) :
    ∀ a, srcOff d h q a + S1x1x64x512.size a ≤ S2x64x64x512.size a := by
  rw [srcOff_eq]
  have hb := q.b.isLt; have hp := q.p.isLt; have hi := q.i.isLt
  have hm := Nat.mod_lt (d.val + 8 - h.val) (show 0 < 8 by omega)
  intro a
  match a with
  | 0 => show q.b.val + 1 ≤ 2; omega
  | 1 => show 8 * ((d.val + 8 - h.val) % 8) + 2 * q.p.val + q.i.val + 1 ≤ 64; omega
  | 2 => show 0 + 64 ≤ 64; omega
  | 3 => show 0 + 512 ≤ 512; omega

theorem srcOff_words (d : Dev nD) (h : Fin 8) (q : Cp) :
    (Rect.unit (s := S2x64x64x512) (srcOff d h q) S1x1x64x512.size (srcOff_inb d h q)).WholeWords
      (EltTy.packing .bf16) := by
  obtain ⟨w, b, p, i⟩ := q
  match b with
  | 0 => exact k0_off1_wordsbf16 d h p i
  | 1 => exact k0_off2_wordsbf16 d h p i

/-- Where in the core's buffer the copy lands: the diagonal block of its head. -/
def dstOff (s : Fin 2) (q : Cp) : Fin 5 → Nat :=
  ![s.val, q.b.val, q.p.val, 64 * q.i.val, 512 * q.i.val]

theorem dstOff_inb (s : Fin 2) (q : Cp) :
    ∀ a, dstOff s q a + S1x1x1x64x512.size a ≤ S2x2x4x128x1024.size a := by
  obtain ⟨w, b, p, i⟩ := q
  revert s b p i
  show ∀ (s b : Fin 2) (p : Fin 4) (i : Fin 2), ∀ a : Fin 5,
    (![s.val, b.val, p.val, 64 * i.val, 512 * i.val] : Fin 5 → Nat) a + S1x1x1x64x512.size a ≤ S2x2x4x128x1024.size a
  decide

theorem dstOff_words (s : Fin 2) (q : Cp) :
    (Rect.unit (s := S2x2x4x128x1024) (dstOff s q) S1x1x1x64x512.size (dstOff_inb s q)).WholeWords
      (EltTy.packing .bf16) := by
  obtain ⟨w, b, p, i⟩ := q
  revert s b p i
  show ∀ (s b : Fin 2) (p : Fin 4) (i : Fin 2),
    (Rect.unit (s := S2x2x4x128x1024) ![s.val, b.val, p.val, 64 * i.val, 512 * i.val] S1x1x1x64x512.size
      (dstOff_inb s ⟨0, b, p, i⟩)).WholeWords (EltTy.packing .bf16)
  decide

def cpSrc (d : Dev nD) (h : Fin 8) (q : Cp) : Memref sig .tc .hbm S64x512 .bf16 :=
  ((kvSrcM q.w).slice (Rect.unit (s := S2x64x64x512) (srcOff d h q) S1x1x64x512.size (srcOff_inb d h q))
    (fun _ => rfl)).squeeze S64x512 squeezes_S1x1x64x512_S64x512
def cpDst (s : Fin 2) (q : Cp) : Memref sig .tc .vmem S64x512 .bf16 :=
  ((kvBufM q.w).slice (Rect.unit (s := S2x2x4x128x1024) (dstOff s q) S1x1x1x64x512.size (dstOff_inb s q))
    (fun _ => rfl)).squeeze S64x512 squeezes_S1x1x1x64x512_S64x512

theorem cpSrc_words (d : Dev nD) (h : Fin 8) (q : Cp) : (cpSrc d h q).view.WordExact :=
  ((kvSrcM_whole q.w).wordExact_slice rfl _ (srcOff_words d h q)).reshape _ _
theorem cpDst_words (s : Fin 2) (q : Cp) : (cpDst s q).view.WordExact :=
  ((kvBufM_whole q.w).wordExact_slice rfl _ (dstOff_words s q)).reshape _ _

abbrev slot (h : Fin 8) : Fin 2 := ⟨h.val % 2, Nat.mod_lt _ (by omega)⟩

/-- One copy of hop `h`, and the wait for it. -/
def cpStart (d : Dev nD) (h : Fin 8) (q : Cp) : Prog (TpuEff nD τ sig (Elt F) Λ₀ .tc) PUnit :=
  Prog.lift (.enqueueDma (cpSrc d h q) (.here (cpDst (slot h) q)) (.dma (kvS (slot h)))
    (cpSrc_words d h q) (cpDst_words (slot h) q) (by cases q with | mk w b p i => match w with | 0 => exact ⟨Or.inl rfl, trivial⟩ | 1 => exact ⟨Or.inl rfl, trivial⟩))
def cpWait (d : Dev nD) (h : Fin 8) (q : Cp) : Prog (TpuEff nD τ sig (Elt F) Λ₀ .tc) PUnit :=
  Prog.lift (.waitDma2 (kvS (slot h)) (cpSrc d h q) (cpDst (slot h) q)
    (cpSrc_words d h q) (cpDst_words (slot h) q))

/-- The copies of a hop, in the order the kernel makes them. -/
def cps : List Cp :=
  [0, 1].flatMap fun b => [0, 1, 2, 3].flatMap fun p => [0, 1].flatMap fun i => [0, 1].map fun w => ⟨w, b, p, i⟩

/-- Run `f` on each entry of a list, then go on with `k`. -/
def forL {α : Type} (f : α → Prog (TpuEff nD τ sig (Elt F) Λ₀ .tc) PUnit) :
    List α → Prog (TpuEff nD τ sig (Elt F) Λ₀ .tc) PUnit → Prog (TpuEff nD τ sig (Elt F) Λ₀ .tc) PUnit
  | [], k => k
  | a :: l, k => f a >>= fun _ => forL f l k

/-! ## The weight blocks passed round the ring -/

theorem hopq_inb (j : Fin 8) : ∀ a, (![j.val, 0, 0] : Fin 3 → Nat) a + S1x768x512.size a ≤ S8x768x512.size a := by
  revert j; decide
theorem hopo_inb (j : Fin 8) : ∀ a, (![j.val, 0, 0] : Fin 3 → Nat) a + S1x512x768.size a ≤ S8x512x768.size a := by
  revert j; decide
abbrev hopqR (j : Fin 8) : Rect S8x768x512 := Rect.unit (s := S8x768x512) ![j.val, 0, 0] S1x768x512.size (hopq_inb j)
abbrev hopoR (j : Fin 8) : Rect S8x512x768 := Rect.unit (s := S8x512x768) ![j.val, 0, 0] S1x512x768.size (hopo_inb j)
theorem hopq_words (j : Fin 8) : (hopqR j).WholeWords (EltTy.packing .bf16) := by
  revert j; decide
theorem hopo_words (j : Fin 8) : (hopoR j).WholeWords (EltTy.packing .bf16) := by
  revert j; decide

abbrev wqS (j : Fin 8) : Memref sig .tc .vmem S768x512 .bf16 :=
  (wqH.slice (hopqR j) (fun _ => rfl)).squeeze S768x512 squeezes_S1x768x512_S768x512
abbrev woS (j : Fin 8) : Memref sig .tc .vmem S512x768 .bf16 :=
  (woH.slice (hopoR j) (fun _ => rfl)).squeeze S512x768 squeezes_S1x512x768_S512x768
theorem wqS_words (j : Fin 8) : (wqS j).view.WordExact :=
  ((Memref.isWhole_whole cc0_scratch0).wordExact_slice rfl _ (hopq_words j)).reshape _ _
theorem woS_words (j : Fin 8) : (woS j).view.WordExact :=
  ((Memref.isWhole_whole cc0_scratch1).wordExact_slice rfl _ (hopo_words j)).reshape _ _

def sendQ (d : Dev nD) (j : Fin 7) : Prog (TpuEff nD τ sig (Elt F) Λ₀ .tc) PUnit :=
  Prog.lift (.enqueueDma (wqS j.castSucc) (.remote (Dev.tc (right d)) (wqS j.succ) (.dma (ssem 0 j))) (.dma (rsem 0 j))
    (wqS_words _) (wqS_words _) ⟨⟨rfl, Or.inl rfl⟩, trivial⟩)
def sendO (d : Dev nD) (j : Fin 7) : Prog (TpuEff nD τ sig (Elt F) Λ₀ .tc) PUnit :=
  Prog.lift (.enqueueDma (woS j.castSucc) (.remote (Dev.tc (right d)) (woS j.succ) (.dma (ssem 1 j))) (.dma (rsem 1 j))
    (woS_words _) (woS_words _) ⟨⟨rfl, Or.inl rfl⟩, trivial⟩)
def sends (d : Dev nD) (j : Fin 7) (k : Prog (TpuEff nD τ sig (Elt F) Λ₀ .tc) PUnit) :
    Prog (TpuEff nD τ sig (Elt F) Λ₀ .tc) PUnit :=
  sendQ d j >>= fun _ => sendO d j >>= fun _ => k

def takes (j : Fin 7) (k : Prog (TpuEff nD τ sig (Elt F) Λ₀ .tc) PUnit) :
    Prog (TpuEff nD τ sig (Elt F) Λ₀ .tc) PUnit := do
  Prog.lift (.waitDma2 (ssem 0 j) (wqS j.succ) (wqS j.castSucc) (wqS_words _) (wqS_words _))
  Prog.lift (.waitDma2 (rsem 0 j) (wqS j.castSucc) (wqS j.succ) (wqS_words _) (wqS_words _))
  Prog.lift (.waitDma2 (ssem 1 j) (woS j.succ) (woS j.castSucc) (woS_words _) (woS_words _))
  Prog.lift (.waitDma2 (rsem 1 j) (woS j.castSucc) (woS j.succ) (woS_words _) (woS_words _))
  k

/-! ## One pair of heads -/

theorem pairs_inb (s : Fin 2) (b : Fin 2) (p : Fin 4) :
    ∀ a, (![s.val, b.val, p.val, 0, 0] : Fin 5 → Nat) a + S1x1x1x128x1024.size a ≤ S2x2x4x128x1024.size a := by
  revert s b p; decide
abbrev pairR (s : Fin 2) (b : Fin 2) (p : Fin 4) : Rect S2x2x4x128x1024 :=
  Rect.unit (s := S2x2x4x128x1024) ![s.val, b.val, p.val, 0, 0] S1x1x1x128x1024.size (pairs_inb s b p)

theorem half_inb (b : Fin 2) (p : Fin 4) (i : Fin 2) :
    ∀ a, (![512 * b.val, 128 * p.val + 64 * i.val] : Fin 2 → Nat) a + S512x64.size a ≤ S1024x512.size a := by
  revert b p i; decide
abbrev halfR (b : Fin 2) (p : Fin 4) (i : Fin 2) : Rect S1024x512 :=
  Rect.unit (s := S1024x512) ![512 * b.val, 128 * p.val + 64 * i.val] S512x64.size (half_inb b p i)
theorem half_packed (b : Fin 2) (p : Fin 4) (i : Fin 2) : (halfR b p i).PackedRows (EltTy.packing .bf16) := by
  revert b p i; decide

theorem qpair_slices (b : Fin 2) (p : Fin 4) : S1024x512.Slices ![512 * b.val, 128 * p.val] S512x128 := by
  revert b p; decide
theorem half_slices (i : Fin 2) : S512x128.Slices ![0, 64 * i.val] S512x64 := by revert i; decide
theorem side_slices (i : Fin 2) : S512x1024.Slices ![0, 512 * i.val] S512x512 := by revert i; decide

/-- The hop's queries: the rows of the activations against the hop's block of query weights. -/
def qAll (wq : Vec F S1x768x512 .bf16) (x : Vec F S1024x768 .bf16) : FVec F S1024x512 .bf16 :=
  truncf .bf16 (matmul dot_S1024x768_S768x512_S1024x512_1_0_0_1_n_n none
    (shapeCast S1024x768 x shapeCasts_S1024x768_S1024x768 : FVec F S1024x768 .bf16)
    (shapeCast S768x512 wq shapeCasts_S1x768x512_S768x512 : FVec F S768x512 .bf16)
    (constant S1024x512 .f32 0x00000000#32)) bitsLt_bf16_f32

/-- The pair's queries. -/
def qPair (b : Fin 2) (p : Fin 4) (q : FVec F S1024x512 .bf16) : FVec F S512x128 .bf16 :=
  extractStridedSlice S512x128 ![512 * b.val, 128 * p.val] q (qpair_slices b p)

/-- The pair's exponentials, the two heads side by side. -/
def expo (q : FVec F S512x128 .bf16) (k : Vec F S1x1x1x128x1024 .bf16) (bias : Vec F S512x1024 .f32) :
    FVec F S512x1024 .f32 :=
  exp2 (addf (matmul dot_S512x128_S128x1024_S512x1024_1_0_0_1_n_n none q
    (shapeCast S128x1024 k shapeCasts_S1x1x1x128x1024_S128x1024 : FVec F S128x1024 .bf16)
    (constant S512x1024 .f32 0x00000000#32)) bias)

/-- The pair's weighted sums of the values, before the division. -/
def wsum (e : FVec F S512x1024 .f32) (v : Vec F S1x1x1x128x1024 .bf16) : FVec F S512x128 .f32 :=
  matmul dot_S512x1024_S128x1024_S512x128_1_1_0_0_n_n none (truncf .bf16 e bitsLt_bf16_f32)
    (shapeCast S128x1024 v shapeCasts_S1x1x1x128x1024_S128x1024 : FVec F S128x1024 .bf16)
    (constant S512x128 .f32 0x00000000#32)

/-- Head `i`'s row sums. -/
def den (i : Fin 2) (e : FVec F S512x1024 .f32) : FVec F S512x1 .f32 :=
  shapeCast S512x1 (multiReduction .add [1] S512 (extractStridedSlice S512x512 ![0, 512 * i.val] e (side_slices i))
    0x00000000#32 reduces_S512x512_S512 (.inl rfl) rfl) shapeCasts_S512_S512x1

/-- Head `i`'s share of the context. -/
def head (i : Fin 2) (e : FVec F S512x1024 .f32) (v : Vec F S1x1x1x128x1024 .bf16) : FVec F S512x64 .bf16 :=
  shapeCast S512x64 (truncf .bf16 (divf (extractStridedSlice S512x64 ![0, 64 * i.val] (wsum e v) (half_slices i))
    (broadcastTo S512x64 (den i e) broadcasts_S512x1_S512x64)) bitsLt_bf16_f32) shapeCasts_S512x64_S512x64

def putHead (b : Fin 2) (p : Fin 4) (i : Fin 2) (v : FVec F S512x64 .bf16)
    (k : Prog (TpuEff nD τ sig (Elt F) Λ₀ .tc) PUnit) : Prog (TpuEff nD τ sig (Elt F) Λ₀ .tc) PUnit := do
  let _ : Vec F S512x64 .bf16 ← Prog.lift (.load ctxM (halfR b p i).toLoadRect (View.loadsAt_vmem h_S512x64))
  Prog.lift (.store ctxM (halfR b p i) v Finset.univ
    (View.stores_vmem h_S512x64 ((Memref.isWhole_whole cc0_scratch5).storeExact_slice rfl _ (half_packed b p i)) (fun _ => rfl)) (.inl rfl))
  k

theorem kv_loads (w s b : Fin 2) (p : Fin 4) : (kvBufM w).view.LoadsAt (pairR s b p).toLoadRect := by
  match w with
  | 0 => exact View.loadsAt_vmem h_S1x1x1x128x1024
  | 1 => exact View.loadsAt_vmem h_S1x1x1x128x1024

def pair (s : Fin 2) (q : FVec F S1024x512 .bf16) (bp : Fin 2 × Fin 4)
    (k : Prog (TpuEff nD τ sig (Elt F) Λ₀ .tc) PUnit) : Prog (TpuEff nD τ sig (Elt F) Λ₀ .tc) PUnit := do
  let kk : Vec F S1x1x1x128x1024 .bf16 ← Prog.lift (.load (kvBufM 0) (pairR s bp.1 bp.2).toLoadRect (kv_loads 0 s bp.1 bp.2))
  let vv : Vec F S1x1x1x128x1024 .bf16 ← Prog.lift (.load (kvBufM 1) (pairR s bp.1 bp.2).toLoadRect (kv_loads 1 s bp.1 bp.2))
  let bb : Vec F S512x1024 .f32 ← Prog.lift (.load biasM (Rect.unit (s := S512x1024) ![0, 0] S512x1024.size inb_S512x1024_S512x1024_0_0).toLoadRect (View.loadsAt_vmem h_S512x1024))
  putHead bp.1 bp.2 0 (head 0 (expo (qPair bp.1 bp.2 q) kk bb) vv)
    (putHead bp.1 bp.2 1 (head 1 (expo (qPair bp.1 bp.2 q) kk bb) vv) k)

def prs : List (Fin 2 × Fin 4) := [0, 1].flatMap fun b => [0, 1, 2, 3].map fun p => (b, p)

def forP (f : Fin 2 × Fin 4 → Prog (TpuEff nD τ sig (Elt F) Λ₀ .tc) PUnit → Prog (TpuEff nD τ sig (Elt F) Λ₀ .tc) PUnit) :
    List (Fin 2 × Fin 4) → Prog (TpuEff nD τ sig (Elt F) Λ₀ .tc) PUnit → Prog (TpuEff nD τ sig (Elt F) Λ₀ .tc) PUnit
  | [], k => k
  | a :: l, k => f a (forP f l k)

/-! ## One hop's computation -/

/-- The hop's contribution to the result. -/
def contrib (ctx : Vec F S1024x512 .bf16) (wo : Vec F S1x512x768 .bf16) : FVec F S1024x768 .f32 :=
  matmul (φ₁ := .bf16) (φ₂ := .bf16) dot_S1024x512_S512x768_S1024x768_1_0_0_1_n_n none ctx
    (shapeCast S512x768 wo shapeCasts_S1x512x768_S512x768 : FVec F S512x768 .bf16) (constant S1024x768 .f32 0x00000000#32)

abbrev outR : Rect S1024x768 := Rect.unit (s := S1024x768) ![0, 0] S1024x768.size inb_S1024x768_S1024x768_0_0
abbrev ctxR : Rect S1024x512 := Rect.unit (s := S1024x512) ![0, 0] S1024x512.size inb_S1024x512_S1024x512_0_0

def putOut (v : FVec F S1024x768 .f32) (k : Prog (TpuEff nD τ sig (Elt F) Λ₀ .tc) PUnit) :
    Prog (TpuEff nD τ sig (Elt F) Λ₀ .tc) PUnit := do
  let _ : Vec F S1024x768 .f32 ← Prog.lift (.load outM outR.toLoadRect (View.loadsAt_vmem h_S1024x768))
  Prog.lift (.store outM outR v Finset.univ (View.stores_vmem_bits_univ h_S1024x768 rfl) (.inl rfl))
  k

def finish (first : Bool) (wo : Vec F S1x512x768 .bf16) (k : Prog (TpuEff nD τ sig (Elt F) Λ₀ .tc) PUnit) :
    Prog (TpuEff nD τ sig (Elt F) Λ₀ .tc) PUnit := do
  let ctx : Vec F S1024x512 .bf16 ← Prog.lift (.load ctxM ctxR.toLoadRect (View.loadsAt_vmem h_S1024x512))
  match first with
  | true => putOut (contrib ctx wo) k
  | false => do
    let o : Vec F S1024x768 .f32 ← Prog.lift (.load outM outR.toLoadRect (View.loadsAt_vmem h_S1024x768))
    putOut (addf (shapeCast S1024x768 o shapeCasts_S1024x768_S1024x768 : FVec F S1024x768 .f32) (contrib ctx wo)) k

def compute (first : Bool) (h : Fin 8) (k : Prog (TpuEff nD τ sig (Elt F) Λ₀ .tc) PUnit) :
    Prog (TpuEff nD τ sig (Elt F) Λ₀ .tc) PUnit := do
  let wq : Vec F S1x768x512 .bf16 ← Prog.lift (.load wqH (hopqR h).toLoadRect (View.loadsAt_vmem h_S1x768x512))
  let wo : Vec F S1x512x768 .bf16 ← Prog.lift (.load woH (hopoR h).toLoadRect (View.loadsAt_vmem h_S1x512x768))
  let x : Vec F S1024x768 .bf16 ← Prog.lift (.load xM outR.toLoadRect (View.loadsAt_vmem h_S1024x768))
  forP (pair (slot h) (qAll wq x)) prs (finish first wo k)

/-! ## The whole body -/

abbrev kvAllR : Rect S2x2x4x128x1024 := Rect.unit (s := S2x2x4x128x1024) ![0, 0, 0, 0, 0] S2x2x4x128x1024.size inb_S2x2x4x128x1024_S2x2x4x128x1024_0_0_0_0_0

theorem kv_storesAll (w : Fin 2) : ((kvBufM w).access kvAllR).Stores Finset.univ := by
  match w with
  | 0 => exact View.stores_vmem h_S2x2x4x128x1024 ((Memref.isWhole_whole cc0_scratch2).storeExact_slice rfl _ packedbf16_S2x2x4x128x1024_S2x2x4x128x1024_0_0_0_0_0) (fun _ => rfl)
  | 1 => exact View.stores_vmem h_S2x2x4x128x1024 ((Memref.isWhole_whole cc0_scratch3).storeExact_slice rfl _ packedbf16_S2x2x4x128x1024_S2x2x4x128x1024_0_0_0_0_0) (fun _ => rfl)

/-- Slot 0 of the two rings: the core's own weight blocks. -/
def own (k : Prog (TpuEff nD τ sig (Elt F) Λ₀ .tc) PUnit) : Prog (TpuEff nD τ sig (Elt F) Λ₀ .tc) PUnit := do
  let wq : Vec F S768x512 .f32 ← Prog.lift (.load wqM (Rect.unit (s := S768x512) ![0, 0] S768x512.size inb_S768x512_S768x512_0_0).toLoadRect (View.loadsAt_vmem h_S768x512))
  let _ : Vec F S1x768x512 .bf16 ← Prog.lift (.load wqH (hopqR 0).toLoadRect (View.loadsAt_vmem h_S1x768x512))
  Prog.lift (.store wqH (hopqR 0) (k0_pay3 wq) Finset.univ (View.stores_vmem h_S1x768x512 ((Memref.isWhole_whole cc0_scratch0).storeExact_slice rfl _ packedbf16_S8x768x512_S1x768x512_0_0_0) (fun _ => rfl)) (.inl rfl))
  let wo : Vec F S512x768 .bf16 ← Prog.lift (.load woM (Rect.unit (s := S512x768) ![0, 0] S512x768.size inb_S512x768_S512x768_0_0).toLoadRect (View.loadsAt_vmem h_S512x768))
  let _ : Vec F S1x512x768 .bf16 ← Prog.lift (.load woH (hopoR 0).toLoadRect (View.loadsAt_vmem h_S1x512x768))
  Prog.lift (.store woH (hopoR 0) (k0_pay4 wo) Finset.univ (View.stores_vmem h_S1x512x768 ((Memref.isWhole_whole cc0_scratch1).storeExact_slice rfl _ packedbf16_S8x512x768_S1x512x768_0_0_0) (fun _ => rfl)) (.inl rfl))
  k

/-- Both key and value buffers set to zero. -/
def clear (w : Fin 2) (k : Prog (TpuEff nD τ sig (Elt F) Λ₀ .tc) PUnit) : Prog (TpuEff nD τ sig (Elt F) Λ₀ .tc) PUnit := do
  let _ : Vec F S2x2x4x128x1024 .bf16 ← Prog.lift (.load (kvBufM w) kvAllR.toLoadRect (by
    match w with
    | 0 => exact View.loadsAt_vmem h_S2x2x4x128x1024
    | 1 => exact View.loadsAt_vmem h_S2x2x4x128x1024))
  Prog.lift (.store (kvBufM w) kvAllR k0_pay5 Finset.univ (kv_storesAll w) (.inl rfl))
  k

theorem side_inb (i : Fin 2) : ∀ a, (![0, 512 * i.val] : Fin 2 → Nat) a + S512x512.size a ≤ S512x1024.size a := by
  revert i; decide
abbrev sideR (i : Fin 2) : Rect S512x1024 := Rect.unit (s := S512x1024) ![0, 512 * i.val] S512x512.size (side_inb i)

/-- The additive mask, once for each of the two heads side by side. -/
def putBias (i : Fin 2) (k : Prog (TpuEff nD τ sig (Elt F) Λ₀ .tc) PUnit) : Prog (TpuEff nD τ sig (Elt F) Λ₀ .tc) PUnit := do
  let _ : Vec F S512x512 .f32 ← Prog.lift (.load biasM (sideR i).toLoadRect (View.loadsAt_vmem h_S512x512))
  Prog.lift (.store biasM (sideR i) k0_pay9 Finset.univ (View.stores_vmem_bits_univ h_S512x512 rfl) (.inl rfl))
  k

abbrev barSem : Sem sig := (SemArray.scalar (sig.barrier 0 rfl) : Sems sig S_).sem
abbrev exitSem : Sem sig := cc0_scoped0.sem

/-- Signal both neighbours on a semaphore and wait for both. -/
def meet (sem : Sem sig) (d : Dev nD) (k : Prog (TpuEff nD τ sig (Elt F) Λ₀ .tc) PUnit) :
    Prog (TpuEff nD τ sig (Elt F) Λ₀ .tc) PUnit := do
  semSignalWord (left d) sem 1#32
  semSignalWord (right d) sem 1#32
  semWaitWord sem 2#32
  k

/-- A hop of the ring that is neither the first nor the last. -/
def hop (d : Dev nD) (j : Fin 6) (k : Prog (TpuEff nD τ sig (Elt F) Λ₀ .tc) PUnit) :
    Prog (TpuEff nD τ sig (Elt F) Λ₀ .tc) PUnit :=
  takes j.castSucc (sends d j.succ
    (forL (cpWait d j.succ.castSucc) cps (forL (cpStart d j.succ.succ) cps (compute false j.succ.castSucc k))))

def forH (f : Fin 6 → Prog (TpuEff nD τ sig (Elt F) Λ₀ .tc) PUnit → Prog (TpuEff nD τ sig (Elt F) Λ₀ .tc) PUnit) :
    List (Fin 6) → Prog (TpuEff nD τ sig (Elt F) Λ₀ .tc) PUnit → Prog (TpuEff nD τ sig (Elt F) Λ₀ .tc) PUnit
  | [], k => k
  | a :: l, k => f a (forH f l k)

def lastHop (d : Dev nD) (k : Prog (TpuEff nD τ sig (Elt F) Λ₀ .tc) PUnit) :
    Prog (TpuEff nD τ sig (Elt F) Λ₀ .tc) PUnit :=
  takes 6 (forL (cpWait d 7) cps (compute false 7 k))

def firstHop (d : Dev nD) (k : Prog (TpuEff nD τ sig (Elt F) Λ₀ .tc) PUnit) :
    Prog (TpuEff nD τ sig (Elt F) Λ₀ .tc) PUnit :=
  sends d 0 (forL (cpWait d 0) cps (forL (cpStart d 1) cps (compute true 0 k)))

def walk : Prog (TpuEff nD τ sig (Elt F) Λ₀ .tc) PUnit :=
  Prog.lift .deviceId >>= fun d => own (clear 0 (clear 1 (forL (cpStart d 0) cps (putBias 0 (putBias 1
    (meet barSem d (firstHop d (forH (hop d) [0, 1, 2, 3, 4, 5] (lastHop d (meet exitSem d (pure ⟨⟩)))))))))))

set_option maxRecDepth 65536 in
theorem body_eq (t : Fin cfg0.N) : bodyAt0 (F := F) t = walk := by
  sl_kernel_rfl

end Cert.KernelIdeal.Walk

end
-- ==== Proof.KernelIdeal.Talk.lean ====
/-
What the devices say to each other.

Each device has four kinds of semaphore:

* the entry barrier (a regular semaphore): both neighbours add one, the device waits for two. The right neighbour's
  unit hands over the right neighbour's slots 1 to 7 of the two rings, into which this device will copy, and that its
  seven receive semaphores per ring are open. The left neighbour's unit hands over nothing.
* the receive semaphores, one per ring and hop: the left neighbour's copy of hop `j` hands over slot `j + 1` of the ring
  at the weight block that has come `j + 1` devices round.
* the send semaphores, one per ring and hop: the device's own copy of hop `j` hands back the share of slot `j` lent to it.
* the exit barrier: both neighbours add one, the device waits for two; nothing is handed over.

The two semaphores of the head copies are local; their copies are a batch (`Heads`).
-/
module

public import proofs.«01_k».proof.Proof.KernelIdeal.Walk
public import Idealize.ShloMosaic.Lib.Rounds
public import Idealize.ShloMosaic.Lib.Batch
public import Idealize.ShloMosaic.Lib.Transfers
public import Idealize.ShloMosaic.Lib.ValueIdx
public import Idealize.ShloMosaic.Lib.ValueLayout

@[expose] public section

set_option maxRecDepth 16384

noncomputable section

namespace Cert.KernelIdeal.Walk

open Idealize.ShloMosaic Idealize.ShloMosaic.TcCoe Idealize.ShloMosaic.Rounds
open Idealize.SL Idealize.SL.RA Idealize.SL.BI
open scoped Idealize.SL.BI
open Idealize.SL.BI.BIBase Idealize.SL.Sem Cert.KernelIdeal Cert.KernelIdeal.Gen Idealize.ShloMosaic.ValueIdx

variable {F : FTy → Type} [FloatOps F] [Named F]

/-! ## The resource algebra -/

abbrev UP : Type := URounds (GSem nD τ sig) Unit
abbrev UT : Type := URounds (GSem nD τ sig) Bool
abbrev UU : Type := UP × (UT × Counters)

local notation "𝕄" => MT nD τ sig Unit (Elt F) ℕ UU ℕ

abbrev EP : Emb UP (MT nD τ sig Unit (Elt F) ℕ UU ℕ) := embL
def ER : Emb UT (MT nD τ sig Unit (Elt F) ℕ UU ℕ) :=
  ((Emb.inl : Emb UT (UT × Counters)).trans (Emb.inr : Emb (UT × Counters) UU)).trans
    (uEmb (nD := nD) (sig := sig) (Ix := Unit) (Val := Elt F) (Name := ℕ) (U := UU) (Lvl := ℕ)).toEmb
instance ER_landsIn : (ER : Emb UT 𝕄).LandsIn (upEmb : UEmb _ 𝕄) := by unfold ER; infer_instance
abbrev EC : UEmb Counters (MT nD τ sig Unit (Elt F) ℕ UU ℕ) := countersEmb

/-! ## The devices -/

theorem left_right (c : Dev nD) : left (right c) = c := by revert c; decide
theorem right_left (c : Dev nD) : right (left c) = c := by revert c; decide
theorem left_ne_right (c : Dev nD) : left c ≠ right c := by revert c; decide
def ring : Dev nD ≃ Dev nD := ⟨right, left, left_right, right_left⟩

/-- The device `j` places before `c`. -/
def back (c : Dev nD) (j : Fin 8) : Dev nD := ⟨(c.val + 8 - j.val) % 8, Nat.mod_lt _ (by decide)⟩
theorem back_right (c : Dev nD) (j : Fin 7) : back (right c) j.succ = back c j.castSucc := by revert c j; decide
theorem back_zero (c : Dev nD) : back c 0 = c := by revert c; decide

/-! ## What the kernel is given -/

/-- Every device's operands. -/
structure Ins (F : FTy → Type) where
  x : Dev nD → Vec F S1024x768 .bf16
  wq : Dev nD → Vec F S768x512 .f32
  wo : Dev nD → Vec F S512x768 .bf16
  kv : Fin 2 → Dev nD → Vec F S2x64x64x512 .bf16

variable (I : Ins F)

/-- Device `c`'s ring of query weights: slot `j` holds the block of the device `j` places before. -/
def wqFun (c : Dev nD) : Vec F S8x768x512 .bf16 := fun i => k0_pay3 (I.wq (back c (i 0))) (ix3 0 (i 1) (i 2))
/-- Device `c`'s ring of output weights. -/
def woFun (c : Dev nD) : Vec F S8x512x768 .bf16 := fun i => k0_pay4 (I.wo (back c (i 0))) (ix3 0 (i 1) (i 2))

theorem wqFun_slot (c : Dev nD) (j : Fin 8) (y : S1x768x512.Idx) :
    wqFun I c ((hopqR j).idx y) = k0_pay3 (I.wq (back c j)) y := by
  unfold wqFun
  have h0 : ((hopqR j).idx y 0 : Fin 8) = j := Fin.ext (by
    have := (y 0).isLt; change (y 0).val < 1 at this
    show j.val + 1 * (y 0).val = j.val; omega)
  have h1 : (hopqR j).idx y 1 = y 1 := Fin.ext (by show 0 + 1 * (y 1).val = (y 1).val; omega)
  have h2 : (hopqR j).idx y 2 = y 2 := Fin.ext (by show 0 + 1 * (y 2).val = (y 2).val; omega)
  have hy : (ix3 0 (y 1) (y 2) : S1x768x512.Idx) = y := by
    refine Eq.trans ?_ (eq_ix3 (n0 := 1) (n1 := 768) (n2 := 512) y).symm
    have : y 0 = (0 : Fin 1) := Fin.ext (Nat.lt_one_iff.mp (show (y 0).val < 1 from (y 0).isLt))
    rw [this]; rfl
  calc k0_pay3 (I.wq (back c ((hopqR j).idx y 0))) (ix3 0 ((hopqR j).idx y 1) ((hopqR j).idx y 2))
      = k0_pay3 (I.wq (back c j)) (ix3 0 (y 1) (y 2)) := by rw [h0, h1, h2]
    _ = k0_pay3 (I.wq (back c j)) y := congrArg (k0_pay3 (I.wq (back c j))) hy

theorem woFun_slot (c : Dev nD) (j : Fin 8) (y : S1x512x768.Idx) :
    woFun I c ((hopoR j).idx y) = k0_pay4 (I.wo (back c j)) y := by
  unfold woFun
  have h0 : ((hopoR j).idx y 0 : Fin 8) = j := Fin.ext (by
    have := (y 0).isLt; change (y 0).val < 1 at this
    show j.val + 1 * (y 0).val = j.val; omega)
  have h1 : (hopoR j).idx y 1 = y 1 := Fin.ext (by show 0 + 1 * (y 1).val = (y 1).val; omega)
  have h2 : (hopoR j).idx y 2 = y 2 := Fin.ext (by show 0 + 1 * (y 2).val = (y 2).val; omega)
  have hy : (ix3 0 (y 1) (y 2) : S1x512x768.Idx) = y := by
    refine Eq.trans ?_ (eq_ix3 (n0 := 1) (n1 := 512) (n2 := 768) y).symm
    have : y 0 = (0 : Fin 1) := Fin.ext (Nat.lt_one_iff.mp (show (y 0).val < 1 from (y 0).isLt))
    rw [this]; rfl
  calc k0_pay4 (I.wo (back c ((hopoR j).idx y 0))) (ix3 0 ((hopoR j).idx y 1) ((hopoR j).idx y 2))
      = k0_pay4 (I.wo (back c j)) (ix3 0 (y 1) (y 2)) := by rw [h0, h1, h2]
    _ = k0_pay4 (I.wo (back c j)) y := congrArg (k0_pay4 (I.wo (back c j))) hy

/-! ## Points-tos of the slots -/

abbrev qPts (c : Dev nD) (j : Fin 8) (q : PosShare TreeShare) (f : Vec F S8x768x512 .bf16) : sProp 𝕄 :=
  (wqS j).view.loc (c : Thread nD τ) ↦[(wqS j).view.set]{q} f
abbrev oPts (c : Dev nD) (j : Fin 8) (q : PosShare TreeShare) (f : Vec F S8x512x768 .bf16) : sProp 𝕄 :=
  (woS j).view.loc (c : Thread nD τ) ↦[(woS j).view.set]{q} f

/-- Slot `j` of ring `w` of device `c`, at the block that belongs there. -/
def slotPts (w : Fin 2) (c : Dev nD) (j : Fin 8) (q : PosShare TreeShare) : sProp 𝕄 :=
  match w with
  | 0 => qPts c j q (wqFun I c)
  | 1 => oPts c j q (woFun I c)
/-- Slot `j` of ring `w` of device `c`, at anything. -/
def slotAny (w : Fin 2) (c : Dev nD) (j : Fin 8) : sProp 𝕄 :=
  match w with
  | 0 => iprop(∃ f, qPts c j fullShare f)
  | 1 => iprop(∃ f, oPts c j fullShare f)

theorem slotPts_any (w : Fin 2) (c : Dev nD) (j : Fin 8) : (slotPts I w c j fullShare : sProp 𝕄) ⊢ slotAny w c j := by
  match w with
  | 0 => unfold slotPts slotAny; iintro H; iexists _; iexact H
  | 1 => unfold slotPts slotAny; iintro H; iexists _; iexact H

instance slotPts_storable (w : Fin 2) (c : Dev nD) (j : Fin 8) (q : PosShare TreeShare) :
    BI.Storable (upEmb : UEmb _ 𝕄) (slotPts I w c j q : sProp 𝕄) := by
  match w with
  | 0 => unfold slotPts; infer_instance
  | 1 => unfold slotPts; infer_instance
instance slotAny_storable (w : Fin 2) (c : Dev nD) (j : Fin 8) :
    BI.Storable (upEmb : UEmb _ 𝕄) (slotAny w c j : sProp 𝕄) := by
  match w with
  | 0 => unfold slotAny; infer_instance
  | 1 => unfold slotAny; infer_instance

/-- The half of a slot lent to the copy that sends it on. -/
abbrev lent : PosShare TreeShare := fullShare.left
abbrev kept : PosShare TreeShare := fullShare.right

theorem slot_halves (w : Fin 2) (c : Dev nD) (j : Fin 8) :
    (slotPts I w c j fullShare : sProp 𝕄) ⊣⊢ iprop(slotPts I w c j lent ∗ slotPts I w c j kept) := by
  match w with
  | 0 => exact pointsTo_share (PosShare.mem_left_op_right fullShare)
  | 1 => exact pointsTo_share (PosShare.mem_left_op_right fullShare)

/-- What a landed copy leaves in the right neighbour's slot. -/
theorem landed_q (c : Dev nD) (j : Fin 7) (fd : Vec F S8x768x512 .bf16) :
    ∀ i ∈ (wqS j.succ).view.set, (wqS j.succ).view.write (Elt F) fd ((wqS j.castSucc).view.read (Elt F) (wqFun I c)) Finset.univ i
      = wqFun I (right c) i := by
  intro i hi
  obtain ⟨x, -, rfl⟩ := Finset.mem_map.mp hi
  refine (View.write_emb_of_mem _ _ (Finset.mem_univ x)).trans ?_
  refine Eq.trans (wqFun_slot I c j.castSucc (Shape.reshapeEquiv squeezes_S1x768x512_S768x512.numel_eq x)) ?_
  rw [← back_right]
  exact (wqFun_slot I (right c) j.succ (Shape.reshapeEquiv squeezes_S1x768x512_S768x512.numel_eq x)).symm
theorem landed_o (c : Dev nD) (j : Fin 7) (fd : Vec F S8x512x768 .bf16) :
    ∀ i ∈ (woS j.succ).view.set, (woS j.succ).view.write (Elt F) fd ((woS j.castSucc).view.read (Elt F) (woFun I c)) Finset.univ i
      = woFun I (right c) i := by
  intro i hi
  obtain ⟨x, -, rfl⟩ := Finset.mem_map.mp hi
  refine (View.write_emb_of_mem _ _ (Finset.mem_univ x)).trans ?_
  refine Eq.trans (woFun_slot I c j.castSucc (Shape.reshapeEquiv squeezes_S1x512x768_S512x768.numel_eq x)) ?_
  rw [← back_right]
  exact (woFun_slot I (right c) j.succ (Shape.reshapeEquiv squeezes_S1x512x768_S512x768.numel_eq x)).symm

/-! ## The cells -/

abbrev barCell (c : Dev nD) : GSem nD τ sig := ((c : Thread nD τ), .reg barSem)
abbrev exitCell (c : Dev nD) : GSem nD τ sig := ((c : Thread nD τ), .reg exitSem)
abbrev sendCell (w : Fin 2) (j : Fin 7) (c : Dev nD) : GSem nD τ sig := ((c : Thread nD τ), .dma (ssem w j))
abbrev recvCell (w : Fin 2) (j : Fin 7) (c : Dev nD) : GSem nD τ sig := ((c : Thread nD τ), .dma (rsem w j))

/-- The units a copy of ring `w` puts on its semaphores. -/
def N (w : Fin 2) : ℕ :=
  match w with
  | 0 => (wqS 0).view.dmaCredit
  | 1 => (woS 0).view.dmaCredit
theorem N_pos (w : Fin 2) : 0 < N w := by
  match w with
  | 0 => exact View.dmaCredit_pos _ (by decide)
  | 1 => exact View.dmaCredit_pos _ (by decide)

/-- Of a ring's semaphore: the ring, whether it is a receive semaphore, and the hop. -/
def ofSem (n : DmaSem sig) : Fin 2 × Bool × Fin 7 :=
  (if (n.val - 6) / 14 = 0 then 0 else 1, decide (7 ≤ (n.val - 6) % 14), ⟨(n.val - 6) % 7, Nat.mod_lt _ (by decide)⟩)
theorem ofSem_send (w : Fin 2) (j : Fin 7) : ofSem (ssem w j) = (w, false, j) := by revert w j; decide
theorem ofSem_recv (w : Fin 2) (j : Fin 7) : ofSem (rsem w j) = (w, true, j) := by revert w j; decide
theorem six_le_send (w : Fin 2) (j : Fin 7) : 6 ≤ (ssem w j).val := by show 6 ≤ 6 + 14 * w.val + j.val; omega
theorem six_le_recv (w : Fin 2) (j : Fin 7) : 6 ≤ (rsem w j).val := by show 6 ≤ 13 + 14 * w.val + j.val; omega

/-- What the right neighbour hands device `c` at the entry barrier. -/
def barPay (c : Dev nD) : sProp 𝕄 :=
  iprop(reached ER (exitCell (right c)) 0 ∗ bigSep Finset.univ fun j : Fin 7 => bigSep Finset.univ fun w : Fin 2 =>
    iprop(slotAny w (right c) j.succ ∗ reached ER (recvCell w j (right c)) 0))
/-- What the left neighbour hands device `c` there. -/
def backPay (c : Dev nD) : sProp 𝕄 := reached ER (exitCell (left c)) 0

instance backPay_storable (c : Dev nD) : BI.Storable (upEmb : UEmb _ 𝕄) (backPay (F := F) c) := by
  unfold backPay; infer_instance
instance barPay_storable (c : Dev nD) : BI.Storable (upEmb : UEmb _ 𝕄) (barPay (F := F) c) := by
  unfold barPay; infer_instance

def dmaPay (c : Dev nD) (n : DmaSem sig) : sProp 𝕄 :=
  if (ofSem n).2.1 then slotPts I (ofSem n).1 c (ofSem n).2.2.succ fullShare
  else slotPts I (ofSem n).1 c (ofSem n).2.2.castSucc lent

def talkRd : Rounds.Schedule (GSem nD τ sig) Bool 𝕄 where
  duties g r := if r = 0 ∧ g.1.2 = .tc then
      (match g.2 with
        | .reg _ => {false, true}
        | .dma n => if 6 ≤ n.val then {false} else ∅)
    else ∅
  unitless _ := False
  amount g _ _ := match g.2 with
    | .reg _ => 1
    | .dma n => N (ofSem n).1
  payload g r d := match g.2 with
    | .reg s => if s = barSem then (if d = false then barPay g.1.1 else backPay g.1.1) else iprop(emp)
    | .dma n => dmaPay I g.1.1 n
  amount_pos g _ _ _ := by
    obtain ⟨t, s⟩ := g
    cases s with
    | reg s => exact Nat.one_pos
    | dma n => exact N_pos _

instance talkRd_payload_storable (g : GSem nD τ sig) (r : ℕ) (d : Bool) :
    BI.Storable (upEmb : UEmb _ 𝕄) ((talkRd (F := F) I).payload g r d) := by
  obtain ⟨t, s⟩ := g
  cases s with
  | reg s =>
    show BI.Storable upEmb (if s = barSem then (if d = false then barPay t.1 else backPay t.1) else iprop(emp))
    (repeat' split) <;> infer_instance
  | dma n =>
    show BI.Storable upEmb (dmaPay I t.1 n)
    unfold dmaPay
    split <;> infer_instance

section Sched

variable (c : Dev nD) (w : Fin 2) (j : Fin 7)

theorem duties_reg (s : Sem sig) : (talkRd (F := F) I).duties ((c : Thread nD τ), .reg s) 0 = {false, true} := by
  dsimp only [talkRd]; exact if_pos ⟨rfl, rfl⟩
theorem duties_send : (talkRd (F := F) I).duties (sendCell w j c) 0 = {false} := by
  dsimp only [talkRd]; rw [if_pos ⟨rfl, rfl⟩]; exact if_pos (six_le_send w j)
theorem duties_recv : (talkRd (F := F) I).duties (recvCell w j c) 0 = {false} := by
  dsimp only [talkRd]; rw [if_pos ⟨rfl, rfl⟩]; exact if_pos (six_le_recv w j)
theorem duties_later (g : GSem nD τ sig) : ∀ r, 1 ≤ r → (talkRd (F := F) I).duties g r = ∅ :=
  fun r hr => by dsimp only [talkRd]; exact if_neg (fun h => by omega)

theorem amount_reg (s : Sem sig) (d : Bool) : (talkRd (F := F) I).amount ((c : Thread nD τ), .reg s) 0 d = 1 := rfl
theorem amount_send (d : Bool) : (talkRd (F := F) I).amount (sendCell w j c) 0 d = N w := by
  show N (ofSem (ssem w j)).1 = N w; rw [ofSem_send]
theorem amount_recv (d : Bool) : (talkRd (F := F) I).amount (recvCell w j c) 0 d = N w := by
  show N (ofSem (rsem w j)).1 = N w; rw [ofSem_recv]

theorem expect_reg (s : Sem sig) : (talkRd (F := F) I).expect ((c : Thread nD τ), .reg s) 0 = 2 := by
  unfold Schedule.expect Schedule.amountOf; rw [duties_reg]; rfl
theorem expect_send : (talkRd (F := F) I).expect (sendCell w j c) 0 = N w := by
  unfold Schedule.expect Schedule.amountOf; rw [duties_send, Finset.sum_singleton, amount_send]
theorem expect_recv : (talkRd (F := F) I).expect (recvCell w j c) 0 = N w := by
  unfold Schedule.expect Schedule.amountOf; rw [duties_recv, Finset.sum_singleton, amount_recv]

theorem payload_bar : (talkRd (F := F) I).payload (barCell c) 0 false = barPay c := by
  dsimp only [talkRd]; rw [if_pos rfl]; exact if_pos rfl
theorem payload_bar_true : (talkRd (F := F) I).payload (barCell c) 0 true = backPay c := by
  dsimp only [talkRd]; rw [if_pos rfl]; exact if_neg Bool.noConfusion
theorem payload_exit (d : Bool) : (talkRd (F := F) I).payload (exitCell c) 0 d = iprop(emp) := by
  dsimp only [talkRd]; exact if_neg (by decide)
theorem payload_send (d : Bool) : (talkRd (F := F) I).payload (sendCell w j c) 0 d = slotPts I w c j.castSucc lent := by
  show dmaPay I c (ssem w j) = _; unfold dmaPay; rw [ofSem_send]; rfl
theorem payload_recv (d : Bool) : (talkRd (F := F) I).payload (recvCell w j c) 0 d = slotPts I w c j.succ fullShare := by
  show dmaPay I c (rsem w j) = _; unfold dmaPay; rw [ofSem_recv]; rfl

theorem rest_bar : bigSep ((talkRd (F := F) I).duties (barCell c) 0 \ ∅) (fun u => (talkRd (F := F) I).payload (barCell c) 0 u)
    = (iprop(barPay c ∗ backPay c) : sProp 𝕄) := by
  rw [Finset.sdiff_empty, duties_reg, bigSep_insert (by decide), bigSep_singleton, payload_bar, payload_bar_true]
  rfl
theorem rest_send : bigSep ((talkRd (F := F) I).duties (sendCell w j c) 0 \ ∅) (fun u => (talkRd (F := F) I).payload (sendCell w j c) 0 u)
    = slotPts I w c j.castSucc lent := by
  rw [Finset.sdiff_empty, duties_send, bigSep_singleton, payload_send]
theorem rest_recv : bigSep ((talkRd (F := F) I).duties (recvCell w j c) 0 \ ∅) (fun u => (talkRd (F := F) I).payload (recvCell w j c) 0 u)
    = slotPts I w c j.succ fullShare := by
  rw [Finset.sdiff_empty, duties_recv, bigSep_singleton, payload_recv]

end Sched

/-! ## What a device owes, and the levels -/

/-- The exit barrier's two units. -/
def Oexit (c : Dev nD) : CellTallies nD τ sig Unit := tallyAt (exitCell (right c)) () 1 + tallyAt (exitCell (left c)) () 1

/-- What device `c` owes with the last `k` of its seven sends per ring still to make. -/
def Ow (c : Dev nD) : ℕ → CellTallies nD τ sig Unit
  | 0 => Oexit c
  | k + 1 => Ow c k + tallyAt (recvCell 1 (Fin.ofNat 7 (6 - k)) (right c)) () (N 1) + tallyAt (recvCell 0 (Fin.ofNat 7 (6 - k)) (right c)) () (N 0)

/-- What device `c` owes at launch: besides, its neighbours' barrier units. -/
def O₀ (c : Dev nD) : CellTallies nD τ sig Unit := Ow c 7 + tallyAt (barCell (right c)) () 1 + tallyAt (barCell (left c)) () 1

def L (g : GSem nD τ sig) : Finset Unit := if g.1.2 = .tc then {()} else ∅
def lv (g : GSem nD τ sig) (_ : Unit) : ℕ :=
  match g.2 with
  | .reg s => if s = barSem then 1 else 20
  | .dma n => if 6 ≤ n.val ∧ (ofSem n).2.1 then (ofSem n).2.2.val + 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (w : Fin 2) (j : Fin 7) (c : Dev nD) : lv (recvCell w j c) () = j.val + 2 := by
  show (if 6 ≤ (rsem w j).val ∧ (ofSem (rsem w j)).2.1 then _ else _) = _
  rw [ofSem_recv]; exact if_pos ⟨six_le_recv w j, rfl⟩
theorem lv_send (w : Fin 2) (j : Fin 7) (c : Dev nD) : lv (sendCell w j c) () = 0 := by
  show (if 6 ≤ (ssem w j).val ∧ (ofSem (ssem w j)).2.1 then _ else _) = _
  rw [ofSem_send]; exact if_neg (fun h => Bool.noConfusion h.2)
theorem lv_bar (c : Dev nD) : lv (barCell c) () = 1 := by
  dsimp only [lv]; exact if_pos rfl
theorem lv_exit (c : Dev nD) : lv (exitCell c) () = 20 := by
  dsimp only [lv]; exact if_neg (by decide)
theorem lv_kv (s : Fin 2) (c : Dev nD) : lv ((c : Thread nD τ), .dma (kvS s)) () = 0 :=
  if_neg (fun h => by have := h.1; revert s; decide)

theorem tally_pos {g g' : GSem nD τ sig} {n : ℕ} {u : Unit} (h : 0 < tallyAt g' () n g u) : g = g' := by
  rw [tallyAt_apply] at h
  by_contra hne
  rw [if_neg (fun h' => hne h'.1)] at h
  exact absurd h (Nat.lt_irrefl 0)

/-- All that is owed lies at a TensorCore's cell, above the receive semaphores already served. -/
theorem Ow_pos (c : Dev nD) (k : ℕ) (hk : k ≤ 7) (g : GSem nD τ sig) (u : Unit) (h : 0 < Ow c k g u) :
    g.1.2 = .tc ∧ 9 - k ≤ lv g () := by
  induction k with
  | zero =>
    have h' : 0 < tallyAt (exitCell (right c)) () 1 g u + tallyAt (exitCell (left c)) () 1 g u := h
    rcases Nat.add_pos_iff_pos_or_pos.mp h' with h | h
    · rw [tally_pos h, lv_exit]; exact ⟨rfl, by decide⟩
    · rw [tally_pos h, lv_exit]; exact ⟨rfl, by decide⟩
  | succ k ih =>
    have h' : 0 < (Ow c k g u + tallyAt (recvCell 1 (Fin.ofNat 7 (6 - k)) (right c)) () (N 1) g u)
      + tallyAt (recvCell 0 (Fin.ofNat 7 (6 - k)) (right c)) () (N 0) g u := h
    have hv : ∀ w : Fin 2, 9 - (k + 1) ≤ lv (recvCell w (Fin.ofNat 7 (6 - k)) (right c)) () := fun w => by
      rw [lv_recv]; show 9 - (k + 1) ≤ (6 - k) % 7 + 2; rw [Nat.mod_eq_of_lt (by omega)]; omega
    rcases Nat.add_pos_iff_pos_or_pos.mp h' with h | h
    · rcases Nat.add_pos_iff_pos_or_pos.mp h with h | h
      · have := ih (by omega) h; exact ⟨this.1, by omega⟩
      · rw [tally_pos h]; exact ⟨rfl, hv 1⟩
    · rw [tally_pos h]; exact ⟨rfl, hv 0⟩

/-- A device may wait on a semaphore below all it owes. -/
theorem mayWait_Ow (c : Dev nD) (sm : SemLoc sig) (k : ℕ) (hk : k ≤ 7) (h : lv ((c : Thread nD τ), sm) () < 9 - k) :
    (levAts L lv : sProp 𝕄) ⊢ MayWait (c : Thread nD τ) sm () (Ow c k) :=
  MayOwe.of_cut (L := L) (lev := lv) (8 - k) (fun p hp => by rw [Finset.mem_singleton.mp hp, L_tc]; exact Finset.mem_singleton_self _)
    (fun g u hg => by
      have := (Ow_pos c k hk g u hg).1
      unfold L; rw [if_pos this]; exact Finset.mem_singleton_self _)
    (fun p hp => by rw [Finset.mem_singleton.mp hp]; show lv ((c : Thread nD τ), sm) () ≤ _; omega)
    (fun g u hg => by
      have := (Ow_pos c k hk g u hg).2
      show _ < lv g (); omega)

end Cert.KernelIdeal.Walk

end
-- ==== Proof.KernelIdeal.Ring.lean ====
/-
The ring: what a device holds of one hop's two copies before it starts them, while they are in flight, and after it has
taken them; and the run of the sends and the waits.
-/
module

public import proofs.«01_k».proof.Proof.KernelIdeal.Talk

@[expose] public section

set_option maxRecDepth 16384

noncomputable section

namespace Cert.KernelIdeal.Walk

open Idealize.ShloMosaic Idealize.ShloMosaic.TcCoe Idealize.ShloMosaic.Rounds
open Idealize.SL Idealize.SL.RA Idealize.SL.BI
open scoped Idealize.SL.BI
open Idealize.SL.BI.BIBase Idealize.SL.Sem Cert.KernelIdeal Cert.KernelIdeal.Gen Idealize.ShloMosaic.ValueIdx

variable {F : FTy → Type} [FloatOps F] [Named F]

local notation "𝕄" => MT nD τ sig Unit (Elt F) ℕ UU ℕ

variable (I : Ins F)

abbrev 𝒱₀ : Variants := Variants.none

/-- The run of a piece of the body on device `c`. -/
abbrev Wp (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- Device `c` owes `O`, whatever it has waited for. -/
def owing (c : Dev nD) (O : CellTallies nD τ sig Unit) : sProp 𝕄 := iprop(∃ W, owes (c : Thread nD τ) O W)

/-! ## The invariants of all cells -/

def devInvs (K : GSem nD τ sig → ℕ) (c : Dev nD) : sProp 𝕄 :=
  iprop(cellInv ER (talkRd I) (K (barCell c)) (barCell c) ∗ cellInv ER (talkRd I) (K (exitCell c)) (exitCell c)
    ∗ bigSep Finset.univ fun wj : Fin 2 × Fin 7 =>
      iprop(cellInv ER (talkRd I) (K (sendCell wj.1 wj.2 c)) (sendCell wj.1 wj.2 c)
        ∗ cellInv ER (talkRd I) (K (recvCell wj.1 wj.2 c)) (recvCell wj.1 wj.2 c)))
def invs (K : GSem nD τ sig → ℕ) : sProp 𝕄 := bigSep Finset.univ fun c => devInvs I K c

instance devInvs_persistent (K : GSem nD τ sig → ℕ) (c : Dev nD) : BI.Persistent (devInvs I K c) := by
  unfold devInvs; infer_instance
instance invs_persistent (K : GSem nD τ sig → ℕ) : BI.Persistent (invs I K) := by unfold invs; infer_instance

section Invs
variable (K : GSem nD τ sig → ℕ) (c : Dev nD)

theorem invs_dev : invs I K ⊢ (devInvs I K c : sProp 𝕄) := bigSep_elim (Finset.mem_univ c)
theorem invs_bar : invs I K ⊢ (cellInv ER (talkRd I) (K (barCell c)) (barCell c) : sProp 𝕄) :=
  (invs_dev I K c).trans (by unfold devInvs; iintro ⟨H, -⟩; iexact H)
theorem invs_exit : invs I K ⊢ (cellInv ER (talkRd I) (K (exitCell c)) (exitCell c) : sProp 𝕄) :=
  (invs_dev I K c).trans (by unfold devInvs; iintro ⟨-, H, -⟩; iexact H)
theorem invs_ring (w : Fin 2) (j : Fin 7) : invs I K ⊢ (iprop(cellInv ER (talkRd I) (K (sendCell w j c)) (sendCell w j c)
    ∗ cellInv ER (talkRd I) (K (recvCell w j c)) (recvCell w j c)) : sProp 𝕄) :=
  (invs_dev I K c).trans (by
    unfold devInvs
    refine (show _ ⊢ bigSep Finset.univ fun wj : Fin 2 × Fin 7 =>
      iprop(cellInv ER (talkRd I) (K (sendCell wj.1 wj.2 c)) (sendCell wj.1 wj.2 c)
        ∗ cellInv ER (talkRd I) (K (recvCell wj.1 wj.2 c)) (recvCell wj.1 wj.2 c)) from by iintro ⟨-, -, H⟩; iexact H).trans ?_
    exact bigSep_elim (Finset.mem_univ (w, j)))
theorem invs_send (w : Fin 2) (j : Fin 7) : invs I K ⊢ (cellInv ER (talkRd I) (K (sendCell w j c)) (sendCell w j c) : sProp 𝕄) :=
  (invs_ring I K c w j).trans (by iintro ⟨H, -⟩; iexact H)
theorem invs_recv (w : Fin 2) (j : Fin 7) : invs I K ⊢ (cellInv ER (talkRd I) (K (recvCell w j c)) (recvCell w j c) : sProp 𝕄) :=
  (invs_ring I K c w j).trans (by iintro ⟨-, H⟩; iexact H)
end Invs

theorem close (κ : ℕ) (g : GSem nD τ sig) :
    iprop(cellInv ER (talkRd I) κ g ∗ atPos ER g (0 + 1) ∅ 0) ⊢ (|={Set.univ}=> semVal g 0 : sProp 𝕄) :=
  Rounds.cell_close ER (talkRd I) (Set.mem_univ κ) id (duties_later I g)

/-! ## One hop's copy -/

section States
variable (w : Fin 2) (c : Dev nD) (j : Fin 7)

/-- What of hop `j`'s copy device `c` holds from the launch. -/
def pend : sProp 𝕄 :=
  iprop(dutyTok ER (sendCell w j c) 0 false ∗ dutyTok ER (recvCell w j (right c)) 0 false ∗ reached ER (sendCell w j c) 0
    ∗ atPos ER (sendCell w j c) 0 ∅ 0 ∗ atPos ER (recvCell w j c) 0 ∅ 0 ∗ cred (tallyAt (recvCell w j c) () (N w)))
/-- With what the right neighbour hands over at the entry barrier. -/
def todo : sProp 𝕄 := iprop(pend w c j ∗ slotAny w (right c) j.succ ∗ reached ER (recvCell w j (right c)) 0)
/-- In flight. -/
def fly : sProp 𝕄 :=
  iprop(cred (tallyAt (sendCell w j c) () (N w)) ∗ atPos ER (sendCell w j c) 0 ∅ 0
    ∗ atPos ER (recvCell w j c) 0 ∅ 0 ∗ cred (tallyAt (recvCell w j c) () (N w)))
/-- Taken: the slot sent from is whole again, and the two semaphores are back at zero. -/
def taken : sProp 𝕄 :=
  iprop(slotPts I w c j.castSucc fullShare ∗ semVal (sendCell w j c) 0 ∗ semVal (recvCell w j c) 0)
end States

/-! ## The sends -/

theorem sendQ_wp (K : GSem nD τ sig → ℕ) (c : Dev nD) (j : Fin 7) (O : CellTallies nD τ sig Unit)
    (k : Prog (TpuEff nD τ sig (Elt F) Λ₀ .tc) PUnit) (Q : PUnit → sProp 𝕄) :
    iprop(invs I K ∗ todo 0 c j ∗ slotPts I 0 c j.castSucc fullShare ∗ owing c (O + tallyAt (recvCell 0 j (right c)) () (N 0)))
      ⊢ iprop(((fly 0 c j ∗ slotPts I 0 c j.castSucc kept ∗ owing c O) -∗ Wp c k Q) -∗ Wp c (sendQ c j >>= fun _ => k) Q) := by
  unfold todo pend owing
  rw [show slotAny (F := F) 0 (right c) j.succ = iprop(∃ f, qPts (right c) j.succ fullShare f) from rfl]
  iintro ⟨#Hinv, ⟨⟨HtS, HtR, #HrS, HaS, HaR, HcR⟩, ⟨%fd, Hd⟩, #HrR⟩, Hs, ⟨%W, HO⟩⟩ Hk
  ihave Hs2 := (slot_halves I 0 c j.castSucc).1 $$ Hs
  icases Hs2 with ⟨Hl, Hkept⟩
  iapply (Rounds.wp_send_pointsTo 𝒱₀ ER (talkRd I) (c : Thread nD τ) none (c' := (right c : Thread nD τ)) (src := wqS j.castSucc) (dst := wqS j.succ)
      (sS := .dma (ssem 0 j)) (sem := .dma (rsem 0 j)) (q := lent) (fs := wqFun I c) (κ₁ := K (sendCell 0 j c)) (κ₂ := K (recvCell 0 j (right c)))
      (r₁ := 0) (r₂ := 0) (d₁ := false) (d₂ := false) (fd := fd)
      (by rw [duties_send]; exact Finset.mem_singleton_self _) (by rw [duties_recv]; exact Finset.mem_singleton_self _)
      () () (N 0) rfl (amount_send I c 0 j false) (amount_recv I (right c) 0 j false) O rfl (W := W)
      (by rw [payload_send]; exact BI.Entails.refl _)
      (by rw [payload_recv]; exact Entails.of_eq (pointsTo_congr (landed_q I c j fd)))) $$ [Hl Hd HO HtS HtR]
  · isplitr; · iapply (invs_send I K c 0 j); iexact Hinv
    isplitr; · iapply (invs_recv I K (right c) 0 j); iexact Hinv
    isplitl [Hl]; · iapply (show slotPts I 0 c j.castSucc lent ⊢ ((wqS j.castSucc).view.loc (c : Thread nD τ) ↦[(wqS j.castSucc).view.set]{lent} wqFun I c) from BI.Entails.refl _); iexact Hl
    isplitl [Hd]; · iexact Hd
    isplitl [HO]; · iexact HO
    isplitl [HtS]; · iexact HtS
    isplitr; · iexact HrS
    isplitl [HtR]; · iexact HtR
    iexact HrR
  iintro ⟨HcS, HO⟩
  iapply Hk
  unfold fly
  isplitl [HcS HaS HaR HcR]
  · isplitl [HcS]; · iexact HcS
    isplitl [HaS]; · iexact HaS
    isplitl [HaR]; · iexact HaR
    iexact HcR
  isplitl [Hkept]; · iexact Hkept
  iexists _; iexact HO

theorem sendO_wp (K : GSem nD τ sig → ℕ) (c : Dev nD) (j : Fin 7) (O : CellTallies nD τ sig Unit)
    (k : Prog (TpuEff nD τ sig (Elt F) Λ₀ .tc) PUnit) (Q : PUnit → sProp 𝕄) :
    iprop(invs I K ∗ todo 1 c j ∗ slotPts I 1 c j.castSucc fullShare ∗ owing c (O + tallyAt (recvCell 1 j (right c)) () (N 1)))
      ⊢ iprop(((fly 1 c j ∗ slotPts I 1 c j.castSucc kept ∗ owing c O) -∗ Wp c k Q) -∗ Wp c (sendO c j >>= fun _ => k) Q) := by
  unfold todo pend owing
  rw [show slotAny (F := F) 1 (right c) j.succ = iprop(∃ f, oPts (right c) j.succ fullShare f) from rfl]
  iintro ⟨#Hinv, ⟨⟨HtS, HtR, #HrS, HaS, HaR, HcR⟩, ⟨%fd, Hd⟩, #HrR⟩, Hs, ⟨%W, HO⟩⟩ Hk
  ihave Hs2 := (slot_halves I 1 c j.castSucc).1 $$ Hs
  icases Hs2 with ⟨Hl, Hkept⟩
  iapply (Rounds.wp_send_pointsTo 𝒱₀ ER (talkRd I) (c : Thread nD τ) none (c' := (right c : Thread nD τ)) (src := woS j.castSucc) (dst := woS j.succ)
      (sS := .dma (ssem 1 j)) (sem := .dma (rsem 1 j)) (q := lent) (fs := woFun I c) (κ₁ := K (sendCell 1 j c)) (κ₂ := K (recvCell 1 j (right c)))
      (r₁ := 0) (r₂ := 0) (d₁ := false) (d₂ := false) (fd := fd)
      (by rw [duties_send]; exact Finset.mem_singleton_self _) (by rw [duties_recv]; exact Finset.mem_singleton_self _)
      () () (N 1) rfl (amount_send I c 1 j false) (amount_recv I (right c) 1 j false) O rfl (W := W)
      (by rw [payload_send]; exact BI.Entails.refl _)
      (by rw [payload_recv]; exact Entails.of_eq (pointsTo_congr (landed_o I c j fd)))) $$ [Hl Hd HO HtS HtR]
  · isplitr; · iapply (invs_send I K c 1 j); iexact Hinv
    isplitr; · iapply (invs_recv I K (right c) 1 j); iexact Hinv
    isplitl [Hl]; · iapply (show slotPts I 1 c j.castSucc lent ⊢ ((woS j.castSucc).view.loc (c : Thread nD τ) ↦[(woS j.castSucc).view.set]{lent} woFun I c) from BI.Entails.refl _); iexact Hl
    isplitl [Hd]; · iexact Hd
    isplitl [HO]; · iexact HO
    isplitl [HtS]; · iexact HtS
    isplitr; · iexact HrS
    isplitl [HtR]; · iexact HtR
    iexact HrR
  iintro ⟨HcS, HO⟩
  iapply Hk
  unfold fly
  isplitl [HcS HaS HaR HcR]
  · isplitl [HcS]; · iexact HcS
    isplitl [HaS]; · iexact HaS
    isplitl [HaR]; · iexact HaR
    iexact HcR
  isplitl [Hkept]; · iexact Hkept
  iexists _; iexact HO

/-- What `Ow` owes first: hop `j`'s two copies. -/
theorem Ow_send (c : Dev nD) (j : Fin 7) : Ow c (7 - j.val) = Ow c (6 - j.val) + tallyAt (recvCell 1 j (right c)) () (N 1)
    + tallyAt (recvCell 0 j (right c)) () (N 0) := by
  have hj := j.isLt
  have h : 7 - j.val = (6 - j.val) + 1 := by omega
  have h' : Fin.ofNat 7 (6 - (6 - j.val)) = j := Fin.ext (by show (6 - (6 - j.val)) % 7 = j.val; omega)
  rw [h]
  show Ow c (6 - j.val) + tallyAt (recvCell 1 (Fin.ofNat 7 (6 - (6 - j.val))) (right c)) () (N 1)
    + tallyAt (recvCell 0 (Fin.ofNat 7 (6 - (6 - j.val))) (right c)) () (N 0) = _
  rw [h']

/-- Both rings' slot `h`, at the share `q`. -/
def slots (c : Dev nD) (h : Fin 8) (q : PosShare TreeShare) : sProp 𝕄 := iprop(slotPts I 0 c h q ∗ slotPts I 1 c h q)

/-- Hop `j`'s two sends. -/
theorem sends_wp (K : GSem nD τ sig → ℕ) (c : Dev nD) (j : Fin 7)
    (k : Prog (TpuEff nD τ sig (Elt F) Λ₀ .tc) PUnit) (Q : PUnit → sProp 𝕄) :
    iprop(invs I K ∗ (todo 0 c j ∗ todo 1 c j) ∗ slots I c j.castSucc fullShare ∗ owing c (Ow c (7 - j.val)))
      ⊢ iprop((((fly 0 c j ∗ fly 1 c j) ∗ slots I c j.castSucc kept ∗ owing c (Ow c (6 - j.val))) -∗ Wp c k Q)
        -∗ Wp c (sends c j k) Q) := by
  unfold slots
  rw [Ow_send]
  iintro ⟨#Hinv, ⟨HtQ, HtO⟩, ⟨HsQ, HsO⟩, HO⟩ Hk
  iapply (sendQ_wp I K c j _ _ Q) $$ [HtQ HsQ HO]
  · isplitr; · iexact Hinv
    isplitl [HtQ]; · iexact HtQ
    isplitl [HsQ]; · iexact HsQ
    iexact HO
  iintro ⟨HfQ, HsQ, HO⟩
  iapply (sendO_wp I K c j _ _ Q) $$ [HtO HsO HO]
  · isplitr; · iexact Hinv
    isplitl [HtO]; · iexact HtO
    isplitl [HsO]; · iexact HsO
    iexact HO
  iintro ⟨HfO, HsO, HO⟩
  iapply Hk
  isplitl [HfQ HfO]; · isplitl [HfQ] <;> iassumption
  isplitl [HsQ HsO]; · isplitl [HsQ] <;> iassumption
  iexact HO

/-! ## The waits -/

section Waits
variable {s s' : Shape} {e e' : EltTy} {sp sp' : Space} {κ' : Kind}

theorem wait_send (K : GSem nD τ sig → ℕ) (w : Fin 2) (c : Dev nD) (j : Fin 7) (n : ℕ) (hn : n ≤ 7)
    {srcw : Memref sig .tc sp' s' e'} {dstw : Memref sig κ' sp s e} {hsrc : srcw.view.WordExact} {hdst : dstw.view.WordExact}
    (hN : dstw.view.dmaCredit = N w)
    (k : PUnit → Prog (TpuEff nD τ sig (Elt F) Λ₀ .tc) PUnit) (Q : PUnit → sProp 𝕄) :
    iprop(invs I K ∗ levAts L lv ∗ cred (tallyAt (sendCell w j c) () (N w)) ∗ atPos ER (sendCell w j c) 0 ∅ 0 ∗ owing c (Ow c n))
      ⊢ iprop(((semVal (sendCell w j c) 0 ∗ slotPts I w c j.castSucc lent ∗ owing c (Ow c n)) -∗ Wp c (k ⟨⟩) Q)
        -∗ Wp c (.op (.waitDma2 (ssem w j) srcw dstw hsrc hdst) k) Q) := by
  unfold owing
  rw [← hN]
  iintro ⟨#Hinv, #Hlev, Hc, Ha, ⟨%W, HO⟩⟩ Hk
  iapply (Rounds.wp_wait_rest_token 𝒱₀ ER (talkRd I) (c : Thread nD τ) none (κ := K (sendCell w j c))
      (wpE_waitDma2_eq 𝒱₀ (c : Thread nD τ) none Set.univ) (Set.mem_univ _) () (O := Ow c n) (W := W) (R := 0) (m := 0) (T := ∅)
      ((Nat.zero_add _).trans (hN.trans (expect_send I c w j).symm))) $$ [Hc HO Ha]
  · isplitr; · iapply (invs_send I K c w j); iexact Hinv
    isplitl [Hc]; · iexact Hc
    isplitl [HO]; · iexact HO
    isplitr; · iapply (mayWait_Ow c (.dma (ssem w j)) n hn (by rw [lv_send]; omega)); iexact Hlev
    iexact Ha
  iintro ⟨HO, Ha, -, Hp⟩
  ihave Hp := (Entails.of_eq (rest_send I c w j)) $$ Hp
  imod (close I (K (sendCell w j c)) (sendCell w j c)) $$ [Ha] with Hv
  · isplitr; · iapply (invs_send I K c w j); iexact Hinv
    iexact Ha
  iapply Hk
  isplitl [Hv]; · iexact Hv
  isplitl [Hp]; · iexact Hp
  iexists _; iexact HO

theorem wait_recv (K : GSem nD τ sig → ℕ) (w : Fin 2) (c : Dev nD) (j : Fin 7) (n : ℕ) (hn : n + j.val ≤ 6)
    {srcw : Memref sig .tc sp' s' e'} {dstw : Memref sig κ' sp s e} {hsrc : srcw.view.WordExact} {hdst : dstw.view.WordExact}
    (hN : dstw.view.dmaCredit = N w)
    (k : PUnit → Prog (TpuEff nD τ sig (Elt F) Λ₀ .tc) PUnit) (Q : PUnit → sProp 𝕄) :
    iprop(invs I K ∗ levAts L lv ∗ cred (tallyAt (recvCell w j c) () (N w)) ∗ atPos ER (recvCell w j c) 0 ∅ 0 ∗ owing c (Ow c n))
      ⊢ iprop(((semVal (recvCell w j c) 0 ∗ slotPts I w c j.succ fullShare ∗ owing c (Ow c n)) -∗ Wp c (k ⟨⟩) Q)
        -∗ Wp c (.op (.waitDma2 (rsem w j) srcw dstw hsrc hdst) k) Q) := by
  unfold owing
  rw [← hN]
  iintro ⟨#Hinv, #Hlev, Hc, Ha, ⟨%W, HO⟩⟩ Hk
  iapply (Rounds.wp_wait_rest_token 𝒱₀ ER (talkRd I) (c : Thread nD τ) none (κ := K (recvCell w j c))
      (wpE_waitDma2_eq 𝒱₀ (c : Thread nD τ) none Set.univ) (Set.mem_univ _) () (O := Ow c n) (W := W) (R := 0) (m := 0) (T := ∅)
      ((Nat.zero_add _).trans (hN.trans (expect_recv I c w j).symm))) $$ [Hc HO Ha]
  · isplitr; · iapply (invs_recv I K c w j); iexact Hinv
    isplitl [Hc]; · iexact Hc
    isplitl [HO]; · iexact HO
    isplitr; · iapply (mayWait_Ow c (.dma (rsem w j)) n (by omega) (by rw [lv_recv]; omega)); iexact Hlev
    iexact Ha
  iintro ⟨HO, Ha, -, Hp⟩
  ihave Hp := (Entails.of_eq (rest_recv I c w j)) $$ Hp
  imod (close I (K (recvCell w j c)) (recvCell w j c)) $$ [Ha] with Hv
  · isplitr; · iapply (invs_recv I K c w j); iexact Hinv
    iexact Ha
  iapply Hk
  isplitl [Hv]; · iexact Hv
  isplitl [Hp]; · iexact Hp
  iexists _; iexact HO

end Waits

/-- Hop `j`'s four waits. -/
theorem takes_wp (K : GSem nD τ sig → ℕ) (c : Dev nD) (j : Fin 7)
    (k : Prog (TpuEff nD τ sig (Elt F) Λ₀ .tc) PUnit) (Q : PUnit → sProp 𝕄) :
    iprop(invs I K ∗ levAts L lv ∗ (fly 0 c j ∗ fly 1 c j) ∗ slots I c j.castSucc kept ∗ owing c (Ow c (6 - j.val)))
      ⊢ iprop((((taken I 0 c j ∗ taken I 1 c j) ∗ slots I c j.succ fullShare ∗ owing c (Ow c (6 - j.val))) -∗ Wp c k Q)
        -∗ Wp c (takes j k) Q) := by
  unfold slots fly
  have hj := j.isLt
  iintro ⟨#Hinv, #Hlev, ⟨⟨HcS, HaS, HaR, HcR⟩, ⟨HcS', HaS', HaR', HcR'⟩⟩, ⟨HsQ, HsO⟩, HO⟩ Hk
  unfold takes
  iapply (wait_send I K 0 c j (6 - j.val) (by omega) (by rfl) _ Q) $$ [HcS HaS HO]
  · isplitr; · iexact Hinv
    isplitr; · iexact Hlev
    isplitl [HcS]; · iexact HcS
    isplitl [HaS]; · iexact HaS
    iexact HO
  iintro ⟨HvS, HlQ, HO⟩
  iapply (wait_recv I K 0 c j (6 - j.val) (by omega) (by rfl) _ Q) $$ [HcR HaR HO]
  · isplitr; · iexact Hinv
    isplitr; · iexact Hlev
    isplitl [HcR]; · iexact HcR
    isplitl [HaR]; · iexact HaR
    iexact HO
  iintro ⟨HvR, HnQ, HO⟩
  iapply (wait_send I K 1 c j (6 - j.val) (by omega) (by rfl) _ Q) $$ [HcS' HaS' HO]
  · isplitr; · iexact Hinv
    isplitr; · iexact Hlev
    isplitl [HcS']; · iexact HcS'
    isplitl [HaS']; · iexact HaS'
    iexact HO
  iintro ⟨HvS', HlO, HO⟩
  iapply (wait_recv I K 1 c j (6 - j.val) (by omega) (by rfl) _ Q) $$ [HcR' HaR' HO]
  · isplitr; · iexact Hinv
    isplitr; · iexact Hlev
    isplitl [HcR']; · iexact HcR'
    isplitl [HaR']; · iexact HaR'
    iexact HO
  iintro ⟨HvR', HnO, HO⟩
  ihave HQ := (slot_halves I 0 c j.castSucc).2 $$ [HlQ HsQ]
  · isplitl [HlQ] <;> iassumption
  ihave HO' := (slot_halves I 1 c j.castSucc).2 $$ [HlO HsO]
  · isplitl [HlO] <;> iassumption
  iapply Hk
  unfold taken
  isplitl [HQ HO' HvS HvR HvS' HvR']
  · isplitl [HQ HvS HvR]
    · isplitl [HQ]; · iexact HQ
      isplitl [HvS] <;> iassumption
    · isplitl [HO']; · iexact HO'
      isplitl [HvS'] <;> iassumption
  isplitl [HnQ HnO]; · isplitl [HnQ] <;> iassumption
  iexact HO

/-! ## The two barriers -/

/-- The entry barrier: the device hands its slots to its left neighbour and is handed its right neighbour's. -/
theorem meet_bar_wp (K : GSem nD τ sig → ℕ) (c : Dev nD) (k : Prog (TpuEff nD τ sig (Elt F) Λ₀ .tc) PUnit) (Q : PUnit → sProp 𝕄) :
    iprop(invs I K ∗ levAts L lv ∗ atPos ER (barCell c) 0 ∅ 0 ∗ cred (tallyAt (barCell c) () 2)
        ∗ dutyTok ER (barCell (left c)) 0 false ∗ dutyTok ER (barCell (right c)) 0 true
        ∗ reached ER (barCell (left c)) 0 ∗ reached ER (barCell (right c)) 0 ∗ barPay (left c) ∗ backPay (right c) ∗ owing c (O₀ c))
      ⊢ iprop(((semVal (barCell c) 0 ∗ (barPay c ∗ backPay c) ∗ owing c (Ow c 7)) -∗ Wp c k Q) -∗ Wp c (meet barSem c k) Q) := by
  unfold owing
  iintro ⟨#Hinv, #Hlev, Ha, Hc, HtL, HtR, #HrL, #HrR, Hp, Hp', ⟨%W, HO⟩⟩ Hk
  unfold meet
  iapply (Rounds.wp_signal 𝒱₀ ER (talkRd I) (c : Thread nD τ) none (dst := (left c : Thread nD τ)) (sem := barSem) (r := 0) (d := false) (κ := K (barCell (left c)))
      (by rw [duties_reg]; decide) (amount_reg I (left c) barSem false) () (Ow c 7 + tallyAt (barCell (right c)) () 1) rfl) $$ [HO HtL Hp]
  · isplitr; · iapply (invs_bar I K (left c)); iexact Hinv
    isplitl [HO]; · iexact HO
    isplitl [HtL]; · iexact HtL
    isplitl [Hp]; · rw [payload_bar]; iexact Hp
    iexact HrL
  iintro HO
  iapply (Rounds.wp_signal 𝒱₀ ER (talkRd I) (c : Thread nD τ) none (dst := (right c : Thread nD τ)) (sem := barSem) (r := 0) (d := true) (κ := K (barCell (right c)))
      (by rw [duties_reg]; decide) (amount_reg I (right c) barSem true) () (Ow c 7) rfl) $$ [HO HtR Hp']
  · isplitr; · iapply (invs_bar I K (right c)); iexact Hinv
    isplitl [HO]; · iexact HO
    isplitl [HtR]; · iexact HtR
    isplitl [Hp']; · rw [payload_bar_true]; iexact Hp'
    iexact HrR
  iintro HO
  iapply (Rounds.wp_wait_rest_token 𝒱₀ ER (talkRd I) (c : Thread nD τ) none (κ := K (barCell c))
      (wpE_semWait_eq 𝒱₀ (c : Thread nD τ) none Set.univ) (Set.mem_univ _) () (O := Ow c 7) (W := W) (R := 0) (m := 0) (T := ∅)
      ((Nat.zero_add 2).trans (expect_reg I c barSem).symm)) $$ [Hc HO Ha]
  · isplitr; · iapply (invs_bar I K c); iexact Hinv
    isplitl [Hc]; · iexact Hc
    isplitl [HO]; · iexact HO
    isplitr; · iapply (mayWait_Ow c (.reg barSem) 7 le_rfl (by rw [lv_bar]; decide)); iexact Hlev
    iexact Ha
  iintro ⟨HO, Ha, -, Hp⟩
  ihave Hp := (Entails.of_eq (rest_bar I c)) $$ Hp
  imod (close I (K (barCell c)) (barCell c)) $$ [Ha] with Hv
  · isplitr; · iapply (invs_bar I K c); iexact Hinv
    iexact Ha
  iapply Hk
  isplitl [Hv]; · iexact Hv
  isplitl [Hp]; · iexact Hp
  iexists _; iexact HO

/-- The exit barrier. -/
theorem meet_exit_wp (K : GSem nD τ sig → ℕ) (c : Dev nD) (k : Prog (TpuEff nD τ sig (Elt F) Λ₀ .tc) PUnit) (Q : PUnit → sProp 𝕄) :
    iprop(invs I K ∗ atPos ER (exitCell c) 0 ∅ 0 ∗ cred (tallyAt (exitCell c) () 2)
        ∗ dutyTok ER (exitCell (left c)) 0 false ∗ dutyTok ER (exitCell (right c)) 0 true
        ∗ reached ER (exitCell (left c)) 0 ∗ reached ER (exitCell (right c)) 0 ∗ owing c (Ow c 0))
      ⊢ iprop(((semVal (exitCell c) 0 ∗ owing c 0) -∗ Wp c k Q) -∗ Wp c (meet exitSem c k) Q) := by
  unfold owing
  iintro ⟨#Hinv, Ha, Hc, HtL, HtR, #HrL, #HrR, ⟨%W, HO⟩⟩ Hk
  unfold meet
  iapply (Rounds.wp_signal 𝒱₀ ER (talkRd I) (c : Thread nD τ) none (dst := (left c : Thread nD τ)) (sem := exitSem) (r := 0) (d := false) (κ := K (exitCell (left c)))
      (by rw [duties_reg]; decide) (amount_reg I (left c) exitSem false) () (tallyAt (exitCell (right c)) () 1) rfl) $$ [HO HtL]
  · isplitr; · iapply (invs_exit I K (left c)); iexact Hinv
    isplitl [HO]; · iexact HO
    isplitl [HtL]; · iexact HtL
    isplitr; · rw [payload_exit]; iempintro
    iexact HrL
  iintro HO
  iapply (Rounds.wp_signal 𝒱₀ ER (talkRd I) (c : Thread nD τ) none (dst := (right c : Thread nD τ)) (sem := exitSem) (r := 0) (d := true) (κ := K (exitCell (right c)))
      (by rw [duties_reg]; decide) (amount_reg I (right c) exitSem true) () 0 (by rw [zero_add])) $$ [HO HtR]
  · isplitr; · iapply (invs_exit I K (right c)); iexact Hinv
    isplitl [HO]; · iexact HO
    isplitl [HtR]; · iexact HtR
    isplitr; · rw [payload_exit]; iempintro
    iexact HrR
  iintro HO
  iapply (Rounds.wp_wait_rest_token 𝒱₀ ER (talkRd I) (c : Thread nD τ) none (κ := K (exitCell c))
      (wpE_semWait_eq 𝒱₀ (c : Thread nD τ) none Set.univ) (Set.mem_univ _) () (O := 0) (W := W) (R := 0) (m := 0) (T := ∅)
      ((Nat.zero_add 2).trans (expect_reg I c exitSem).symm)) $$ [Hc HO Ha]
  · isplitr; · iapply (invs_exit I K c); iexact Hinv
    isplitl [Hc]; · iexact Hc
    isplitl [HO]; · iexact HO
    isplitr; · rw [MayWait_zero]; iempintro
    iexact Ha
  iintro ⟨HO, Ha, -, -⟩
  imod (close I (K (exitCell c)) (exitCell c)) $$ [Ha] with Hv
  · isplitr; · iapply (invs_exit I K c); iexact Hinv
    iexact Ha
  iapply Hk
  isplitl [Hv]; · iexact Hv
  iexists _; iexact HO

end Cert.KernelIdeal.Walk

end
-- ==== Proof.KernelIdeal.Heads.lean ====
/-
The copies of the heads: a hop fetches, for each of its eight heads and both batches, the head's keys and values into the
diagonal blocks of one slot of the two core buffers. What lies off the diagonal stays zero throughout.
-/
module

public import proofs.«01_k».proof.Proof.KernelIdeal.Ring

@[expose] public section

set_option maxRecDepth 16384

noncomputable section

namespace Cert.KernelIdeal.Walk

open Idealize.ShloMosaic Idealize.ShloMosaic.TcCoe Idealize.ShloMosaic.Rounds
open Idealize.SL Idealize.SL.RA Idealize.SL.BI
open scoped Idealize.SL.BI
open Idealize.SL.BI.BIBase Idealize.SL.Sem Cert.KernelIdeal Cert.KernelIdeal.Gen Idealize.ShloMosaic.ValueIdx

variable {F : FTy → Type} [FloatOps F] [Named F]

local notation "𝕄" => MT nD τ sig Unit (Elt F) ℕ UU ℕ

variable (I : Ins F)

/-! ## The elements the copies read and write -/

abbrev KvIdx := S2x2x4x128x1024.Idx
abbrev SrcIdx := S2x64x64x512.Idx

/-- Which head of a hop, in which batch: the batch, the pair, the half of the pair. -/
abbrev Hd := Fin 2 × Fin 4 × Fin 2

def Cp.hd (q : Cp) : Hd := (q.b, q.p, q.i)

def slotSet (s : Fin 2) : Finset KvIdx := Finset.univ.filter fun x => (x 0).val = s.val
def blkSet (s : Fin 2) (a : Hd) : Finset KvIdx :=
  Finset.univ.filter fun x => (x 0).val = s.val ∧ (x 1).val = a.1.val ∧ (x 2).val = a.2.1.val ∧ (x 3).val / 64 = a.2.2.val
    ∧ (x 4).val / 512 = a.2.2.val
def offSet (s : Fin 2) : Finset KvIdx := slotSet s \ Finset.univ.biUnion (blkSet s)
def rowSet (d : Dev nD) (h : Fin 8) (a : Hd) : Finset SrcIdx :=
  Finset.univ.filter fun x => (x 0).val = a.1.val ∧ (x 1).val = 8 * ((d.val + 8 - h.val) % 8) + 2 * a.2.1.val + a.2.2.val
def restSet (d : Dev nD) (h : Fin 8) : Finset SrcIdx := Finset.univ \ Finset.univ.biUnion (rowSet d h)

theorem blkSet_disjoint (s : Fin 2) : ∀ a ∈ (Finset.univ : Finset Hd), ∀ b ∈ (Finset.univ : Finset Hd), a ≠ b → Disjoint (blkSet s a) (blkSet s b) := by
  intro a _ b _ hab
  rw [Finset.disjoint_left]
  intro x hx hy
  simp only [blkSet, Finset.mem_filter, Finset.mem_univ, true_and] at hx hy
  refine hab (Prod.ext (Fin.ext ?_) (Prod.ext (Fin.ext ?_) (Fin.ext ?_))) <;> omega
theorem rowSet_disjoint (d : Dev nD) (h : Fin 8) : ∀ a ∈ (Finset.univ : Finset Hd), ∀ b ∈ (Finset.univ : Finset Hd), a ≠ b → Disjoint (rowSet d h a) (rowSet d h b) := by
  intro a _ b _ hab
  rw [Finset.disjoint_left]
  intro x hx hy
  simp only [rowSet, Finset.mem_filter, Finset.mem_univ, true_and] at hx hy
  have h1 := a.2.1.isLt; have h2 := a.2.2.isLt; have h3 := b.2.1.isLt; have h4 := b.2.2.isLt
  refine hab (Prod.ext (Fin.ext ?_) (Prod.ext (Fin.ext ?_) (Fin.ext ?_))) <;> omega

theorem blk_subset (s : Fin 2) : Finset.univ.biUnion (blkSet s) ⊆ slotSet s := by
  intro x hx
  obtain ⟨a, -, ha⟩ := Finset.mem_biUnion.mp hx
  simp only [blkSet, slotSet, Finset.mem_filter, Finset.mem_univ, true_and] at ha ⊢
  exact ha.1

theorem mem_offSet {s : Fin 2} {x : KvIdx} (hx : x ∈ offSet s) : (x 3).val / 64 ≠ (x 4).val / 512 := by
  intro e
  obtain ⟨h1, h2⟩ := Finset.mem_sdiff.mp hx
  refine h2 (Finset.mem_biUnion.mpr ⟨(⟨(x 1).val, (x 1).isLt⟩, ⟨(x 2).val, (x 2).isLt⟩, ⟨(x 3).val / 64, ?_⟩), Finset.mem_univ _, ?_⟩)
  · have : (x 3).val < 128 := (x 3).isLt
    omega
  · simp only [blkSet, slotSet, Finset.mem_filter, Finset.mem_univ, true_and] at h1 ⊢
    exact ⟨h1, e.symm⟩

abbrev dstR (s : Fin 2) (q : Cp) : Rect S2x2x4x128x1024 := Rect.unit (s := S2x2x4x128x1024) (dstOff s q) S1x1x1x64x512.size (dstOff_inb s q)
abbrev srcR (d : Dev nD) (h : Fin 8) (q : Cp) : Rect S2x64x64x512 := Rect.unit (s := S2x64x64x512) (srcOff d h q) S1x1x64x512.size (srcOff_inb d h q)

theorem dstR_set (s : Fin 2) (q : Cp) : (dstR s q).set = blkSet s q.hd := by
  ext x
  rw [Rect.mem_set_unit]
  simp only [blkSet, Finset.mem_filter, Finset.mem_univ, true_and]
  have h3 : (x 3).val < 128 := (x 3).isLt
  have h4 : (x 4).val < 1024 := (x 4).isLt
  have hi := q.i.isLt
  constructor
  · intro h
    have a0 : s.val ≤ (x 0).val ∧ (x 0).val < s.val + 1 := h 0
    have a1 : q.b.val ≤ (x 1).val ∧ (x 1).val < q.b.val + 1 := h 1
    have a2 : q.p.val ≤ (x 2).val ∧ (x 2).val < q.p.val + 1 := h 2
    have a3 : 64 * q.i.val ≤ (x 3).val ∧ (x 3).val < 64 * q.i.val + 64 := h 3
    have a4 : 512 * q.i.val ≤ (x 4).val ∧ (x 4).val < 512 * q.i.val + 512 := h 4
    show (x 0).val = s.val ∧ (x 1).val = q.b.val ∧ (x 2).val = q.p.val ∧ (x 3).val / 64 = q.i.val ∧ (x 4).val / 512 = q.i.val
    omega
  · intro h
    have h' : (x 0).val = s.val ∧ (x 1).val = q.b.val ∧ (x 2).val = q.p.val ∧ (x 3).val / 64 = q.i.val ∧ (x 4).val / 512 = q.i.val := h
    intro a
    match a with
    | 0 => show s.val ≤ (x 0).val ∧ (x 0).val < s.val + 1; omega
    | 1 => show q.b.val ≤ (x 1).val ∧ (x 1).val < q.b.val + 1; omega
    | 2 => show q.p.val ≤ (x 2).val ∧ (x 2).val < q.p.val + 1; omega
    | 3 => show 64 * q.i.val ≤ (x 3).val ∧ (x 3).val < 64 * q.i.val + 64; omega
    | 4 => show 512 * q.i.val ≤ (x 4).val ∧ (x 4).val < 512 * q.i.val + 512; omega

theorem srcOff_eq' (d : Dev nD) (h : Fin 8) (q : Cp) :
    srcOff d h q = ![q.b.val, 8 * ((d.val + 8 - h.val) % 8) + 2 * q.p.val + q.i.val, 0, 0] := srcOff_eq d h q

theorem srcR_set (d : Dev nD) (h : Fin 8) (q : Cp) : (srcR d h q).set = rowSet d h q.hd := by
  ext x
  rw [Rect.mem_set_unit]
  simp only [rowSet, Finset.mem_filter, Finset.mem_univ, true_and]
  rw [srcOff_eq']
  have h2 : (x 2).val < 64 := (x 2).isLt
  have h3 : (x 3).val < 512 := (x 3).isLt
  constructor
  · intro H
    have a0 : q.b.val ≤ (x 0).val ∧ (x 0).val < q.b.val + 1 := H 0
    have a1 : 8 * ((d.val + 8 - h.val) % 8) + 2 * q.p.val + q.i.val ≤ (x 1).val
      ∧ (x 1).val < 8 * ((d.val + 8 - h.val) % 8) + 2 * q.p.val + q.i.val + 1 := H 1
    show (x 0).val = q.b.val ∧ (x 1).val = 8 * ((d.val + 8 - h.val) % 8) + 2 * q.p.val + q.i.val
    omega
  · intro H
    have H' : (x 0).val = q.b.val ∧ (x 1).val = 8 * ((d.val + 8 - h.val) % 8) + 2 * q.p.val + q.i.val := H
    intro a
    match a with
    | 0 => show q.b.val ≤ (x 0).val ∧ (x 0).val < q.b.val + 1; omega
    | 1 =>
      show 8 * ((d.val + 8 - h.val) % 8) + 2 * q.p.val + q.i.val ≤ (x 1).val
        ∧ (x 1).val < 8 * ((d.val + 8 - h.val) % 8) + 2 * q.p.val + q.i.val + 1
      omega
    | 2 => show 0 ≤ (x 2).val ∧ (x 2).val < 0 + 64; omega
    | 3 => show 0 ≤ (x 3).val ∧ (x 3).val < 0 + 512; omega

/-- What hop `h` of device `c` leaves of the operand `V` in its slot: the heads on the diagonal, zero elsewhere. -/
def kvFun (V : Vec F S2x64x64x512 .bf16) (d : Dev nD) (h : Fin 8) : Vec F S2x2x4x128x1024 .bf16 := fun x =>
  if (x 3).val / 64 = (x 4).val / 512 then
    V (ix4 (n0 := 2) (n1 := 64) (n2 := 64) (n3 := 512) (x 1)
      ⟨8 * ((d.val + 8 - h.val) % 8) + 2 * (x 2).val + (x 3).val / 64, by
        have h2 : (x 2).val < 4 := (x 2).isLt
        have h3 : (x 3).val < 128 := (x 3).isLt
        omega⟩
      ⟨(x 3).val % 64, Nat.mod_lt _ (by omega)⟩ ⟨(x 4).val % 512, Nat.mod_lt _ (by omega)⟩)
  else k0_pay5 x

theorem numel5 : S64x512.numel = S1x1x1x64x512.numel := squeezes_S1x1x1x64x512_S64x512.numel_eq
theorem numel4 : S64x512.numel = S1x1x64x512.numel := squeezes_S1x1x64x512_S64x512.numel_eq

theorem reshape5 (x : Fin 64) (y : Fin 512) :
    Shape.reshapeEquiv numel5 (ix2 x y) = (ix5 0 0 0 x y : S1x1x1x64x512.Idx) := by
  refine (Shape.reshapeEquiv_reshapeEquiv (s := S1x1x1x64x512) (s' := S1x1x64x512) (s'' := S64x512) (by rfl) numel4 (ix2 x y)).symm.trans ?_
  rw [reshapeEquiv_ix2_11ab]
  refine (Shape.reshapeEquiv_cons_one _ _).trans ?_
  funext a
  match a with
  | 0 => rfl
  | 1 => rfl
  | 2 => rfl
  | 3 => rfl
  | 4 => rfl

/-- A copied element lands where the hop's heads have it. -/
theorem kvFun_land (V : Vec F S2x64x64x512 .bf16) (d : Dev nD) (h : Fin 8) (s : Fin 2) (q : Cp) (x : S64x512.Idx) :
    V ((srcR d h q).idx (Shape.reshapeEquiv numel4 x)) = kvFun V d h ((dstR s q).idx (Shape.reshapeEquiv numel5 x)) := by
  obtain ⟨x, y, rfl⟩ : ∃ (a : Fin 64) (b : Fin 512), x = ix2 a b := ⟨x 0, x 1, eq_ix2 x⟩
  rw [reshape5]
  rw [show Shape.reshapeEquiv numel4 (ix2 x y) = (ix4 0 0 x y : S1x1x64x512.Idx) from reshapeEquiv_ix2_11ab _ x y]
  have hi := q.i.isLt; have hx := x.isLt; have hy := y.isLt
  have e1 : ((dstR s q).idx (ix5 0 0 0 x y : S1x1x1x64x512.Idx) 1).val = q.b.val := by show q.b.val + 1 * 0 = _; omega
  have e2 : ((dstR s q).idx (ix5 0 0 0 x y : S1x1x1x64x512.Idx) 2).val = q.p.val := by show q.p.val + 1 * 0 = _; omega
  have e3 : ((dstR s q).idx (ix5 0 0 0 x y : S1x1x1x64x512.Idx) 3).val = 64 * q.i.val + x.val := by show 64 * q.i.val + 1 * x.val = _; omega
  have e4 : ((dstR s q).idx (ix5 0 0 0 x y : S1x1x1x64x512.Idx) 4).val = 512 * q.i.val + y.val := by show 512 * q.i.val + 1 * y.val = _; omega
  have f0 : ((srcR d h q).idx (ix4 0 0 x y : S1x1x64x512.Idx) 0).val = q.b.val := by show q.b.val + 1 * 0 = _; omega
  have f1 : ((srcR d h q).idx (ix4 0 0 x y : S1x1x64x512.Idx) 1).val = 8 * ((d.val + 8 - h.val) % 8) + 2 * q.p.val + q.i.val := by
    show srcOff d h q 1 + 1 * 0 = _; rw [srcOff_eq']; show 8 * ((d.val + 8 - h.val) % 8) + 2 * q.p.val + q.i.val + 1 * 0 = _; omega
  have f2 : ((srcR d h q).idx (ix4 0 0 x y : S1x1x64x512.Idx) 2).val = x.val := by
    show srcOff d h q 2 + 1 * x.val = _; rw [srcOff_eq']; show 0 + 1 * x.val = _; omega
  have f3 : ((srcR d h q).idx (ix4 0 0 x y : S1x1x64x512.Idx) 3).val = y.val := by
    show srcOff d h q 3 + 1 * y.val = _; rw [srcOff_eq']; show 0 + 1 * y.val = _; omega
  unfold kvFun
  rw [if_pos (by rw [e3, e4]; omega)]
  congr 1
  funext a
  match a with
  | 0 => exact Fin.ext (f0.trans e1.symm)
  | 1 => exact Fin.ext (f1.trans (by show _ = 8 * ((d.val + 8 - h.val) % 8) + 2 * _ + _ / 64; rw [e2, e3]; omega))
  | 2 => exact Fin.ext (f2.trans (by show _ = _ % 64; rw [e3]; omega))
  | 3 => exact Fin.ext (f3.trans (by show _ = _ % 512; rw [e4]; omega))

theorem kvFun_off (V : Vec F S2x64x64x512 .bf16) (d : Dev nD) (h : Fin 8) {s : Fin 2} {x : KvIdx} (hx : x ∈ offSet s) :
    kvFun V d h x = k0_pay5 x := if_neg (mem_offSet hx)

/-! ## Points-tos -/

def kvPts (w : Fin 2) (c : Dev nD) (A : Finset KvIdx) (g : Vec F S2x2x4x128x1024 .bf16) : sProp 𝕄 :=
  match w with
  | 0 => (Memref.whole cc0_scratch2).view.loc (c : Thread nD τ) ↦[A]{fullShare} g
  | 1 => (Memref.whole cc0_scratch3).view.loc (c : Thread nD τ) ↦[A]{fullShare} g
def srcPts (w : Fin 2) (c : Dev nD) (A : Finset SrcIdx) (g : Vec F S2x64x64x512 .bf16) : sProp 𝕄 :=
  match w with
  | 0 => (Memref.whole main_v11).view.loc (c : Thread nD τ) ↦[A]{fullShare} g
  | 1 => (Memref.whole main_v18).view.loc (c : Thread nD τ) ↦[A]{fullShare} g

theorem kvPts_congr (w : Fin 2) (c : Dev nD) {A : Finset KvIdx} {g g' : Vec F S2x2x4x128x1024 .bf16} (h : ∀ x ∈ A, g x = g' x) :
    kvPts w c A g = kvPts w c A g' := by
  match w with
  | 0 => exact pointsTo_congr h
  | 1 => exact pointsTo_congr h
instance kvPts_storable (w : Fin 2) (c : Dev nD) (A : Finset KvIdx) (g : Vec F S2x2x4x128x1024 .bf16) :
    BI.Storable (upEmb : UEmb _ 𝕄) (kvPts w c A g) := by
  unfold kvPts; split <;> infer_instance
instance srcPts_storable (w : Fin 2) (c : Dev nD) (A : Finset SrcIdx) (g : Vec F S2x64x64x512 .bf16) :
    BI.Storable (upEmb : UEmb _ 𝕄) (srcPts w c A g) := by
  unfold srcPts; split <;> infer_instance

/-- A slot is its sixteen diagonal blocks and what lies off them. -/
theorem kvPts_carve (w : Fin 2) (c : Dev nD) (s : Fin 2) (g : Vec F S2x2x4x128x1024 .bf16) :
    kvPts w c (slotSet s) g ⊣⊢ iprop((bigSep Finset.univ fun a : Hd => kvPts w c (blkSet s a) g) ∗ kvPts w c (offSet s) g) := by
  match w with
  | 0 => exact (pointsTo_split_subset (blk_subset s)).trans (BiEntails.of_eq (congrArg (fun P => iprop(P ∗ _)) (pointsTo_biUnion _ _ (blkSet_disjoint s))))
  | 1 => exact (pointsTo_split_subset (blk_subset s)).trans (BiEntails.of_eq (congrArg (fun P => iprop(P ∗ _)) (pointsTo_biUnion _ _ (blkSet_disjoint s))))
theorem srcPts_carve (w : Fin 2) (c : Dev nD) (h : Fin 8) (g : Vec F S2x64x64x512 .bf16) :
    srcPts w c Finset.univ g ⊣⊢ iprop((bigSep Finset.univ fun a : Hd => srcPts w c (rowSet c h a) g) ∗ srcPts w c (restSet c h) g) := by
  match w with
  | 0 => exact (pointsTo_split_subset (Finset.subset_univ _)).trans (BiEntails.of_eq (congrArg (fun P => iprop(P ∗ _)) (pointsTo_biUnion _ _ (rowSet_disjoint c h))))
  | 1 => exact (pointsTo_split_subset (Finset.subset_univ _)).trans (BiEntails.of_eq (congrArg (fun P => iprop(P ∗ _)) (pointsTo_biUnion _ _ (rowSet_disjoint c h))))

end Cert.KernelIdeal.Walk

end
-- ==== Proof.KernelIdeal.Fetch.lean ====
/-
A hop's thirty-two copies of heads: started all together on the slot's semaphore, and waited for all together one hop later.
-/
module

public import proofs.«01_k».proof.Proof.KernelIdeal.Heads

@[expose] public section

set_option maxRecDepth 16384

noncomputable section

namespace Cert.KernelIdeal.Walk

open Idealize.ShloMosaic Idealize.ShloMosaic.TcCoe Idealize.ShloMosaic.Rounds
open Idealize.SL Idealize.SL.RA Idealize.SL.BI
open scoped Idealize.SL.BI
open Idealize.ShloMosaic.Transfers Idealize.SL.BI.BIBase Idealize.SL.Sem Cert.KernelIdeal Cert.KernelIdeal.Gen Idealize.ShloMosaic.ValueIdx

variable {F : FTy → Type} [FloatOps F] [Named F]

local notation "𝕄" => MT nD τ sig Unit (Elt F) ℕ UU ℕ

variable (I : Ins F)

/-! ## The copies of a hop, numbered -/

theorem cps_length : cps.length = 32 := by decide
def cpAt (t : Fin 32) : Cp := cps[t.val]'(by rw [cps_length]; exact t.isLt)
def Cp.of (w : Fin 2) (a : Hd) : Cp := ⟨w, a.1, a.2.1, a.2.2⟩

theorem cpAt_bijective : Function.Bijective fun t : Fin 32 => ((cpAt t).w, (cpAt t).hd) := by
  refine (Fintype.bijective_iff_injective_and_card _).mpr ⟨?_, by rfl⟩
  intro a b
  revert a b
  decide +kernel
def cpE : Fin 32 ≃ Fin 2 × Hd := Equiv.ofBijective _ cpAt_bijective

/-- The copies of a hop are the copies of the keys and the copies of the values. -/
theorem cps_sep (Φ : Cp → sProp 𝕄) :
    (bigSep Finset.univ fun t : Fin 32 => Φ (cpAt t))
      = iprop((bigSep Finset.univ fun a : Hd => Φ (Cp.of 0 a)) ∗ bigSep Finset.univ fun a : Hd => Φ (Cp.of 1 a)) := by
  refine (bigSep_univ_equiv cpE (fun x : Fin 2 × Hd => Φ (Cp.of x.1 x.2))).symm.trans ?_
  rw [bigSep_univ_prod, bigSep_univ_two]

theorem drop_cps (j : ℕ) (hj : j < 32) : cps.drop j = cpAt ⟨j, hj⟩ :: cps.drop (j + 1) :=
  List.drop_eq_getElem_cons (by rw [cps_length]; exact hj)
theorem drop_cps_all : cps.drop 32 = [] := by decide

/-! ## Before and after -/

section Items
variable (c : Dev nD) (h : Fin 8)

/-- What a copy is given: the block it fills, at anything, and the row it reads. -/
def inItem (q : Cp) : sProp 𝕄 :=
  iprop((∃ g, kvPts q.w c (blkSet (slot h) q.hd) g) ∗ srcPts q.w c (rowSet c h q.hd) (I.kv q.w c))
/-- What it gives back. -/
def outItem (q : Cp) : sProp 𝕄 :=
  iprop(kvPts q.w c (blkSet (slot h) q.hd) (kvFun (I.kv q.w c) c h) ∗ srcPts q.w c (rowSet c h q.hd) (I.kv q.w c))
instance outItem_storable (q : Cp) : BI.Storable (upEmb : UEmb _ 𝕄) (outItem I c h q) := by unfold outItem; infer_instance

/-- One copy's units on its semaphore. -/
def Nkv : ℕ := (cpDst 0 ⟨0, 0, 0, 0⟩).view.dmaCredit
theorem Nkv_pos : 0 < Nkv := by decide

theorem cpDst_credit (s : Fin 2) (q : Cp) : (cpDst s q).view.dmaCredit = Nkv := by
  obtain ⟨w, b, p, i⟩ := q
  match w with
  | 0 => rfl
  | 1 => rfl

/-- The copies of hop `h`, `j` of them started and `u` units waited for. -/
abbrev Flight (j u : ℕ) : sProp 𝕄 :=
  Batch EC (c : Thread nD τ) (.dma (kvS (slot h))) () Nkv (fun t : Fin 32 => outItem I c h (cpAt t)) j u

/-- The elements a copy fills and those it reads. -/
theorem cpDst_set (s : Fin 2) (w b : Fin 2) (p : Fin 4) (i : Fin 2) :
    (match w with
      | 0 => ((cpDst s ⟨0, b, p, i⟩).view.set : Finset KvIdx)
      | 1 => ((cpDst s ⟨1, b, p, i⟩).view.set : Finset KvIdx)) = blkSet s (b, p, i) := by
  match w with
  | 0 => exact (View.set_reshape _ _).trans ((View.set_slice_whole cc0_scratch2 (dstR s ⟨0, b, p, i⟩)).trans (dstR_set s ⟨0, b, p, i⟩))
  | 1 => exact (View.set_reshape _ _).trans ((View.set_slice_whole cc0_scratch3 (dstR s ⟨1, b, p, i⟩)).trans (dstR_set s ⟨1, b, p, i⟩))
theorem cpSrc_set (w b : Fin 2) (p : Fin 4) (i : Fin 2) :
    (match w with
      | 0 => ((cpSrc c h ⟨0, b, p, i⟩).view.set : Finset SrcIdx)
      | 1 => ((cpSrc c h ⟨1, b, p, i⟩).view.set : Finset SrcIdx)) = rowSet c h (b, p, i) := by
  match w with
  | 0 => exact (View.set_reshape _ _).trans ((View.set_slice_whole main_v11 (srcR c h ⟨0, b, p, i⟩)).trans (srcR_set c h ⟨0, b, p, i⟩))
  | 1 => exact (View.set_reshape _ _).trans ((View.set_slice_whole main_v18 (srcR c h ⟨1, b, p, i⟩)).trans (srcR_set c h ⟨1, b, p, i⟩))

theorem two (w : Fin 2) : w = 0 ∨ w = 1 := by revert w; decide

/-- Starting one copy, into a batch that is to deliver what the copy gives back. -/
theorem start_wp (q : Cp) (D : Fin 32 → sProp 𝕄) (j : ℕ) (hj : j < 32) (hD : outItem I c h q ⊢ D ⟨j, hj⟩)
    (k : Prog (TpuEff nD τ sig (Elt F) Λ₀ .tc) PUnit) (Q : PUnit → sProp 𝕄) :
    iprop(inItem I c h q ∗ Batch EC (c : Thread nD τ) (.dma (kvS (slot h))) () Nkv D j 0)
      ⊢ iprop((Batch EC (c : Thread nD τ) (.dma (kvS (slot h))) () Nkv D (j + 1) 0 -∗ Wp c k Q)
        -∗ Wp c (cpStart c h q >>= fun _ => k) Q) := by
  obtain ⟨w, b, p, i⟩ := q
  unfold inItem
  iintro ⟨⟨⟨%g, Hd⟩, Hs⟩, HB⟩ Hk
  match w with
  | 0 =>
    have hland : ∀ x ∈ blkSet (slot h) (b, p, i), (cpDst (slot h) ⟨0, b, p, i⟩).view.write (Elt F) g
        ((cpSrc c h ⟨0, b, p, i⟩).view.read (Elt F) (I.kv 0 c)) Finset.univ x = kvFun (I.kv 0 c) c h x := by
      intro x hx
      rw [← cpDst_set (slot h) 0 b p i] at hx
      obtain ⟨y, -, rfl⟩ := Finset.mem_map.mp hx
      exact (View.write_emb_of_mem _ _ (Finset.mem_univ y)).trans (kvFun_land (I.kv 0 c) c h (slot h) ⟨0, b, p, i⟩ y)
    have hsrc : srcPts 0 c (rowSet c h (b, p, i)) (I.kv 0 c)
        = ((cpSrc c h ⟨0, b, p, i⟩).view.loc (c : Thread nD τ) ↦[(cpSrc c h ⟨0, b, p, i⟩).view.set]{fullShare} I.kv 0 c) := by
      rw [← cpSrc_set c h 0 b p i]; rfl
    have hdst : ∀ f : Vec F S2x2x4x128x1024 .bf16, kvPts 0 c (blkSet (slot h) (b, p, i)) f
        = ((cpDst (slot h) ⟨0, b, p, i⟩).view.loc (c : Thread nD τ) ↦[(cpDst (slot h) ⟨0, b, p, i⟩).view.set]{fullShare} f) := by
      intro f; rw [← cpDst_set (slot h) 0 b p i]; rfl
    have hD' : iprop(((cpDst (slot h) ⟨0, b, p, i⟩).view.loc (c : Thread nD τ) ↦[(cpDst (slot h) ⟨0, b, p, i⟩).view.set]{fullShare}
          (cpDst (slot h) ⟨0, b, p, i⟩).view.write (Elt F) g ((cpSrc c h ⟨0, b, p, i⟩).view.read (Elt F) (I.kv 0 c)) Finset.univ)
        ∗ ((cpSrc c h ⟨0, b, p, i⟩).view.loc (c : Thread nD τ) ↦[(cpSrc c h ⟨0, b, p, i⟩).view.set]{fullShare} I.kv 0 c)) ⊢ D ⟨j, hj⟩ := by
      exact BIBase.Entails.trans (BI.sep_mono (Entails.of_eq ((hdst _).symm.trans (kvPts_congr 0 c hland))) (Entails.of_eq hsrc.symm)) hD
    iapply (wp_dmaBatch EC 𝒱₀ (c : Thread nD τ) none (sm := .dma (kvS (slot h))) (src := cpSrc c h ⟨0, b, p, i⟩) (dst := cpDst (slot h) ⟨0, b, p, i⟩)
      (q := fullShare) (fs := I.kv 0 c) (Sd := (cpDst (slot h) ⟨0, b, p, i⟩).view.set) (fd := g) (D := D) (j := j) (u := 0)
      () Nkv (cpDst_credit (slot h) ⟨0, b, p, i⟩) (Finset.Subset.refl _) hj (Nat.zero_le _)
      (by exact hD')) $$ [Hd Hs HB]
    · isplitl [Hs]; · iapply (Entails.of_eq hsrc); iexact Hs
      isplitl [Hd]; · iapply (Entails.of_eq (hdst g)); iexact Hd
      iexact HB
    iexact Hk
  | 1 =>
    have hland : ∀ x ∈ blkSet (slot h) (b, p, i), (cpDst (slot h) ⟨1, b, p, i⟩).view.write (Elt F) g
        ((cpSrc c h ⟨1, b, p, i⟩).view.read (Elt F) (I.kv 1 c)) Finset.univ x = kvFun (I.kv 1 c) c h x := by
      intro x hx
      rw [← cpDst_set (slot h) 1 b p i] at hx
      obtain ⟨y, -, rfl⟩ := Finset.mem_map.mp hx
      exact (View.write_emb_of_mem _ _ (Finset.mem_univ y)).trans (kvFun_land (I.kv 1 c) c h (slot h) ⟨1, b, p, i⟩ y)
    have hsrc : srcPts 1 c (rowSet c h (b, p, i)) (I.kv 1 c)
        = ((cpSrc c h ⟨1, b, p, i⟩).view.loc (c : Thread nD τ) ↦[(cpSrc c h ⟨1, b, p, i⟩).view.set]{fullShare} I.kv 1 c) := by
      rw [← cpSrc_set c h 1 b p i]; rfl
    have hdst : ∀ f : Vec F S2x2x4x128x1024 .bf16, kvPts 1 c (blkSet (slot h) (b, p, i)) f
        = ((cpDst (slot h) ⟨1, b, p, i⟩).view.loc (c : Thread nD τ) ↦[(cpDst (slot h) ⟨1, b, p, i⟩).view.set]{fullShare} f) := by
      intro f; rw [← cpDst_set (slot h) 1 b p i]; rfl
    have hD' : iprop(((cpDst (slot h) ⟨1, b, p, i⟩).view.loc (c : Thread nD τ) ↦[(cpDst (slot h) ⟨1, b, p, i⟩).view.set]{fullShare}
          (cpDst (slot h) ⟨1, b, p, i⟩).view.write (Elt F) g ((cpSrc c h ⟨1, b, p, i⟩).view.read (Elt F) (I.kv 1 c)) Finset.univ)
        ∗ ((cpSrc c h ⟨1, b, p, i⟩).view.loc (c : Thread nD τ) ↦[(cpSrc c h ⟨1, b, p, i⟩).view.set]{fullShare} I.kv 1 c)) ⊢ D ⟨j, hj⟩ := by
      exact BIBase.Entails.trans (BI.sep_mono (Entails.of_eq ((hdst _).symm.trans (kvPts_congr 1 c hland))) (Entails.of_eq hsrc.symm)) hD
    iapply (wp_dmaBatch EC 𝒱₀ (c : Thread nD τ) none (sm := .dma (kvS (slot h))) (src := cpSrc c h ⟨1, b, p, i⟩) (dst := cpDst (slot h) ⟨1, b, p, i⟩)
      (q := fullShare) (fs := I.kv 1 c) (Sd := (cpDst (slot h) ⟨1, b, p, i⟩).view.set) (fd := g) (D := D) (j := j) (u := 0)
      () Nkv (cpDst_credit (slot h) ⟨1, b, p, i⟩) (Finset.Subset.refl _) hj (Nat.zero_le _)
      (by exact hD')) $$ [Hd Hs HB]
    · isplitl [Hs]; · iapply (Entails.of_eq hsrc); iexact Hs
      isplitl [Hd]; · iapply (Entails.of_eq (hdst g)); iexact Hd
      iexact HB
    iexact Hk

/-- Starting the copies from the `j`-th on. -/
theorem starts_wp (m j : ℕ) (hj : j + m = 32) (k : Prog (TpuEff nD τ sig (Elt F) Λ₀ .tc) PUnit) (Q : PUnit → sProp 𝕄) :
    iprop((bigSep (pending j) fun t : Fin 32 => inItem I c h (cpAt t)) ∗ Flight I c h j 0)
      ⊢ iprop((Flight I c h 32 0 -∗ Wp c k Q) -∗ Wp c (forL (cpStart c h) (cps.drop j) k) Q) := by
  induction m generalizing j with
  | zero =>
    obtain rfl : j = 32 := by omega
    rw [drop_cps_all]
    iintro ⟨-, HB⟩ Hk
    iapply Hk; iexact HB
  | succ m ih =>
    have hj' : j < 32 := by omega
    rw [bigSep_pending_step _ j hj', drop_cps j hj']
    iintro ⟨⟨Hi, Hr⟩, HB⟩ Hk
    iapply (start_wp I c h (cpAt ⟨j, hj'⟩) (fun t : Fin 32 => outItem I c h (cpAt t)) j hj' (Entails.refl _) (forL (cpStart c h) (cps.drop (j + 1)) k) Q) $$ [Hi HB]
    · isplitl [Hi]; · iexact Hi
      iexact HB
    iintro HB
    iapply (ih (j + 1) (by omega)) $$ [Hr HB]
    · isplitl [Hr]; · iexact Hr
      iexact HB
    iexact Hk

/-- Waiting for the copies from the `j`-th on. -/
theorem waits_wp (n : ℕ) (hn : n ≤ 7) (m j : ℕ) (hj : j + m + 1 = 32) (k : Prog (TpuEff nD τ sig (Elt F) Λ₀ .tc) PUnit) (Q : PUnit → sProp 𝕄) :
    iprop(levAts L lv ∗ Flight I c h 32 (Nkv * j) ∗ owing c (Ow c n))
      ⊢ iprop((((bigSep Finset.univ fun t : Fin 32 => outItem I c h (cpAt t)) ∗ semVal ((c : Thread nD τ), .dma (kvS (slot h))) 0 ∗ owing c (Ow c n))
          -∗ Wp c k Q) -∗ Wp c (forL (cpWait c h) (cps.drop j) k) Q) := by
  induction m generalizing j with
  | zero =>
    obtain rfl : j = 31 := by omega
    rw [drop_cps 31 (by decide), drop_cps_all]
    unfold owing
    iintro ⟨#Hlev, HB, ⟨%W, HO⟩⟩ Hk
    iapply (wp_waitBatchLastO EC 𝒱₀ (c : Thread nD τ) none (D := fun t : Fin 32 => outItem I c h (cpAt t)) () (cpDst_credit (slot h) _) Nkv_pos (u := Nkv * 31) (by omega) (O := Ow c n) (W := W)) $$ [HB HO]
    · isplitl [HB]; · iexact HB
      isplitl [HO]; · iexact HO
      iapply (mayWait_Ow c (.dma (kvS (slot h))) n hn (by rw [lv_kv]; omega)); iexact Hlev
    iintro ⟨HD, Hv, HO⟩
    iapply Hk
    isplitl [HD]; · iexact HD
    isplitl [Hv]; · iexact Hv
    iexists _; iexact HO
  | succ m ih =>
    have hj' : j < 32 := by omega
    rw [drop_cps j hj']
    unfold owing
    iintro ⟨#Hlev, HB, ⟨%W, HO⟩⟩ Hk
    have hlt : Nkv * j + Nkv < Nkv * 32 := by
      have := Nat.mul_lt_mul_of_pos_left (show j + 1 < 32 by omega) Nkv_pos
      rw [Nat.mul_add, Nat.mul_one] at this; exact this
    iapply (wp_waitBatchO EC 𝒱₀ (c : Thread nD τ) none (D := fun t : Fin 32 => outItem I c h (cpAt t)) () (cpDst_credit (slot h) _) (u := Nkv * j) hlt (O := Ow c n) (W := W)) $$ [HB HO]
    · isplitl [HB]; · iexact HB
      isplitl [HO]; · iexact HO
      iapply (mayWait_Ow c (.dma (kvS (slot h))) n hn (by rw [lv_kv]; omega)); iexact Hlev
    iintro ⟨HB, HO⟩
    unfold owing at ih
    iapply (ih (j + 1) (by omega)) $$ [HB HO]
    · isplitr; · iexact Hlev
      isplitl [HB]; · rw [Nat.mul_add, Nat.mul_one]; iexact HB
      iexists _; iexact HO
    iexact Hk

/-! ## Fetching a hop's heads -/

/-- A slot whose off-diagonal elements are zero. -/
def kvFree (c : Dev nD) (s : Fin 2) (w : Fin 2) : sProp 𝕄 :=
  iprop(∃ g : Vec F S2x2x4x128x1024 .bf16, ⌜∀ x ∈ offSet s, g x = k0_pay5 x⌝ ∗ kvPts w c (slotSet s) g)
/-- The slot at hop `h`'s heads. -/
def kvHave (w : Fin 2) : sProp 𝕄 := kvPts w c (slotSet (slot h)) (kvFun (I.kv w c) c h)
/-- The host's keys or values. -/
def kvSrc (c : Dev nD) (w : Fin 2) : sProp 𝕄 := srcPts w c Finset.univ (I.kv w c)
/-- Hop `h`'s copies all started. -/
def kvFly : sProp 𝕄 :=
  iprop(Flight I c h 32 0
    ∗ (kvPts 0 c (offSet (slot h)) (kvFun (I.kv 0 c) c h) ∗ kvPts 1 c (offSet (slot h)) (kvFun (I.kv 1 c) c h))
    ∗ (srcPts 0 c (restSet c h) (I.kv 0 c) ∗ srcPts 1 c (restSet c h) (I.kv 1 c)))

theorem kvHave_free (w : Fin 2) : kvHave I c h w ⊢ kvFree (F := F) c (slot h) w := by
  unfold kvHave kvFree
  iintro H
  iexists _
  isplitr; · ipureintro; exact fun x hx => kvFun_off (I.kv w c) c h hx
  iexact H

theorem carve_in (w : Fin 2) : iprop(kvFree c (slot h) w ∗ kvSrc I c w)
    ⊢ (iprop((bigSep Finset.univ fun a : Hd => inItem I c h (Cp.of w a)) ∗ kvPts w c (offSet (slot h)) (kvFun (I.kv w c) c h)
      ∗ srcPts w c (restSet c h) (I.kv w c)) : sProp 𝕄) := by
  unfold kvFree kvSrc
  iintro ⟨⟨%g, %hg, Hd⟩, Hs⟩
  ihave Hd := (kvPts_carve w c (slot h) g).1 $$ Hd
  ihave Hs := (srcPts_carve w c h (I.kv w c)).1 $$ Hs
  icases Hd with ⟨Hd, Ho⟩
  icases Hs with ⟨Hs, Hr⟩
  isplitl [Hd Hs]
  · iapply (show iprop((bigSep Finset.univ fun a : Hd => kvPts w c (blkSet (slot h) a) g) ∗ (bigSep Finset.univ fun a : Hd => srcPts w c (rowSet c h a) (I.kv w c)))
        ⊢ (bigSep Finset.univ fun a : Hd => inItem I c h (Cp.of w a) : sProp 𝕄) from
      (Entails.of_eq (bigSep_sep _ _ _).symm).trans (bigSep_mono fun a _ => by
        unfold inItem
        exact BI.sep_mono (show kvPts w c (blkSet (slot h) a) g ⊢ iprop(∃ g, kvPts w c (blkSet (slot h) a) g) from by iintro H; iexists g; iexact H) (Entails.refl _)))
    isplitl [Hd] <;> iassumption
  isplitl [Ho]
  · iapply (Entails.of_eq (kvPts_congr w c fun x hx => (hg x hx).trans (kvFun_off (I.kv w c) c h hx).symm)); iexact Ho
  iexact Hr

theorem carve_out (w : Fin 2) : (iprop((bigSep Finset.univ fun a : Hd => outItem I c h (Cp.of w a)) ∗ kvPts w c (offSet (slot h)) (kvFun (I.kv w c) c h)
      ∗ srcPts w c (restSet c h) (I.kv w c)) : sProp 𝕄) ⊢ iprop(kvHave I c h w ∗ kvSrc I c w) := by
  unfold kvHave kvSrc
  iintro ⟨HI, Ho, Hr⟩
  ihave HI := (show (bigSep Finset.univ fun a : Hd => outItem I c h (Cp.of w a) : sProp 𝕄)
      ⊢ iprop((bigSep Finset.univ fun a : Hd => kvPts w c (blkSet (slot h) a) (kvFun (I.kv w c) c h)) ∗ (bigSep Finset.univ fun a : Hd => srcPts w c (rowSet c h a) (I.kv w c)))
      from Entails.of_eq (bigSep_sep _ _ _)) $$ HI
  icases HI with ⟨Hd, Hs⟩
  isplitl [Hd Ho]
  · iapply (kvPts_carve w c (slot h) _).2
    isplitl [Hd] <;> iassumption
  · iapply (srcPts_carve w c h _).2
    isplitl [Hs] <;> iassumption

/-- Hop `h`'s copies are started. -/
theorem fetch_wp (k : Prog (TpuEff nD τ sig (Elt F) Λ₀ .tc) PUnit) (Q : PUnit → sProp 𝕄) :
    iprop((kvFree c (slot h) 0 ∗ kvFree c (slot h) 1) ∗ (kvSrc I c 0 ∗ kvSrc I c 1) ∗ semVal ((c : Thread nD τ), .dma (kvS (slot h))) 0)
      ⊢ iprop((kvFly I c h -∗ Wp c k Q) -∗ Wp c (forL (cpStart c h) cps k) Q) := by
  unfold kvFly
  iintro ⟨⟨Hd0, Hd1⟩, ⟨Hs0, Hs1⟩, Hv⟩ Hk
  ihave H0 := (carve_in I c h 0) $$ [Hd0 Hs0]
  · isplitl [Hd0] <;> iassumption
  ihave H1 := (carve_in I c h 1) $$ [Hd1 Hs1]
  · isplitl [Hd1] <;> iassumption
  icases H0 with ⟨Hi0, Ho0, Hr0⟩
  icases H1 with ⟨Hi1, Ho1, Hr1⟩
  imod (batch_alloc' EC (c := (c : Thread nD τ)) () Nkv (fun t : Fin 32 => outItem I c h (cpAt t)) (E := Set.univ)) $$ Hv with HB
  iapply (starts_wp I c h 32 0 rfl k Q) $$ [Hi0 Hi1 HB]
  · isplitl [Hi0 Hi1]
    · rw [pending_zero, cps_sep (inItem I c h)]
      isplitl [Hi0] <;> iassumption
    · iexact HB
  iintro HB
  iapply Hk
  isplitl [HB]; · iexact HB
  isplitl [Ho0 Ho1]; · isplitl [Ho0] <;> iassumption
  isplitl [Hr0] <;> iassumption

/-- Hop `h`'s copies are waited for. -/
theorem arrive_wp (n : ℕ) (hn : n ≤ 7) (k : Prog (TpuEff nD τ sig (Elt F) Λ₀ .tc) PUnit) (Q : PUnit → sProp 𝕄) :
    iprop(levAts L lv ∗ kvFly I c h ∗ owing c (Ow c n))
      ⊢ iprop((((kvHave I c h 0 ∗ kvHave I c h 1) ∗ (kvSrc I c 0 ∗ kvSrc I c 1) ∗ semVal ((c : Thread nD τ), .dma (kvS (slot h))) 0 ∗ owing c (Ow c n)) -∗ Wp c k Q)
        -∗ Wp c (forL (cpWait c h) cps k) Q) := by
  unfold kvFly
  iintro ⟨#Hlev, ⟨HB, ⟨Ho0, Ho1⟩, ⟨Hr0, Hr1⟩⟩, HO⟩ Hk
  iapply (waits_wp I c h n hn 31 0 rfl k Q) $$ [HB HO]
  · isplitr; · iexact Hlev
    isplitl [HB]; · rw [Nat.mul_zero]; iexact HB
    iexact HO
  iintro ⟨HD, Hv, HO⟩
  ihave HD := (Entails.of_eq (cps_sep (outItem I c h))) $$ HD
  icases HD with ⟨HD0, HD1⟩
  ihave H0 := (carve_out I c h 0) $$ [HD0 Ho0 Hr0]
  · isplitl [HD0]; · iexact HD0
    isplitl [Ho0] <;> iassumption
  ihave H1 := (carve_out I c h 1) $$ [HD1 Ho1 Hr1]
  · isplitl [HD1]; · iexact HD1
    isplitl [Ho1] <;> iassumption
  icases H0 with ⟨Hd0, Hs0⟩
  icases H1 with ⟨Hd1, Hs1⟩
  iapply Hk
  isplitl [Hd0 Hd1]; · isplitl [Hd0] <;> iassumption
  isplitl [Hs0 Hs1]; · isplitl [Hs0] <;> iassumption
  isplitl [Hv]; · iexact Hv
  iexact HO

end Items

end Cert.KernelIdeal.Walk

end
-- ==== Proof.KernelIdeal.Compute.lean ====
/-
One hop's computation: the context of the hop's eight heads in both batches, and its product with the hop's block of output
weights.
-/
module

public import proofs.«01_k».proof.Proof.KernelIdeal.Fetch

@[expose] public section

set_option maxRecDepth 16384

noncomputable section

namespace Cert.KernelIdeal.Walk

open Idealize.ShloMosaic Idealize.ShloMosaic.TcCoe Idealize.ShloMosaic.Rounds
open Idealize.SL Idealize.SL.RA Idealize.SL.BI
open scoped Idealize.SL.BI
open Idealize.SL.BI.BIBase Idealize.SL.Sem Cert.KernelIdeal Cert.KernelIdeal.Gen Idealize.ShloMosaic.ValueIdx

variable {F : FTy → Type} [FloatOps F] [Named F]

local notation "𝕄" => MT nD τ sig Unit (Elt F) ℕ UU ℕ

variable (I : Ins F)

/-! ## What a hop computes -/

/-- The additive mask of a pair: the same for both heads. -/
def biasFun : Vec F S512x1024 .f32 := fun x => k0_pay9 (ix2 (n0 := 512) (n1 := 512) (x 0) ⟨(x 1).val % 512, Nat.mod_lt _ (by omega)⟩)

/-- A pair's keys (0) or values (1), as loaded. -/
def kPair (c : Dev nD) (h : Fin 8) (w b : Fin 2) (p : Fin 4) : Vec F S1x1x1x128x1024 .bf16 :=
  fun y => kvFun (I.kv w c) c h ((pairR (slot h) b p).idx y)
/-- A hop's queries. -/
def queries (c : Dev nD) (h : Fin 8) : FVec F S1024x512 .bf16 := qAll (k0_pay3 (I.wq (back c h))) (I.x c)
/-- One head's context. -/
def headFun (c : Dev nD) (h : Fin 8) (b : Fin 2) (p : Fin 4) (i : Fin 2) : FVec F S512x64 .bf16 :=
  head i (expo (qPair b p (queries I c h)) (kPair I c h 0 b p) biasFun) (kPair I c h 1 b p)

/-- Which batch and pair a row and column of the context belong to. -/
def key (x : S1024x512.Idx) : Fin 2 × Fin 4 :=
  (⟨(x 0).val / 512, by have : (x 0).val < 1024 := (x 0).isLt; omega⟩, ⟨(x 1).val / 128, by have : (x 1).val < 512 := (x 1).isLt; omega⟩)
def side (x : S1024x512.Idx) : Fin 2 := ⟨(x 1).val % 128 / 64, by omega⟩

/-- The context of a hop's heads. -/
def ctxFun (c : Dev nD) (h : Fin 8) : Vec F S1024x512 .bf16 := fun x =>
  headFun I c h (key x).1 (key x).2 (side x) (ix2 (n0 := 512) (n1 := 64) ⟨(x 0).val % 512, Nat.mod_lt _ (by omega)⟩ ⟨(x 1).val % 64, Nat.mod_lt _ (by omega)⟩)

/-- What a hop adds to the result. -/
def contribAt (c : Dev nD) (h : Fin 8) : FVec F S1024x768 .f32 := contrib (ctxFun I c h) (k0_pay4 (I.wo (back c h)))

/-- The result after hop `n`. -/
def outFun (c : Dev nD) : ℕ → FVec F S1024x768 .f32
  | 0 => contribAt I c 0
  | n + 1 => addf (shapeCast S1024x768 (outFun c n) shapeCasts_S1024x768_S1024x768 : FVec F S1024x768 .f32) (contribAt I c (Fin.ofNat 8 (n + 1)))

/-! ## A pair of heads -/

def ctxPts (c : Dev nD) (f : Vec F S1024x512 .bf16) : sProp 𝕄 := ctxM.view.loc (c : Thread nD τ) ↦[Finset.univ]{fullShare} f
def biasPts (c : Dev nD) (f : Vec F S512x1024 .f32) : sProp 𝕄 := biasM.view.loc (c : Thread nD τ) ↦[Finset.univ]{fullShare} f
def xPts (c : Dev nD) : sProp 𝕄 := xM.view.loc (c : Thread nD τ) ↦[Finset.univ]{fullShare} (I.x c)
def wqPts (c : Dev nD) : sProp 𝕄 := wqM.view.loc (c : Thread nD τ) ↦[Finset.univ]{fullShare} (I.wq c)
def woPts (c : Dev nD) : sProp 𝕄 := woM.view.loc (c : Thread nD τ) ↦[Finset.univ]{fullShare} (I.wo c)
def outPts (c : Dev nD) (f : Vec F S1024x768 .f32) : sProp 𝕄 := outM.view.loc (c : Thread nD τ) ↦[Finset.univ]{fullShare} f

/-- The context after one head has been put. -/
def putF (b : Fin 2) (p : Fin 4) (i : Fin 2) (v : FVec F S512x64 .bf16) (f : Vec F S1024x512 .bf16) : Vec F S1024x512 .bf16 :=
  (ctxM.access (halfR b p i)).write (Elt F) f v Finset.univ

theorem mem_half (b : Fin 2) (p : Fin 4) (i : Fin 2) (x : S1024x512.Idx) :
    x ∈ (halfR b p i).set ↔ key x = (b, p) ∧ side x = i := by
  rw [Rect.mem_set_unit]
  have h0 : (x 0).val < 1024 := (x 0).isLt
  have h1 : (x 1).val < 512 := (x 1).isLt
  have hi := i.isLt
  constructor
  · intro h
    have a0 : 512 * b.val ≤ (x 0).val ∧ (x 0).val < 512 * b.val + 512 := h 0
    have a1 : 128 * p.val + 64 * i.val ≤ (x 1).val ∧ (x 1).val < 128 * p.val + 64 * i.val + 64 := h 1
    refine ⟨Prod.ext (Fin.ext ?_) (Fin.ext ?_), Fin.ext ?_⟩
    · show (x 0).val / 512 = b.val; omega
    · show (x 1).val / 128 = p.val; omega
    · show (x 1).val % 128 / 64 = i.val; omega
  · rintro ⟨hk, hs⟩
    have k0 : (x 0).val / 512 = b.val := congrArg (fun k : Fin 2 × Fin 4 => k.1.val) hk
    have k1 : (x 1).val / 128 = p.val := congrArg (fun k : Fin 2 × Fin 4 => k.2.val) hk
    have k2 : (x 1).val % 128 / 64 = i.val := congrArg Fin.val hs
    intro a
    match a with
    | 0 => show 512 * b.val ≤ (x 0).val ∧ (x 0).val < 512 * b.val + 512; omega
    | 1 => show 128 * p.val + 64 * i.val ≤ (x 1).val ∧ (x 1).val < 128 * p.val + 64 * i.val + 64; omega

theorem putF_on (b : Fin 2) (p : Fin 4) (i : Fin 2) (v : FVec F S512x64 .bf16) (f : Vec F S1024x512 .bf16) (x : S1024x512.Idx)
    (hk : key x = (b, p)) (hs : side x = i) :
    putF b p i v f x = v (ix2 (n0 := 512) (n1 := 64) ⟨(x 0).val % 512, Nat.mod_lt _ (by omega)⟩ ⟨(x 1).val % 64, Nat.mod_lt _ (by omega)⟩) := by
  have k0 : (x 0).val / 512 = b.val := congrArg (fun k : Fin 2 × Fin 4 => k.1.val) hk
  have k1 : (x 1).val / 128 = p.val := congrArg (fun k : Fin 2 × Fin 4 => k.2.val) hk
  have k2 : (x 1).val % 128 / 64 = i.val := congrArg Fin.val hs
  have e : x = (halfR b p i).idx (ix2 (n0 := 512) (n1 := 64) ⟨(x 0).val % 512, Nat.mod_lt _ (by omega)⟩ ⟨(x 1).val % 64, Nat.mod_lt _ (by omega)⟩) := by
    funext a
    match a with
    | 0 => exact Fin.ext (by show (x 0).val = 512 * b.val + 1 * ((x 0).val % 512); omega)
    | 1 => exact Fin.ext (by show (x 1).val = 128 * p.val + 64 * i.val + 1 * ((x 1).val % 64); omega)
  unfold putF
  exact (congrArg _ e).trans (View.write_emb_of_mem (v := ctxM.access (halfR b p i)) f v (Finset.mem_univ _))

theorem putF_off (b : Fin 2) (p : Fin 4) (i : Fin 2) (v : FVec F S512x64 .bf16) (f : Vec F S1024x512 .bf16) (x : S1024x512.Idx)
    (h : ¬ (key x = (b, p) ∧ side x = i)) : putF b p i v f x = f x := by
  unfold putF
  refine View.write_of_not_mem (v := ctxM.access (halfR b p i)) f v Finset.univ ?_
  intro hx
  exact h ((mem_half b p i x).mp (by rw [← View.set_slice_whole cc0_scratch5 (halfR b p i)]; exact hx))

theorem putHead_wp (c : Dev nD) (b : Fin 2) (p : Fin 4) (i : Fin 2) (v : FVec F S512x64 .bf16) (f : Vec F S1024x512 .bf16)
    (k : Prog (TpuEff nD τ sig (Elt F) Λ₀ .tc) PUnit) (Q : PUnit → sProp 𝕄) :
    ctxPts c f ⊢ iprop((ctxPts c (putF b p i v f) -∗ Wp c k Q) -∗ Wp c (putHead b p i v k) Q) := by
  unfold ctxPts putHead
  iintro H Hk
  iapply (wp_load 𝒱₀ (c : Thread nD τ) none Set.univ (m := ctxM) (Finset.subset_univ _)) $$ H
  iintro H
  iapply (wp_store 𝒱₀ (c : Thread nD τ) none Set.univ (m := ctxM) (r := halfR b p i) (Finset.subset_univ _)) $$ H
  iintro H
  iapply Hk
  iexact H

theorem pairR_sub (h : Fin 8) (b : Fin 2) (p : Fin 4) : (pairR (slot h) b p).set ⊆ slotSet (slot h) := by
  intro x hx
  rw [Rect.mem_set_unit] at hx
  have a0 : (slot h).val ≤ (x 0).val ∧ (x 0).val < (slot h).val + 1 := hx 0
  exact Finset.mem_filter.mpr ⟨Finset.mem_univ _, Nat.le_antisymm (Nat.lt_succ_iff.mp a0.2) a0.1⟩

theorem kvHave_eq0 (c : Dev nD) (h : Fin 8) : kvHave I c h 0
    = ((kvBufM 0).view.loc (c : Thread nD τ) ↦[slotSet (slot h)]{fullShare} kvFun (I.kv 0 c) c h) := rfl
theorem kvHave_eq1 (c : Dev nD) (h : Fin 8) : kvHave I c h 1
    = ((kvBufM 1).view.loc (c : Thread nD τ) ↦[slotSet (slot h)]{fullShare} kvFun (I.kv 1 c) c h) := rfl
theorem pair_inside (h : Fin 8) (b : Fin 2) (p : Fin 4) :
    ((kvBufM 0).view.setOn (pairR (slot h) b p).toLoadRect.set ⊆ slotSet (slot h))
      ∧ ((kvBufM 1).view.setOn (pairR (slot h) b p).toLoadRect.set ⊆ slotSet (slot h)) := by
  constructor <;>
  · intro x hx
    obtain ⟨y, hy, rfl⟩ := Finset.mem_map.mp hx
    exact pairR_sub h b p hy

/-- The context after a pair has been put. -/
def pairF (c : Dev nD) (h : Fin 8) (a : Fin 2 × Fin 4) (f : Vec F S1024x512 .bf16) : Vec F S1024x512 .bf16 :=
  putF a.1 a.2 1 (headFun I c h a.1 a.2 1) (putF a.1 a.2 0 (headFun I c h a.1 a.2 0) f)

theorem pairF_apply (c : Dev nD) (h : Fin 8) (a : Fin 2 × Fin 4) (f : Vec F S1024x512 .bf16) (x : S1024x512.Idx) :
    pairF I c h a f x = if key x = a then ctxFun I c h x else f x := by
  obtain ⟨b, p⟩ := a
  unfold pairF
  split
  · rename_i hk
    have hs := two (side x)
    have hb : (key x).1 = b := congrArg Prod.fst hk
    have hp : (key x).2 = p := congrArg Prod.snd hk
    unfold ctxFun
    rw [hb, hp]
    rcases hs with hs | hs
    · rw [putF_off _ _ _ _ _ _ (by rw [hs]; rintro ⟨-, h⟩; exact absurd h (by decide)), putF_on _ _ _ _ _ _ hk hs, hs]
    · rw [putF_on _ _ _ _ _ _ hk hs, hs]
  · rename_i hk
    rw [putF_off _ _ _ _ _ _ (fun h => hk h.1), putF_off _ _ _ _ _ _ (fun h => hk h.1)]

/-- What a hop's computation reads and keeps. -/
def kvBoth (c : Dev nD) (h : Fin 8) : sProp 𝕄 := iprop(kvHave I c h 0 ∗ kvHave I c h 1)

theorem pair_wp (c : Dev nD) (h : Fin 8) (a : Fin 2 × Fin 4) (f : Vec F S1024x512 .bf16)
    (k : Prog (TpuEff nD τ sig (Elt F) Λ₀ .tc) PUnit) (Q : PUnit → sProp 𝕄) :
    iprop(kvBoth I c h ∗ biasPts c biasFun ∗ ctxPts c f)
      ⊢ iprop(((kvBoth I c h ∗ biasPts c biasFun ∗ ctxPts c (pairF I c h a f)) -∗ Wp c k Q)
        -∗ Wp c (pair (slot h) (queries I c h) a k) Q) := by
  unfold pair kvBoth
  rw [kvHave_eq0, kvHave_eq1]
  iintro ⟨⟨H0, H1⟩, Hb, Hc⟩ Hk
  iapply (wp_load 𝒱₀ (c : Thread nD τ) none Set.univ (m := kvBufM 0) (q := fullShare) (f := kvFun (I.kv 0 c) c h) (pair_inside h a.1 a.2).1) $$ [H0]
  · iexact H0
  iintro H0
  iapply (wp_load 𝒱₀ (c : Thread nD τ) none Set.univ (m := kvBufM 1) (q := fullShare) (f := kvFun (I.kv 1 c) c h) (pair_inside h a.1 a.2).2) $$ [H1]
  · iexact H1
  iintro H1
  unfold biasPts
  iapply (wp_load 𝒱₀ (c : Thread nD τ) none Set.univ (m := biasM) (Finset.subset_univ _)) $$ Hb
  iintro Hb
  have hb : biasM.view.readAt (Elt F) (Rect.unit (s := S512x1024) ![0, 0] S512x1024.size inb_S512x1024_S512x1024_0_0).toLoadRect biasFun
      = (biasFun : Vec F S512x1024 .f32) := Memref.readAt_unit_zero (Elt F) cc0_scratch4 (by funext i; revert i; decide) inb_S512x1024_S512x1024_0_0 biasFun
  iapply (putHead_wp c a.1 a.2 0 _ f _ Q) $$ [Hc]
  · iexact Hc
  iintro Hc
  iapply (putHead_wp c a.1 a.2 1 _ _ _ Q) $$ [Hc]
  · iexact Hc
  iintro Hc
  rw [hb]
  iapply Hk
  isplitl [H0 H1]; · isplitl [H0] <;> iassumption
  isplitl [Hb]; · iexact Hb
  iexact Hc

/-- The pairs of a list, one after another. -/
theorem pairs_wp (c : Dev nD) (h : Fin 8) (k : Prog (TpuEff nD τ sig (Elt F) Λ₀ .tc) PUnit) (Q : PUnit → sProp 𝕄)
    (l : List (Fin 2 × Fin 4)) (f : Vec F S1024x512 .bf16) :
    iprop(kvBoth I c h ∗ biasPts c biasFun ∗ ctxPts c f)
      ⊢ iprop(((kvBoth I c h ∗ biasPts c biasFun ∗ ctxPts c (l.foldl (fun f a => pairF I c h a f) f)) -∗ Wp c k Q)
        -∗ Wp c (forP (pair (slot h) (queries I c h)) l k) Q) := by
  induction l generalizing f with
  | nil =>
    iintro H Hk
    iapply Hk; iexact H
  | cons a l ih =>
    iintro H Hk
    iapply (pair_wp I c h a f _ Q) $$ H
    iintro H
    iapply (ih (pairF I c h a f)) $$ H
    iexact Hk

theorem fold_apply (c : Dev nD) (h : Fin 8) (x : S1024x512.Idx) (l : List (Fin 2 × Fin 4)) (f : Vec F S1024x512 .bf16)
    (hx : key x ∈ l ∨ f x = ctxFun I c h x) : l.foldl (fun f a => pairF I c h a f) f x = ctxFun I c h x := by
  induction l generalizing f with
  | nil => exact hx.resolve_left (by simp)
  | cons a l ih =>
    refine ih (pairF I c h a f) ?_
    rw [pairF_apply]
    by_cases e : key x = a
    · exact .inr (if_pos e)
    · rcases hx with hx | hx
      · exact .inl ((List.mem_cons.mp hx).resolve_left e)
      · exact .inr ((if_neg e).trans hx)

theorem mem_prs (a : Fin 2 × Fin 4) : a ∈ prs := by revert a; decide

/-- All eight pairs leave the hop's context. -/
theorem fold_prs (c : Dev nD) (h : Fin 8) (f : Vec F S1024x512 .bf16) : prs.foldl (fun f a => pairF I c h a f) f = ctxFun I c h :=
  funext fun x => fold_apply I c h x prs f (.inl (mem_prs _))

/-! ## The hop's contribution -/

theorem putOut_wp (c : Dev nD) (v f : FVec F S1024x768 .f32) (k : Prog (TpuEff nD τ sig (Elt F) Λ₀ .tc) PUnit) (Q : PUnit → sProp 𝕄) :
    outPts c f ⊢ iprop((outPts c v -∗ Wp c k Q) -∗ Wp c (putOut v k) Q) := by
  unfold outPts putOut
  iintro H Hk
  iapply (wp_load 𝒱₀ (c : Thread nD τ) none Set.univ (m := outM) (Finset.subset_univ _)) $$ H
  iintro H
  iapply (wp_store 𝒱₀ (c : Thread nD τ) none Set.univ (m := outM) (r := outR) (Finset.subset_univ _)) $$ H
  iintro H
  iapply Hk
  have e : (outM.access outR).write (Elt F) f v Finset.univ = v :=
    Memref.write_access_unit_zero_univ (Elt F) cc0_stg3_0 (by funext i; revert i; decide) inb_S1024x768_S1024x768_0_0 f v
  rw [e]
  iexact H

/-- The result after a hop, from the result before it. -/
def nextOut (first : Bool) (c : Dev nD) (h : Fin 8) (o : FVec F S1024x768 .f32) : FVec F S1024x768 .f32 :=
  match first with
  | true => contribAt I c h
  | false => addf (shapeCast S1024x768 o shapeCasts_S1024x768_S1024x768 : FVec F S1024x768 .f32) (contribAt I c h)

theorem finish_wp (first : Bool) (c : Dev nD) (h : Fin 8) (o : FVec F S1024x768 .f32)
    (k : Prog (TpuEff nD τ sig (Elt F) Λ₀ .tc) PUnit) (Q : PUnit → sProp 𝕄) :
    iprop(ctxPts c (ctxFun I c h) ∗ outPts c o)
      ⊢ iprop(((ctxPts c (ctxFun I c h) ∗ outPts c (nextOut I first c h o)) -∗ Wp c k Q)
        -∗ Wp c (finish first (k0_pay4 (I.wo (back c h))) k) Q) := by
  have hc : ctxM.view.readAt (Elt F) ctxR.toLoadRect (ctxFun I c h) = ctxFun I c h :=
    Memref.readAt_unit_zero (Elt F) cc0_scratch5 (by funext i; revert i; decide) inb_S1024x512_S1024x512_0_0 (ctxFun I c h)
  have ho : outM.view.readAt (Elt F) outR.toLoadRect o = o :=
    Memref.readAt_unit_zero (Elt F) cc0_stg3_0 (by funext i; revert i; decide) inb_S1024x768_S1024x768_0_0 o
  unfold ctxPts finish
  iintro ⟨Hc, Ho⟩ Hk
  iapply (wp_load 𝒱₀ (c : Thread nD τ) none Set.univ (m := ctxM) (Finset.subset_univ _)) $$ Hc
  iintro Hc
  rw [hc]
  cases first with
  | true =>
    iapply (putOut_wp c (contribAt I c h) o k Q) $$ Ho
    iintro Ho
    iapply Hk
    isplitl [Hc]; · iexact Hc
    iexact Ho
  | false =>
    unfold outPts
    iapply (wp_load 𝒱₀ (c : Thread nD τ) none Set.univ (m := outM) (Finset.subset_univ _)) $$ Ho
    iintro Ho
    rw [ho]
    iapply (putOut_wp c (nextOut I false c h o) o k Q) $$ [Ho]
    · unfold outPts; iexact Ho
    unfold outPts
    iintro Ho
    iapply Hk
    isplitl [Hc]; · iexact Hc
    iexact Ho

/-! ## The whole computation of a hop -/

theorem slot_inside (h : Fin 8) : wqH.view.setOn (hopqR h).toLoadRect.set ⊆ (wqS h).view.set ∧ woH.view.setOn (hopoR h).toLoadRect.set ⊆ (woS h).view.set :=
  ⟨((View.set_reshape _ _).trans (View.set_slice _ _)).symm.le, ((View.set_reshape _ _).trans (View.set_slice _ _)).symm.le⟩

theorem slots_eq (c : Dev nD) (h : Fin 8) (q : PosShare TreeShare) : slots I c h q
    = iprop((wqH.view.loc (c : Thread nD τ) ↦[(wqS h).view.set]{q} wqFun I c) ∗ (woH.view.loc (c : Thread nD τ) ↦[(woS h).view.set]{q} woFun I c)) := rfl

theorem compute_wp (first : Bool) (c : Dev nD) (h : Fin 8) (q : PosShare TreeShare) (o : FVec F S1024x768 .f32)
    (k : Prog (TpuEff nD τ sig (Elt F) Λ₀ .tc) PUnit) (Q : PUnit → sProp 𝕄) :
    iprop(slots I c h q ∗ xPts I c ∗ kvBoth I c h ∗ biasPts c biasFun ∗ (∃ f, ctxPts c f) ∗ outPts c o)
      ⊢ iprop(((slots I c h q ∗ xPts I c ∗ kvBoth I c h ∗ biasPts c biasFun ∗ (∃ f, ctxPts c f) ∗ outPts c (nextOut I first c h o)) -∗ Wp c k Q)
        -∗ Wp c (compute first h k) Q) := by
  have hq : wqH.view.readAt (Elt F) (hopqR h).toLoadRect (wqFun I c) = k0_pay3 (I.wq (back c h)) := funext (wqFun_slot I c h)
  have ho : woH.view.readAt (Elt F) (hopoR h).toLoadRect (woFun I c) = k0_pay4 (I.wo (back c h)) := funext (woFun_slot I c h)
  have hx : xM.view.readAt (Elt F) outR.toLoadRect (I.x c) = I.x c :=
    Memref.readAt_unit_zero (Elt F) cc0_stg0_0 (by funext i; revert i; decide) inb_S1024x768_S1024x768_0_0 (I.x c)
  rw [slots_eq]
  unfold compute
  iintro ⟨⟨Hq, Hw⟩, Hx, Hkv, Hb, ⟨%f, Hc⟩, Ho⟩ Hk
  iapply (wp_load 𝒱₀ (c : Thread nD τ) none Set.univ (m := wqH) (q := q) (f := wqFun I c) (slot_inside h).1) $$ [Hq]
  · iexact Hq
  iintro Hq
  iapply (wp_load 𝒱₀ (c : Thread nD τ) none Set.univ (m := woH) (q := q) (f := woFun I c) (slot_inside h).2) $$ [Hw]
  · iexact Hw
  iintro Hw
  unfold xPts
  iapply (wp_load 𝒱₀ (c : Thread nD τ) none Set.univ (m := xM) (Finset.subset_univ _)) $$ Hx
  iintro Hx
  rw [hq, ho, hx]
  iapply (pairs_wp I c h _ Q prs f) $$ [Hkv Hb Hc]
  · isplitl [Hkv]; · iexact Hkv
    isplitl [Hb]; · iexact Hb
    iexact Hc
  rw [fold_prs]
  iintro ⟨Hkv, Hb, Hc⟩
  iapply (finish_wp I first c h o k Q) $$ [Hc Ho]
  · isplitl [Hc]; · iexact Hc
    iexact Ho
  iintro ⟨Hc, Ho⟩
  iapply Hk
  isplitl [Hq Hw]; · isplitl [Hq]; · iexact Hq
                     iexact Hw
  isplitl [Hx]; · iexact Hx
  isplitl [Hkv]; · iexact Hkv
  isplitl [Hb]; · iexact Hb
  isplitl [Hc]; · iexists _; iexact Hc
  iexact Ho

end Cert.KernelIdeal.Walk

end
-- ==== Proof.KernelIdeal.Body.lean ====
/-
The whole body on one device: the set-up, the eight hops, and the two barriers.
-/
module

public import proofs.«01_k».proof.Proof.KernelIdeal.Compute

@[expose] public section

set_option maxRecDepth 16384

noncomputable section

namespace Cert.KernelIdeal.Walk

open Idealize.ShloMosaic Idealize.ShloMosaic.TcCoe Idealize.ShloMosaic.Rounds
open Idealize.SL Idealize.SL.RA Idealize.SL.BI
open scoped Idealize.SL.BI
open Idealize.SL.BI.BIBase Idealize.SL.Sem Cert.KernelIdeal Cert.KernelIdeal.Gen Idealize.ShloMosaic.ValueIdx

variable {F : FTy → Type} [FloatOps F] [Named F]

local notation "𝕄" => MT nD τ sig Unit (Elt F) ℕ UU ℕ

variable (I : Ins F)

/-! ## The set-up -/

theorem back_self (c : Dev nD) : back c 0 = c := back_zero c

theorem own_q (c : Dev nD) (f : Vec F S8x768x512 .bf16) :
    ∀ i ∈ (wqS 0).view.set, (wqH.access (hopqR 0)).write (Elt F) f (k0_pay3 (I.wq c)) Finset.univ i = wqFun I c i := by
  intro i hi
  obtain ⟨x, -, rfl⟩ := Finset.mem_map.mp (show i ∈ (wqH.access (hopqR 0)).set from (View.set_reshape _ _) ▸ hi)
  refine (View.write_emb_of_mem (v := wqH.access (hopqR 0)) _ _ (Finset.mem_univ x)).trans ?_
  refine Eq.trans ?_ (wqFun_slot I c 0 x).symm
  rw [back_self]; rfl
theorem own_o (c : Dev nD) (f : Vec F S8x512x768 .bf16) :
    ∀ i ∈ (woS 0).view.set, (woH.access (hopoR 0)).write (Elt F) f (k0_pay4 (I.wo c)) Finset.univ i = woFun I c i := by
  intro i hi
  obtain ⟨x, -, rfl⟩ := Finset.mem_map.mp (show i ∈ (woH.access (hopoR 0)).set from (View.set_reshape _ _) ▸ hi)
  refine (View.write_emb_of_mem (v := woH.access (hopoR 0)) _ _ (Finset.mem_univ x)).trans ?_
  refine Eq.trans ?_ (woFun_slot I c 0 x).symm
  rw [back_self]; rfl

theorem own_inside (h : Fin 8) : (wqH.access (hopqR h)).setOn Finset.univ ⊆ (wqS h).view.set ∧ (woH.access (hopoR h)).setOn Finset.univ ⊆ (woS h).view.set :=
  ⟨(View.set_reshape _ _).symm.le, (View.set_reshape _ _).symm.le⟩

theorem own_wp (c : Dev nD) (k : Prog (TpuEff nD τ sig (Elt F) Λ₀ .tc) PUnit) (Q : PUnit → sProp 𝕄) :
    iprop(wqPts I c ∗ woPts I c ∗ slotAny 0 c 0 ∗ slotAny 1 c 0)
      ⊢ iprop(((wqPts I c ∗ woPts I c ∗ slots I c 0 fullShare) -∗ Wp c k Q) -∗ Wp c (own k) Q) := by
  have hq : wqM.view.readAt (Elt F) (Rect.unit (s := S768x512) ![0, 0] S768x512.size inb_S768x512_S768x512_0_0).toLoadRect (I.wq c) = I.wq c :=
    Memref.readAt_unit_zero (Elt F) cc0_stg1_0 (by funext i; revert i; decide) inb_S768x512_S768x512_0_0 (I.wq c)
  have ho : woM.view.readAt (Elt F) (Rect.unit (s := S512x768) ![0, 0] S512x768.size inb_S512x768_S512x768_0_0).toLoadRect (I.wo c) = I.wo c :=
    Memref.readAt_unit_zero (Elt F) cc0_stg2_0 (by funext i; revert i; decide) inb_S512x768_S512x768_0_0 (I.wo c)
  rw [slots_eq]
  unfold own wqPts woPts
  rw [show slotAny (F := F) 0 c 0 = iprop(∃ f, wqH.view.loc (c : Thread nD τ) ↦[(wqS 0).view.set]{fullShare} f) from rfl,
    show slotAny (F := F) 1 c 0 = iprop(∃ f, woH.view.loc (c : Thread nD τ) ↦[(woS 0).view.set]{fullShare} f) from rfl]
  iintro ⟨Hq, Ho, ⟨%fq, Hs⟩, ⟨%fo, Ht⟩⟩ Hk
  iapply (wp_load 𝒱₀ (c : Thread nD τ) none Set.univ (m := wqM) (Finset.subset_univ _)) $$ Hq
  iintro Hq
  rw [hq]
  iapply (wp_load 𝒱₀ (c : Thread nD τ) none Set.univ (m := wqH) (q := fullShare) (f := fq) (slot_inside 0).1) $$ [Hs]
  · iexact Hs
  iintro Hs
  iapply (wp_store 𝒱₀ (c : Thread nD τ) none Set.univ (m := wqH) (r := hopqR 0) (S := (wqS 0).view.set) (f := fq) (own_inside 0).1) $$ [Hs]
  · iexact Hs
  iintro Hs
  iapply (wp_load 𝒱₀ (c : Thread nD τ) none Set.univ (m := woM) (Finset.subset_univ _)) $$ Ho
  iintro Ho
  rw [ho]
  iapply (wp_load 𝒱₀ (c : Thread nD τ) none Set.univ (m := woH) (q := fullShare) (f := fo) (slot_inside 0).2) $$ [Ht]
  · iexact Ht
  iintro Ht
  iapply (wp_store 𝒱₀ (c : Thread nD τ) none Set.univ (m := woH) (r := hopoR 0) (S := (woS 0).view.set) (f := fo) (own_inside 0).2) $$ [Ht]
  · iexact Ht
  iintro Ht
  iapply Hk
  isplitl [Hq]; · iexact Hq
  isplitl [Ho]; · iexact Ho
  isplitl [Hs]
  · iapply (Entails.of_eq (pointsTo_congr (own_q I c fq))); iexact Hs
  · iapply (Entails.of_eq (pointsTo_congr (own_o I c fo))); iexact Ht

theorem other_slot : (Finset.univ : Finset KvIdx) \ slotSet 0 = slotSet 1 := by
  ext x
  have h : (x 0).val < 2 := (x 0).isLt
  rw [Finset.mem_sdiff]
  constructor
  · rintro ⟨-, hx⟩
    refine Finset.mem_filter.mpr ⟨Finset.mem_univ _, ?_⟩
    have : ¬ (x 0).val = 0 := fun e => hx (Finset.mem_filter.mpr ⟨Finset.mem_univ _, e⟩)
    show (x 0).val = 1
    omega
  · intro hx
    refine ⟨Finset.mem_univ _, fun h0 => ?_⟩
    have a0 : (x 0).val = 0 := (Finset.mem_filter.mp h0).2
    have a1 : (x 0).val = 1 := (Finset.mem_filter.mp hx).2
    omega

/-- A buffer is its two slots. -/
theorem kvPts_slots (w : Fin 2) (c : Dev nD) (g : Vec F S2x2x4x128x1024 .bf16) :
    kvPts w c Finset.univ g ⊣⊢ iprop(kvPts w c (slotSet 0) g ∗ kvPts w c (slotSet 1) g) := by
  rw [← other_slot]
  match w with
  | 0 => exact pointsTo_split_subset (Finset.subset_univ _)
  | 1 => exact pointsTo_split_subset (Finset.subset_univ _)
theorem kvPts0 (c : Dev nD) (A : Finset KvIdx) (g : Vec F S2x2x4x128x1024 .bf16) :
    kvPts 0 c A g = ((kvBufM 0).view.loc (c : Thread nD τ) ↦[A]{fullShare} g : sProp 𝕄) := rfl
theorem kvPts1 (c : Dev nD) (A : Finset KvIdx) (g : Vec F S2x2x4x128x1024 .bf16) :
    kvPts 1 c A g = ((kvBufM 1).view.loc (c : Thread nD τ) ↦[A]{fullShare} g : sProp 𝕄) := rfl

theorem kvPts_join2 (w : Fin 2) (c : Dev nD) (f g : Vec F S2x2x4x128x1024 .bf16) :
    iprop(kvPts w c (slotSet 0) f ∗ kvPts w c (Finset.univ \ slotSet 0) g) ⊢ (kvPts w c Finset.univ ((slotSet 0).piecewise f g) : sProp 𝕄) := by
  match w with
  | 0 => exact pointsTo_join_subset (Finset.subset_univ _)
  | 1 => exact pointsTo_join_subset (Finset.subset_univ _)
theorem kvPts_join (w : Fin 2) (c : Dev nD) : iprop(kvFree c 0 w ∗ kvFree c 1 w) ⊢ (iprop(∃ g : Vec F S2x2x4x128x1024 .bf16, kvPts w c Finset.univ g) : sProp 𝕄) := by
  unfold kvFree
  rw [← other_slot]
  iintro ⟨⟨%f, -, H⟩, ⟨%g, -, H'⟩⟩
  iexists _
  iapply (kvPts_join2 w c f g)
  isplitl [H]; · iexact H
  iexact H'

theorem kvFree_zero (s w : Fin 2) (c : Dev nD) : kvPts w c (slotSet s) (k0_pay5 (F := F)) ⊢ (kvFree c s w : sProp 𝕄) := by
  unfold kvFree
  iintro H
  iexists _
  isplitr; · ipureintro; exact fun x _ => rfl
  iexact H

theorem clear_wp (w : Fin 2) (c : Dev nD) (g : Vec F S2x2x4x128x1024 .bf16) (k : Prog (TpuEff nD τ sig (Elt F) Λ₀ .tc) PUnit) (Q : PUnit → sProp 𝕄) :
    kvPts w c Finset.univ g ⊢ iprop(((kvFree c 0 w ∗ kvFree c 1 w) -∗ Wp c k Q) -∗ Wp c (clear w k) Q) := by
  have fin : kvPts w c Finset.univ (k0_pay5 (F := F)) ⊢ iprop(kvFree c 0 w ∗ kvFree c 1 w) :=
    (kvPts_slots w c _).1.trans (BI.sep_mono (kvFree_zero 0 w c) (kvFree_zero 1 w c))
  unfold clear
  match w with
  | 0 =>
    rw [kvPts0]
    iintro H Hk
    iapply (wp_load 𝒱₀ (c : Thread nD τ) none Set.univ (m := kvBufM 0) (q := fullShare) (f := g) (Finset.subset_univ _)) $$ [H]
    · iexact H
    iintro H
    iapply (wp_store 𝒱₀ (c : Thread nD τ) none Set.univ (m := kvBufM 0) (r := kvAllR) (S := Finset.univ) (f := g) (Finset.subset_univ _)) $$ [H]
    · iexact H
    rw [show ((kvBufM 0).access kvAllR).write (Elt F) g (k0_pay5 (F := F)) Finset.univ = k0_pay5 (F := F) from
      Memref.write_access_unit_zero_univ (Elt F) cc0_scratch2 (by funext i; revert i; decide) inb_S2x2x4x128x1024_S2x2x4x128x1024_0_0_0_0_0 g _]
    iintro H
    iapply Hk
    iapply fin
    rw [kvPts0]
    iexact H
  | 1 =>
    rw [kvPts1]
    iintro H Hk
    iapply (wp_load 𝒱₀ (c : Thread nD τ) none Set.univ (m := kvBufM 1) (q := fullShare) (f := g) (Finset.subset_univ _)) $$ [H]
    · iexact H
    iintro H
    iapply (wp_store 𝒱₀ (c : Thread nD τ) none Set.univ (m := kvBufM 1) (r := kvAllR) (S := Finset.univ) (f := g) (Finset.subset_univ _)) $$ [H]
    · iexact H
    rw [show ((kvBufM 1).access kvAllR).write (Elt F) g (k0_pay5 (F := F)) Finset.univ = k0_pay5 (F := F) from
      Memref.write_access_unit_zero_univ (Elt F) cc0_scratch3 (by funext i; revert i; decide) inb_S2x2x4x128x1024_S2x2x4x128x1024_0_0_0_0_0 g _]
    iintro H
    iapply Hk
    iapply fin
    rw [kvPts1]
    iexact H

/-- The mask after one half has been put. -/
def sideF (i : Fin 2) (f : Vec F S512x1024 .f32) : Vec F S512x1024 .f32 := (biasM.access (sideR i)).write (Elt F) f k0_pay9 Finset.univ

theorem mem_side (i : Fin 2) (x : S512x1024.Idx) : x ∈ (sideR i).set ↔ (x 1).val / 512 = i.val := by
  rw [Rect.mem_set_unit]
  have h0 : (x 0).val < 512 := (x 0).isLt
  constructor
  · intro h
    have a1 : 512 * i.val ≤ (x 1).val ∧ (x 1).val < 512 * i.val + 512 := h 1
    omega
  · intro h a
    match a with
    | 0 => show 0 ≤ (x 0).val ∧ (x 0).val < 0 + 512; omega
    | 1 => show 512 * i.val ≤ (x 1).val ∧ (x 1).val < 512 * i.val + 512; omega

theorem sideF_on (i : Fin 2) (f : Vec F S512x1024 .f32) (x : S512x1024.Idx) (h : (x 1).val / 512 = i.val) : sideF i f x = biasFun x := by
  have e : x = (sideR i).idx (ix2 (n0 := 512) (n1 := 512) (x 0) ⟨(x 1).val % 512, Nat.mod_lt _ (by omega)⟩) := by
    funext a
    match a with
    | 0 => exact Fin.ext (by show (x 0).val = 0 + 1 * (x 0).val; omega)
    | 1 => exact Fin.ext (by show (x 1).val = 512 * i.val + 1 * ((x 1).val % 512); omega)
  unfold sideF
  exact (congrArg _ e).trans (View.write_emb_of_mem (v := biasM.access (sideR i)) f k0_pay9 (Finset.mem_univ _))
theorem sideF_off (i : Fin 2) (f : Vec F S512x1024 .f32) (x : S512x1024.Idx) (h : ¬ (x 1).val / 512 = i.val) : sideF i f x = f x := by
  unfold sideF
  refine View.write_of_not_mem (v := biasM.access (sideR i)) f k0_pay9 Finset.univ ?_
  intro hx
  exact h ((mem_side i x).mp (by rw [← View.set_slice_whole cc0_scratch4 (sideR i)]; exact hx))

theorem sides (f : Vec F S512x1024 .f32) : sideF 1 (sideF 0 f) = biasFun := by
  funext x
  have h : (x 1).val < 1024 := (x 1).isLt
  by_cases e : (x 1).val / 512 = 1
  · exact sideF_on 1 _ x e
  · rw [sideF_off 1 _ x e]
    exact sideF_on 0 f x (by show _ = 0; omega)

theorem putBias_wp (c : Dev nD) (i : Fin 2) (f : Vec F S512x1024 .f32) (k : Prog (TpuEff nD τ sig (Elt F) Λ₀ .tc) PUnit) (Q : PUnit → sProp 𝕄) :
    biasPts c f ⊢ iprop((biasPts c (sideF i f) -∗ Wp c k Q) -∗ Wp c (putBias i k) Q) := by
  unfold biasPts putBias
  iintro H Hk
  iapply (wp_load 𝒱₀ (c : Thread nD τ) none Set.univ (m := biasM) (Finset.subset_univ _)) $$ H
  iintro H
  iapply (wp_store 𝒱₀ (c : Thread nD τ) none Set.univ (m := biasM) (r := sideR i) (Finset.subset_univ _)) $$ H
  iintro H
  iapply Hk
  iexact H

/-! ## The hops -/

def todos (c : Dev nD) (j : Fin 7) : sProp 𝕄 := iprop(todo 0 c j ∗ todo 1 c j)
def takens (c : Dev nD) (j : Fin 7) : sProp 𝕄 := iprop(taken I 0 c j ∗ taken I 1 c j)
def kvSrcs (c : Dev nD) : sProp 𝕄 := iprop(kvSrc I c 0 ∗ kvSrc I c 1)
def kvFrees (c : Dev nD) (s : Fin 2) : sProp 𝕄 := iprop(kvFree c s 0 ∗ kvFree c s 1)
def kvZero (c : Dev nD) (s : Fin 2) : sProp 𝕄 := semVal ((c : Thread nD τ), .dma (kvS s)) 0

/-- Between two hops: hop `j` is done, its sends and the next hop's heads are in flight. -/
def mid (c : Dev nD) (j : Fin 7) : sProp 𝕄 :=
  iprop((fly 0 c j ∗ fly 1 c j) ∗ slots I c j.castSucc kept ∗ owing c (Ow c (6 - j.val)) ∗ kvFly I c j.succ ∗ kvBoth I c j.castSucc
    ∗ kvZero c (slot j.castSucc) ∗ xPts I c ∗ biasPts c biasFun ∗ (∃ f, ctxPts c f) ∗ outPts c (outFun I c j.val))

theorem kvBoth_free (c : Dev nD) (h : Fin 8) : kvBoth I c h ⊢ kvFrees (F := F) c (slot h) :=
  BI.sep_mono (kvHave_free I c h 0) (kvHave_free I c h 1)

theorem firstHop_wp (K : GSem nD τ sig → ℕ) (c : Dev nD) (k : Prog (TpuEff nD τ sig (Elt F) Λ₀ .tc) PUnit) (Q : PUnit → sProp 𝕄) :
    iprop(invs I K ∗ levAts L lv ∗ todos c 0 ∗ slots I c 0 fullShare ∗ owing c (Ow c 7) ∗ kvFly I c 0 ∗ kvFrees c 1 ∗ kvZero c 1
        ∗ xPts I c ∗ biasPts c biasFun ∗ (∃ f, ctxPts c f) ∗ (∃ f, outPts c f))
      ⊢ iprop((mid I c 0 -∗ Wp c k Q) -∗ Wp c (firstHop c k) Q) := by
  unfold firstHop mid kvZero kvFrees todos
  iintro ⟨#Hinv, #Hlev, Ht, Hs, HO, Hf, Hfree, Hv1, Hx, Hb, Hc, ⟨%o, Ho⟩⟩ Hk
  iapply (sends_wp I K c 0 _ Q) $$ [Ht Hs HO]
  · isplitr; · iexact Hinv
    isplitl [Ht]; · iexact Ht
    isplitl [Hs]; · iexact Hs
    iexact HO
  iintro ⟨Hfl, Hs, HO⟩
  iapply (arrive_wp I c 0 6 (by omega) _ Q) $$ [Hf HO]
  · isplitr; · iexact Hlev
    isplitl [Hf]; · iexact Hf
    iexact HO
  iintro ⟨Hh, Hsrc, Hv0, HO⟩
  iapply (fetch_wp I c 1 _ Q) $$ [Hfree Hsrc Hv1]
  · isplitl [Hfree]; · iexact Hfree
    isplitl [Hsrc]; · iexact Hsrc
    iexact Hv1
  iintro Hf
  iapply (compute_wp I true c 0 kept o k Q) $$ [Hs Hx Hh Hb Hc Ho]
  · isplitl [Hs]; · iexact Hs
    isplitl [Hx]; · iexact Hx
    isplitl [Hh]; · unfold kvBoth; iexact Hh
    isplitl [Hb]; · iexact Hb
    isplitl [Hc]; · iexact Hc
    iexact Ho
  iintro ⟨Hs, Hx, Hh, Hb, Hc, Ho⟩
  iapply Hk
  isplitl [Hfl]; · iexact Hfl
  isplitl [Hs]; · iexact Hs
  isplitl [HO]; · iexact HO
  isplitl [Hf]; · iexact Hf
  isplitl [Hh]; · iexact Hh
  isplitl [Hv0]; · iexact Hv0
  isplitl [Hx]; · iexact Hx
  isplitl [Hb]; · iexact Hb
  isplitl [Hc]; · iexact Hc
  iexact Ho

theorem slot_two (j : Fin 6) : slot j.succ.succ = slot j.castSucc.castSucc := by revert j; decide
theorem outFun_next (c : Dev nD) (h : Fin 8) (n : ℕ) (hn : h.val = n + 1) : nextOut I false c h (outFun I c n) = outFun I c (n + 1) := by
  have e : Fin.ofNat 8 (n + 1) = h := Fin.ext (by show (n + 1) % 8 = h.val; have := h.isLt; omega)
  show addf _ (contribAt I c h) = addf _ (contribAt I c (Fin.ofNat 8 (n + 1)))
  rw [e]

theorem hop_wp (K : GSem nD τ sig → ℕ) (c : Dev nD) (j : Fin 6) (k : Prog (TpuEff nD τ sig (Elt F) Λ₀ .tc) PUnit) (Q : PUnit → sProp 𝕄) :
    iprop(invs I K ∗ levAts L lv ∗ todos c j.succ ∗ mid I c j.castSucc)
      ⊢ iprop(((takens I c j.castSucc ∗ mid I c j.succ) -∗ Wp c k Q) -∗ Wp c (hop c j k) Q) := by
  have hj := j.isLt
  have hO : 7 - j.succ.val = 6 - j.castSucc.val := by show 7 - (j.val + 1) = 6 - j.val; omega
  have hout : nextOut I false c j.succ.castSucc (outFun I c j.castSucc.val) = outFun I c j.succ.val := outFun_next I c j.succ.castSucc j.val rfl
  unfold hop mid todos takens
  iintro ⟨#Hinv, #Hlev, Ht, ⟨Hfl, Hs, HO, Hf, Hh, Hv, Hx, Hb, Hc, Ho⟩⟩ Hk
  iapply (takes_wp I K c j.castSucc _ Q) $$ [Hfl Hs HO]
  · isplitr; · iexact Hinv
    isplitr; · iexact Hlev
    isplitl [Hfl]; · iexact Hfl
    isplitl [Hs]; · iexact Hs
    iexact HO
  iintro ⟨Htk, Hs, HO⟩
  iapply (sends_wp I K c j.succ _ Q) $$ [Ht Hs HO]
  · isplitr; · iexact Hinv
    isplitl [Ht]; · iexact Ht
    isplitl [Hs]; · iexact Hs
    rw [hO]; iexact HO
  iintro ⟨Hfl, Hs, HO⟩
  iapply (arrive_wp I c j.succ.castSucc (6 - j.succ.val) (by omega) _ Q) $$ [Hf HO]
  · isplitr; · iexact Hlev
    isplitl [Hf]; · iexact Hf
    iexact HO
  iintro ⟨Hh', Hsrc, Hv', HO⟩
  ihave Hfree := (kvBoth_free I c j.castSucc.castSucc) $$ Hh
  iapply (fetch_wp I c j.succ.succ _ Q) $$ [Hfree Hsrc Hv]
  · rw [slot_two]
    isplitl [Hfree]; · unfold kvFrees; iexact Hfree
    isplitl [Hsrc]; · iexact Hsrc
    unfold kvZero; iexact Hv
  iintro Hf
  iapply (compute_wp I false c j.succ.castSucc kept _ k Q) $$ [Hs Hx Hh' Hb Hc Ho]
  · isplitl [Hs]; · iexact Hs
    isplitl [Hx]; · iexact Hx
    isplitl [Hh']; · unfold kvBoth; iexact Hh'
    isplitl [Hb]; · iexact Hb
    isplitl [Hc]; · iexact Hc
    iexact Ho
  rw [hout]
  iintro ⟨Hs, Hx, Hh, Hb, Hc, Ho⟩
  iapply Hk
  isplitl [Htk]; · iexact Htk
  isplitl [Hfl]; · iexact Hfl
  isplitl [Hs]; · iexact Hs
  isplitl [HO]; · iexact HO
  isplitl [Hf]; · iexact Hf
  isplitl [Hh]; · iexact Hh
  isplitl [Hv']; · unfold kvZero; iexact Hv'
  isplitl [Hx]; · iexact Hx
  isplitl [Hb]; · iexact Hb
  isplitl [Hc]; · iexact Hc
  iexact Ho

theorem lastHop_wp (K : GSem nD τ sig → ℕ) (c : Dev nD) (k : Prog (TpuEff nD τ sig (Elt F) Λ₀ .tc) PUnit) (Q : PUnit → sProp 𝕄) :
    iprop(invs I K ∗ levAts L lv ∗ mid I c 6)
      ⊢ iprop(((takens I c 6 ∗ slots I c 7 fullShare ∗ owing c (Ow c 0) ∗ kvFrees c 0 ∗ kvFrees c 1 ∗ kvSrcs I c ∗ kvZero c 0 ∗ kvZero c 1
          ∗ xPts I c ∗ biasPts c biasFun ∗ (∃ f, ctxPts c f) ∗ outPts c (outFun I c 7)) -∗ Wp c k Q) -∗ Wp c (lastHop c k) Q) := by
  have hout : nextOut I false c 7 (outFun I c 6) = outFun I c 7 := outFun_next I c 7 6 rfl
  unfold lastHop mid takens
  iintro ⟨#Hinv, #Hlev, ⟨Hfl, Hs, HO, Hf, Hh, Hv, Hx, Hb, Hc, Ho⟩⟩ Hk
  iapply (takes_wp I K c 6 _ Q) $$ [Hfl Hs HO]
  · isplitr; · iexact Hinv
    isplitr; · iexact Hlev
    isplitl [Hfl]; · iexact Hfl
    isplitl [Hs]; · iexact Hs
    iexact HO
  iintro ⟨Htk, Hs, HO⟩
  iapply (arrive_wp I c 7 0 (by omega) _ Q) $$ [Hf HO]
  · isplitr; · iexact Hlev
    isplitl [Hf]; · iexact Hf
    iexact HO
  iintro ⟨Hh', Hsrc, Hv', HO⟩
  ihave Hfree := (kvBoth_free I c (Fin.castSucc 6)) $$ Hh
  iapply (compute_wp I false c 7 fullShare _ k Q) $$ [Hs Hx Hh' Hb Hc Ho]
  · isplitl [Hs]; · iexact Hs
    isplitl [Hx]; · iexact Hx
    isplitl [Hh']; · unfold kvBoth; iexact Hh'
    isplitl [Hb]; · iexact Hb
    isplitl [Hc]; · iexact Hc
    iexact Ho
  iintro ⟨Hs, Hx, Hh, Hb, Hc, Ho⟩
  ihave Hfree' := (kvBoth_free I c 7) $$ Hh
  iapply Hk
  isplitl [Htk]; · iexact Htk
  isplitl [Hs]; · iexact Hs
  isplitl [HO]; · iexact HO
  isplitl [Hfree]; · iexact Hfree
  isplitl [Hfree']; · iexact Hfree'
  isplitl [Hsrc]; · unfold kvSrcs; iexact Hsrc
  isplitl [Hv]; · iexact Hv
  isplitl [Hv']; · unfold kvZero; iexact Hv'
  isplitl [Hx]; · iexact Hx
  isplitl [Hb]; · iexact Hb
  isplitl [Hc]; · iexact Hc
  rw [← hout]; iexact Ho

end Cert.KernelIdeal.Walk

end
-- ==== Proof.KernelIdeal.Device.lean ====
/-
One device's body, from what it holds on entry to what it leaves.
-/
module

public import proofs.«01_k».proof.Proof.KernelIdeal.Body

@[expose] public section

set_option maxRecDepth 16384

noncomputable section

namespace Cert.KernelIdeal.Walk

open Idealize.ShloMosaic Idealize.ShloMosaic.TcCoe Idealize.ShloMosaic.Rounds
open Idealize.SL Idealize.SL.RA Idealize.SL.BI
open scoped Idealize.SL.BI
open Idealize.SL.BI.BIBase Idealize.SL.Sem Cert.KernelIdeal Cert.KernelIdeal.Gen Idealize.ShloMosaic.ValueIdx

variable {F : FTy → Type} [FloatOps F] [Named F]

local notation "𝕄" => MT nD τ sig Unit (Elt F) ℕ UU ℕ

variable (I : Ins F)

/-! ## A ring buffer is its eight slots -/

theorem mem_q (h : Fin 8) (x : S8x768x512.Idx) : x ∈ (wqS h).view.set ↔ (x 0).val = h.val := by
  rw [show (wqS h).view.set = (hopqR h).set from (View.set_reshape _ _).trans (View.set_slice_whole cc0_scratch0 (hopqR h)), Rect.mem_set_unit]
  have h1 : (x 1).val < 768 := (x 1).isLt
  have h2 : (x 2).val < 512 := (x 2).isLt
  constructor
  · intro hx
    have a0 : h.val ≤ (x 0).val ∧ (x 0).val < h.val + 1 := hx 0
    omega
  · intro hx a
    match a with
    | 0 => show h.val ≤ (x 0).val ∧ (x 0).val < h.val + 1; omega
    | 1 => show 0 ≤ (x 1).val ∧ (x 1).val < 0 + 768; omega
    | 2 => show 0 ≤ (x 2).val ∧ (x 2).val < 0 + 512; omega
theorem mem_o (h : Fin 8) (x : S8x512x768.Idx) : x ∈ (woS h).view.set ↔ (x 0).val = h.val := by
  rw [show (woS h).view.set = (hopoR h).set from (View.set_reshape _ _).trans (View.set_slice_whole cc0_scratch1 (hopoR h)), Rect.mem_set_unit]
  have h1 : (x 1).val < 512 := (x 1).isLt
  have h2 : (x 2).val < 768 := (x 2).isLt
  constructor
  · intro hx
    have a0 : h.val ≤ (x 0).val ∧ (x 0).val < h.val + 1 := hx 0
    omega
  · intro hx a
    match a with
    | 0 => show h.val ≤ (x 0).val ∧ (x 0).val < h.val + 1; omega
    | 1 => show 0 ≤ (x 1).val ∧ (x 1).val < 0 + 512; omega
    | 2 => show 0 ≤ (x 2).val ∧ (x 2).val < 0 + 768; omega

theorem cover {α : Type} [DecidableEq α] [Fintype α] (K : Fin 8 → Finset α) (v : α → Fin 8) (hK : ∀ h x, x ∈ K h ↔ (v x).val = h.val) :
    (∀ a ∈ (Finset.univ : Finset (Fin 8)), ∀ b ∈ (Finset.univ : Finset (Fin 8)), a ≠ b → Disjoint (K a) (K b)) ∧ Finset.univ.biUnion K = Finset.univ := by
  constructor
  · intro a _ b _ hab
    rw [Finset.disjoint_left]
    intro x ha hb
    exact hab (Fin.ext (((hK a x).mp ha).symm.trans ((hK b x).mp hb)))
  · ext x
    simp only [Finset.mem_univ, iff_true]
    exact Finset.mem_biUnion.mpr ⟨v x, Finset.mem_univ _, (hK _ x).mpr rfl⟩

/-- Ring `w`'s buffer, whole, at anything. -/
def ringAny (w : Fin 2) (c : Dev nD) : sProp 𝕄 :=
  match w with
  | 0 => iprop(∃ f : Vec F S8x768x512 .bf16, ((c : Thread nD τ).loc cc0_scratch0) ↦{fullShare} f)
  | 1 => iprop(∃ f : Vec F S8x512x768 .bf16, ((c : Thread nD τ).loc cc0_scratch1) ↦{fullShare} f)

theorem loc_parts {ℓ : Loc nD τ sig} (f : Buf (Elt F) ℓ) (K : Fin 8 → Finset (Idx ℓ))
    (hK : (∀ a ∈ (Finset.univ : Finset (Fin 8)), ∀ b ∈ (Finset.univ : Finset (Fin 8)), a ≠ b → Disjoint (K a) (K b)) ∧ Finset.univ.biUnion K = Finset.univ) :
    (ℓ ↦{fullShare} f : sProp 𝕄) = bigSep Finset.univ fun h : Fin 8 => ℓ ↦[K h]{fullShare} f := by
  rw [← pointsTo_biUnion Finset.univ K hK.1, hK.2]
theorem q_slots (c : Dev nD) (f : Vec F S8x768x512 .bf16) :
    (((c : Thread nD τ).loc cc0_scratch0) ↦{fullShare} f : sProp 𝕄) = bigSep Finset.univ fun h : Fin 8 => qPts c h fullShare f :=
  loc_parts (ℓ := (c : Thread nD τ).loc cc0_scratch0) f (fun h => (wqS h).view.set) (cover _ (fun x : S8x768x512.Idx => (x 0 : Fin 8)) mem_q)
theorem o_slots (c : Dev nD) (f : Vec F S8x512x768 .bf16) :
    (((c : Thread nD τ).loc cc0_scratch1) ↦{fullShare} f : sProp 𝕄) = bigSep Finset.univ fun h : Fin 8 => oPts c h fullShare f :=
  loc_parts (ℓ := (c : Thread nD τ).loc cc0_scratch1) f (fun h => (woS h).view.set) (cover _ (fun x : S8x512x768.Idx => (x 0 : Fin 8)) mem_o)

theorem mono {J : Type} [Fintype J] {Φ Ψ : J → sProp 𝕄} (h : ∀ j, Φ j ⊢ Ψ j) : (bigSep Finset.univ Φ : sProp 𝕄) ⊢ bigSep Finset.univ Ψ :=
  bigSep_mono fun j _ => h j

theorem ring_open (w : Fin 2) (c : Dev nD) : ringAny w c ⊢ (bigSep Finset.univ fun h : Fin 8 => slotAny w c h : sProp 𝕄) := by
  match w with
  | 0 =>
    unfold ringAny
    iintro ⟨%f, H⟩
    ihave H := (Entails.of_eq (q_slots c f)) $$ H
    iapply (mono (Φ := fun h : Fin 8 => qPts c h fullShare f) (Ψ := fun h => slotAny 0 c h)
      fun h => show qPts c h fullShare f ⊢ slotAny 0 c h by unfold slotAny; iintro H; iexists f; iexact H)
    iexact H
  | 1 =>
    unfold ringAny
    iintro ⟨%f, H⟩
    ihave H := (Entails.of_eq (o_slots c f)) $$ H
    iapply (mono (Φ := fun h : Fin 8 => oPts c h fullShare f) (Ψ := fun h => slotAny 1 c h)
      fun h => show oPts c h fullShare f ⊢ slotAny 1 c h by unfold slotAny; iintro H; iexists f; iexact H)
    iexact H
theorem ring_shut (w : Fin 2) (c : Dev nD) : (bigSep Finset.univ fun h : Fin 8 => slotPts I w c h fullShare : sProp 𝕄) ⊢ ringAny w c := by
  match w with
  | 0 =>
    unfold ringAny
    iintro H
    iexists (wqFun I c)
    iapply (Entails.of_eq (q_slots c (wqFun I c)).symm)
    iexact H
  | 1 =>
    unfold ringAny
    iintro H
    iexists (woFun I c)
    iapply (Entails.of_eq (o_slots c (woFun I c)).symm)
    iexact H

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem eight_first (Φ : Fin 8 → sProp 𝕄) : bigSep Finset.univ Φ = iprop(Φ 0 ∗ bigSep Finset.univ fun j : Fin 7 => Φ j.succ) := by
  rw [eight, seven]; rfl

/-! ## What a device enters and leaves with -/

/-- Of one ring's hop: the two duties this device pays, its two positions, and its credit for what it receives. -/
def ringIn (w : Fin 2) (c : Dev nD) (j : Fin 7) : sProp 𝕄 := iprop(pend w c j ∗ reached ER (recvCell w j c) 0)

/-- What of the protocol a device enters with. -/
def protoIn (c : Dev nD) : sProp 𝕄 :=
  iprop((atPos ER (barCell c) 0 ∅ 0 ∗ cred (tallyAt (barCell c) () 2)
      ∗ dutyTok ER (barCell (left c)) 0 false ∗ dutyTok ER (barCell (right c)) 0 true
      ∗ reached ER (barCell (left c)) 0 ∗ reached ER (barCell (right c)) 0)
    ∗ (atPos ER (exitCell c) 0 ∅ 0 ∗ reached ER (exitCell c) 0 ∗ cred (tallyAt (exitCell c) () 2)
      ∗ dutyTok ER (exitCell (left c)) 0 false ∗ dutyTok ER (exitCell (right c)) 0 true)
    ∗ (bigSep Finset.univ fun j : Fin 7 => bigSep Finset.univ fun w : Fin 2 => ringIn w c j)
    ∗ kvZero c 0 ∗ kvZero c 1)

/-- The semaphores it leaves at zero. -/
def zeros (c : Dev nD) : sProp 𝕄 :=
  iprop((bigSep Finset.univ fun j : Fin 7 => bigSep Finset.univ fun w : Fin 2 => iprop(semVal (sendCell w j c) 0 ∗ semVal (recvCell w j c) 0))
    ∗ semVal (exitCell c) 0 ∗ kvZero c 0 ∗ kvZero c 1)

def scratch (c : Dev nD) : sProp 𝕄 :=
  iprop(ringAny 0 c ∗ ringAny 1 c ∗ (∃ g : Vec F S2x2x4x128x1024 .bf16, kvPts 0 c Finset.univ g) ∗ (∃ g : Vec F S2x2x4x128x1024 .bf16, kvPts 1 c Finset.univ g)
    ∗ (∃ f, biasPts c f) ∗ (∃ f, ctxPts c f))

def bodyPre (c : Dev nD) : sProp 𝕄 :=
  iprop(protoIn c ∗ owing c (O₀ c) ∗ xPts I c ∗ wqPts I c ∗ woPts I c ∗ (∃ f, outPts c f) ∗ kvSrcs I c ∗ scratch c)
def bodyPost (c : Dev nD) : sProp 𝕄 :=
  iprop(semVal (barCell c) 0 ∗ zeros c ∗ owing c 0 ∗ xPts I c ∗ wqPts I c ∗ woPts I c ∗ outPts c (outFun I c 7) ∗ kvSrcs I c ∗ scratch c)

/-- The other slots of both rings, with their receive semaphores, are what the left neighbour waits for. -/
theorem barPay_intro (c : Dev nD) :
    iprop(reached ER (exitCell c) 0 ∗ (bigSep Finset.univ fun j : Fin 7 => slotAny 0 c j.succ) ∗ (bigSep Finset.univ fun j : Fin 7 => slotAny 1 c j.succ)
        ∗ bigSep Finset.univ fun j : Fin 7 => bigSep Finset.univ fun w : Fin 2 => reached ER (recvCell w j c) 0)
      ⊢ (barPay (F := F) (left c) : sProp 𝕄) := by
  unfold barPay
  rw [right_left]
  refine BI.sep_mono (BI.Entails.refl _) ?_
  rw [← BI.bigSep_sep', ← BI.bigSep_sep']
  refine mono fun j => ?_
  rw [bigSep_univ_two, bigSep_univ_two]
  iintro ⟨H0, H1, HA, HB⟩
  isplitl [H0 HA]
  · isplitl [H0] <;> iassumption
  · isplitl [H1] <;> iassumption

theorem ringIn_split (c : Dev nD) :
    (bigSep Finset.univ fun j : Fin 7 => bigSep Finset.univ fun w : Fin 2 => ringIn w c j)
      ⊢ (iprop((bigSep Finset.univ fun j : Fin 7 => bigSep Finset.univ fun w : Fin 2 => pend w c j)
        ∗ bigSep Finset.univ fun j : Fin 7 => bigSep Finset.univ fun w : Fin 2 => reached ER (recvCell w j c) 0) : sProp 𝕄) := by
  rw [← BI.bigSep_sep']
  refine mono fun j => ?_
  rw [← BI.bigSep_sep']
  exact mono fun w => by unfold ringIn; exact BI.Entails.refl _

theorem todos_intro (c : Dev nD) :
    iprop((bigSep Finset.univ fun j : Fin 7 => bigSep Finset.univ fun w : Fin 2 => pend w c j)
        ∗ bigSep Finset.univ fun j : Fin 7 => bigSep Finset.univ fun w : Fin 2 => iprop(slotAny w (right c) j.succ ∗ reached ER (recvCell w j (right c)) 0))
      ⊢ (bigSep Finset.univ fun j : Fin 7 => todos c j : sProp 𝕄) := by
  rw [← BI.bigSep_sep']
  refine mono fun j => ?_
  rw [← BI.bigSep_sep', bigSep_univ_two]
  unfold todos todo
  exact BI.Entails.refl _

/-- The slots sent from and the last one received, whole again; and the rings' semaphores at zero. -/
theorem takens_split (c : Dev nD) :
    iprop((bigSep Finset.univ fun j : Fin 7 => takens I c j) ∗ slots I c 7 fullShare)
      ⊢ (iprop(ringAny 0 c ∗ ringAny 1 c
        ∗ bigSep Finset.univ fun j : Fin 7 => bigSep Finset.univ fun w : Fin 2 => iprop(semVal (sendCell w j c) 0 ∗ semVal (recvCell w j c) 0)) : sProp 𝕄) := by
  have h (j : Fin 7) : takens I c j ⊢ (iprop(slotPts I 0 c j.castSucc fullShare ∗ slotPts I 1 c j.castSucc fullShare
      ∗ bigSep Finset.univ fun w : Fin 2 => iprop(semVal (sendCell w j c) 0 ∗ semVal (recvCell w j c) 0)) : sProp 𝕄) := by
    rw [bigSep_univ_two]
    unfold takens taken
    iintro ⟨⟨H0, HA⟩, ⟨H1, HB⟩⟩
    isplitl [H0]; · iexact H0
    isplitl [H1]; · iexact H1
    isplitl [HA]; · iexact HA
    iexact HB
  have last (w : Fin 2) : iprop((bigSep Finset.univ fun j : Fin 7 => slotPts I w c j.castSucc fullShare) ∗ slotPts I w c 7 fullShare) ⊢ (ringAny w c : sProp 𝕄) := by
    refine BIBase.Entails.trans ?_ (ring_shut I w c)
    rw [seven, eight]
    iintro ⟨⟨H0, H1, H2, H3, H4, H5, H6⟩, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  unfold slots
  iintro ⟨H, H0, H1⟩
  ihave H := (mono h) $$ H
  ihave H := (Entails.of_eq ((BI.bigSep_sep' _ _ _).trans (congrArg _ (BI.bigSep_sep' _ _ _)))) $$ H
  icases H with ⟨HA, HB, HC⟩
  isplitl [HA H0]
  · iapply (last 0)
    isplitl [HA] <;> iassumption
  isplitl [HB H1]
  · iapply (last 1)
    isplitl [HB] <;> iassumption
  iexact HC

theorem owing_mid (c : Dev nD) : owing c (Ow c 0) ⊢ (owing c (Ow c 0) : sProp 𝕄) := BI.Entails.refl _

/-! ## The run -/

theorem dev_wp (c : Dev nD) (k : Dev nD → Prog (TpuEff nD τ sig (Elt F) Λ₀ .tc) PUnit) (Q : PUnit → sProp 𝕄) :
    Wp c (Prog.lift .deviceId >>= k) Q = Wp c (k c) Q := wp_deviceId 𝒱₀ (c : Thread nD τ) none Set.univ

theorem pure_wp (c : Dev nD) (Q : PUnit → sProp 𝕄) : Q ⟨⟩ ⊢ Wp (F := F) c (pure ⟨⟩) Q := by
  show Q ⟨⟩ ⊢ wp frame (wpE (defs₀ (F := F)) 𝒱₀ (c : Thread nD τ) none) Set.univ (.ret ⟨⟩) Q
  rw [wp_ret]
  iintro H
  imodintro
  iexact H

theorem walk_dev (c : Dev nD) (Q : PUnit → sProp 𝕄) :
    Wp c (walk (F := F)) Q = Wp c (own (clear 0 (clear 1 (forL (cpStart c 0) cps (putBias 0 (putBias 1
      (meet barSem c (firstHop c (forH (hop c) [0, 1, 2, 3, 4, 5] (lastHop c (meet exitSem c (pure ⟨⟩)))))))))))) Q :=
  by unfold walk; rw [dev_wp]

set_option maxHeartbeats 1000000 in
theorem walk_wp (K : GSem nD τ sig → ℕ) (c : Dev nD) (Q : PUnit → sProp 𝕄) :
    iprop(invs I K ∗ levAts L lv ∗ bodyPre I c) ⊢ iprop((bodyPost I c -∗ Q ⟨⟩) -∗ Wp c (walk (F := F)) Q) := by
  unfold bodyPre bodyPost protoIn scratch zeros
  rw [walk_dev]
  iintro ⟨#Hinv, #Hlev, ⟨⟨HatB, HcB, HtBL, HtBR, HrBL, HrBR⟩, ⟨HatE, #HrE, HcE, HtEL, HtER⟩, Hring, Hz0, Hz1⟩, HO, Hx, Hq, Ho, Hout, Hsrc, ⟨HR0, HR1, ⟨%g0, Hk0⟩, ⟨%g1, Hk1⟩, ⟨%b, Hb⟩, Hctx⟩⟩ Hk
  ihave HR0 := (ring_open 0 c) $$ HR0
  ihave HR1 := (ring_open 1 c) $$ HR1
  ihave HR0 := (Entails.of_eq (eight_first fun h => slotAny 0 c h)) $$ HR0
  ihave HR1 := (Entails.of_eq (eight_first fun h => slotAny 1 c h)) $$ HR1
  icases HR0 with ⟨Hs0, HR0⟩
  icases HR1 with ⟨Hs1, HR1⟩
  ihave Hring := (ringIn_split c) $$ Hring
  icases Hring with ⟨Hpend, Hrec⟩
  iapply (own_wp I c _ Q) $$ [Hq Ho Hs0 Hs1]
  · isplitl [Hq]; · iexact Hq
    isplitl [Ho]; · iexact Ho
    isplitl [Hs0]; · iexact Hs0
    iexact Hs1
  iintro ⟨Hq, Ho, Hs⟩
  iapply (clear_wp 0 c g0 _ Q) $$ Hk0
  iintro ⟨HA0, HB0⟩
  iapply (clear_wp 1 c g1 _ Q) $$ Hk1
  iintro ⟨HA1, HB1⟩
  iapply (fetch_wp I c 0 _ Q) $$ [HA0 HA1 Hsrc Hz0]
  · isplitl [HA0 HA1]
    · isplitl [HA0]; · iexact HA0
      iexact HA1
    isplitl [Hsrc]; · unfold kvSrcs; iexact Hsrc
    unfold kvZero; iexact Hz0
  iintro Hfly
  iapply (putBias_wp c 0 b _ Q) $$ Hb
  iintro Hb
  iapply (putBias_wp c 1 _ _ Q) $$ Hb
  rw [sides]
  iintro Hb
  iapply (meet_bar_wp I K c _ Q) $$ [HatB HcB HtBL HtBR HrBL HrBR HR0 HR1 Hrec HO]
  · isplitr; · iexact Hinv
    isplitr; · iexact Hlev
    isplitl [HatB]; · iexact HatB
    isplitl [HcB]; · iexact HcB
    isplitl [HtBL]; · iexact HtBL
    isplitl [HtBR]; · iexact HtBR
    isplitl [HrBL]; · iexact HrBL
    isplitl [HrBR]; · iexact HrBR
    isplitl [HR0 HR1 Hrec]
    · iapply (barPay_intro c)
      isplitr; · iexact HrE
      isplitl [HR0]; · iexact HR0
      isplitl [HR1]; · iexact HR1
      iexact Hrec
    isplitr; · unfold backPay; rw [left_right]; iexact HrE
    iexact HO
  unfold barPay backPay
  iintro ⟨HvB, ⟨⟨#HrER, Hnb⟩, #HrEL⟩, HO⟩
  ihave Ht := (todos_intro c) $$ [Hpend Hnb]
  · isplitl [Hpend]; · iexact Hpend
    iexact Hnb
  ihave Ht := (Entails.of_eq (seven fun j => todos c j)) $$ Ht
  icases Ht with ⟨Ht0, Ht1, Ht2, Ht3, Ht4, Ht5, Ht6⟩
  iapply (firstHop_wp I K c _ Q) $$ [Ht0 Hs HO Hfly HB0 HB1 Hz1 Hx Hb Hctx Hout]
  · isplitr; · iexact Hinv
    isplitr; · iexact Hlev
    isplitl [Ht0]; · iexact Ht0
    isplitl [Hs]; · iexact Hs
    isplitl [HO]; · iexact HO
    isplitl [Hfly]; · iexact Hfly
    isplitl [HB0 HB1]
    · unfold kvFrees
      isplitl [HB0] <;> iassumption
    isplitl [Hz1]; · iexact Hz1
    isplitl [Hx]; · iexact Hx
    isplitl [Hb]; · iexact Hb
    isplitl [Hctx]; · iexact Hctx
    iexact Hout
  iintro Hm
  unfold forH
  iapply (hop_wp I K c 0 _ Q) $$ [Ht1 Hm]
  · isplitr; · iexact Hinv
    isplitr; · iexact Hlev
    isplitl [Ht1]; · iexact Ht1
    iexact Hm
  iintro ⟨Hd0, Hm⟩
  unfold forH
  iapply (hop_wp I K c 1 _ Q) $$ [Ht2 Hm]
  · isplitr; · iexact Hinv
    isplitr; · iexact Hlev
    isplitl [Ht2]; · iexact Ht2
    iexact Hm
  iintro ⟨Hd1, Hm⟩
  unfold forH
  iapply (hop_wp I K c 2 _ Q) $$ [Ht3 Hm]
  · isplitr; · iexact Hinv
    isplitr; · iexact Hlev
    isplitl [Ht3]; · iexact Ht3
    iexact Hm
  iintro ⟨Hd2, Hm⟩
  unfold forH
  iapply (hop_wp I K c 3 _ Q) $$ [Ht4 Hm]
  · isplitr; · iexact Hinv
    isplitr; · iexact Hlev
    isplitl [Ht4]; · iexact Ht4
    iexact Hm
  iintro ⟨Hd3, Hm⟩
  unfold forH
  iapply (hop_wp I K c 4 _ Q) $$ [Ht5 Hm]
  · isplitr; · iexact Hinv
    isplitr; · iexact Hlev
    isplitl [Ht5]; · iexact Ht5
    iexact Hm
  iintro ⟨Hd4, Hm⟩
  unfold forH
  iapply (hop_wp I K c 5 _ Q) $$ [Ht6 Hm]
  · isplitr; · iexact Hinv
    isplitr; · iexact Hlev
    isplitl [Ht6]; · iexact Ht6
    iexact Hm
  iintro ⟨Hd5, Hm⟩
  unfold forH
  iapply (lastHop_wp I K c _ Q) $$ [Hm]
  · isplitr; · iexact Hinv
    isplitr; · iexact Hlev
    iexact Hm
  iintro ⟨Hd6, Hs, HO, Hf0, Hf1, Hsrc, Hz0, Hz1, Hx, Hb, Hctx, Hout⟩
  iapply (meet_exit_wp I K c _ Q) $$ [HatE HcE HtEL HtER HO]
  · isplitr; · iexact Hinv
    isplitl [HatE]; · iexact HatE
    isplitl [HcE]; · iexact HcE
    isplitl [HtEL]; · iexact HtEL
    isplitl [HtER]; · iexact HtER
    isplitr; · iexact HrEL
    isplitr; · iexact HrER
    iexact HO
  iintro ⟨HvE, HO⟩
  ihave Hall := (takens_split I c) $$ [Hd0 Hd1 Hd2 Hd3 Hd4 Hd5 Hd6 Hs]
  · isplitr [Hs]
    · rw [seven]
      isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      iexact Hd6
    · iexact Hs
  icases Hall with ⟨HR0, HR1, Hsems⟩
  unfold kvFrees
  icases Hf0 with ⟨HA0, HA1⟩
  icases Hf1 with ⟨HB0, HB1⟩
  iapply (pure_wp c Q)
  iapply Hk
  isplitl [HvB]; · iexact HvB
  isplitl [Hsems HvE Hz0 Hz1]
  · isplitl [Hsems]; · iexact Hsems
    isplitl [HvE]; · iexact HvE
    isplitl [Hz0] <;> iassumption
  isplitl [HO]; · iexact HO
  isplitl [Hx]; · iexact Hx
  isplitl [Hq]; · iexact Hq
  isplitl [Ho]; · iexact Ho
  isplitl [Hout]; · iexact Hout
  isplitl [Hsrc]; · iexact Hsrc
  isplitl [HR0]; · iexact HR0
  isplitl [HR1]; · iexact HR1
  isplitl [HA0 HB0]
  · iapply (kvPts_join 0 c)
    isplitl [HA0] <;> iassumption
  isplitl [HA1 HB1]
  · iapply (kvPts_join 1 c)
    isplitl [HA1] <;> iassumption
  isplitl [Hb]; · iexists _; iexact Hb
  iexact Hctx

end Cert.KernelIdeal.Walk

end
-- ==== Proof.KernelIdeal.Ghost.lean ====
/-
The launch of the protocol: every cell's invariant, every duty's token dealt to the device that pays it, the credits, and
the opening of a device's own semaphores when its kernel is entered.
-/
module

public import proofs.«01_k».proof.Proof.KernelIdeal.Device
public import Idealize.ShloMosaic.Lib.Pipeline.RegionTalk

@[expose] public section

set_option maxRecDepth 16384

noncomputable section

namespace Cert.KernelIdeal.Walk

open Idealize.ShloMosaic Idealize.ShloMosaic.TcCoe Idealize.ShloMosaic.Rounds
open Idealize.SL Idealize.SL.RA Idealize.SL.BI
open scoped Idealize.SL.BI
open Idealize.SL.BI.BIBase Idealize.SL.Sem Cert.KernelIdeal Cert.KernelIdeal.Gen Idealize.ShloMosaic.ValueIdx

variable {F : FTy → Type} [FloatOps F] [Named F]

local notation "𝕄" => MT nD τ sig Unit (Elt F) ℕ UU ℕ

variable (I : Ins F)

/-! ## The cells and the tokens -/

/-- The protocol's semaphores that live only as long as the kernel: the exit barrier; per hop and ring, send (0) and receive (1). -/
abbrev SC : Type := Unit ⊕ (Fin 7 × Fin 2 × Fin 2)
def scSem : SC → SemLoc sig
  | .inl _ => .reg exitSem
  | .inr x => if x.2.2 = 0 then .dma (ssem x.2.1 x.1) else .dma (rsem x.2.1 x.1)
theorem scSem_inj : Function.Injective scSem := by decide +kernel
theorem scSem_ne_bar : ∀ k : SC, scSem k ≠ .reg barSem := by decide +kernel

theorem sc_split (Φ : SC → sProp 𝕄) : bigSep Finset.univ Φ
    = iprop(Φ (.inl ()) ∗ bigSep Finset.univ fun j : Fin 7 => bigSep Finset.univ fun w : Fin 2 => iprop(Φ (.inr (j, w, 0)) ∗ Φ (.inr (j, w, 1)))) := by
  rw [bigSep_univ_sum, bigSep_univ_prod, bigSep_univ_of_subsingleton ()]
  refine congrArg (fun A => iprop(Φ (.inl ()) ∗ A)) (bigSep_congr fun j _ => ?_)
  rw [bigSep_univ_prod]
  exact bigSep_congr fun w _ => bigSep_univ_two _

def barEmb : Dev nD ↪ GSem nD τ sig := ⟨fun c => barCell c, fun _ _ h => congrArg (fun g : GSem nD τ sig => g.1.1) h⟩
def scEmb : Dev nD × SC ↪ GSem nD τ sig :=
  ⟨fun ck => ((ck.1 : Thread nD τ), scSem ck.2), fun _ _ h =>
    Prod.ext (congrArg (fun g : GSem nD τ sig => g.1.1) h) (scSem_inj (congrArg Prod.snd h))⟩
abbrev bars : Finset (GSem nD τ sig) := Finset.univ.map barEmb
abbrev scs : Finset (GSem nD τ sig) := Finset.univ.map scEmb

theorem disjoint_cells : Disjoint (bars : Finset (GSem nD τ sig)) scs := by
  rw [Finset.disjoint_left]
  rintro g h₁ h₂
  obtain ⟨c, -, rfl⟩ := Finset.mem_map.mp h₁
  obtain ⟨ck, -, h⟩ := Finset.mem_map.mp h₂
  exact scSem_ne_bar ck.2 (congrArg Prod.snd h)

/-- The duties of a device's own cells: of each barrier (0 the entry's, 1 the exit's) two, of each ring semaphore one. -/
abbrev TK : Type := (Fin 2 × Fin 2) ⊕ (Fin 7 × Fin 2 × Fin 2)
def tkSem : TK → SemLoc sig × Bool
  | .inl x => (if x.1 = 0 then .reg barSem else .reg exitSem, decide (x.2 = 1))
  | .inr x => (if x.2.2 = 0 then .dma (ssem x.2.1 x.1) else .dma (rsem x.2.1 x.1), false)
theorem tkSem_inj : Function.Injective tkSem := by decide +kernel
def talkToks : Finset (GSem nD τ sig × ℕ × Bool) :=
  Finset.univ.map ⟨fun ck : Dev nD × TK => (((ck.1 : Thread nD τ), (tkSem ck.2).1), 0, (tkSem ck.2).2), fun _ _ h =>
    Prod.ext (congrArg (fun t : GSem nD τ sig × ℕ × Bool => t.1.1.1) h)
      (tkSem_inj (Prod.ext (congrArg (fun t : GSem nD τ sig × ℕ × Bool => t.1.2) h) (congrArg (fun t : GSem nD τ sig × ℕ × Bool => t.2.2) h)))⟩

theorem bar_mem (c : Dev nD) : barCell c ∈ (bars ∪ scs : Finset (GSem nD τ sig)) :=
  Finset.mem_union_left _ (Finset.mem_map_of_mem barEmb (Finset.mem_univ c))
theorem exit_mem (c : Dev nD) : exitCell c ∈ (bars ∪ scs : Finset (GSem nD τ sig)) :=
  Finset.mem_union_right _ (Finset.mem_map_of_mem scEmb (Finset.mem_univ (c, (.inl () : SC))))
theorem send_mem (w : Fin 2) (j : Fin 7) (c : Dev nD) : sendCell w j c ∈ (bars ∪ scs : Finset (GSem nD τ sig)) :=
  Finset.mem_union_right _ (Finset.mem_map_of_mem scEmb (Finset.mem_univ (c, (.inr (j, w, 0) : SC))))
theorem recv_mem (w : Fin 2) (j : Fin 7) (c : Dev nD) : recvCell w j c ∈ (bars ∪ scs : Finset (GSem nD τ sig)) :=
  Finset.mem_union_right _ (Finset.mem_map_of_mem scEmb (Finset.mem_univ (c, (.inr (j, w, 1) : SC))))

/-! ## What every device may consult, and what stays with each -/

def records (K : GSem nD τ sig → ℕ) : sProp 𝕄 :=
  iprop((bigSep (bars ∪ scs) fun g => cellInv ER (talkRd I) (K g) g) ∗ bigSep bars fun g => reached ER g 0)
instance records_persistent (K : GSem nD τ sig → ℕ) : BI.Persistent (records I K) := by unfold records; infer_instance

theorem inv_at (K : GSem nD τ sig → ℕ) {g : GSem nD τ sig} (hg : g ∈ (bars ∪ scs : Finset (GSem nD τ sig))) :
    records I K ⊢ (cellInv ER (talkRd I) (K g) g : sProp 𝕄) := by
  have h : (bigSep (bars ∪ scs) fun g => (cellInv ER (talkRd I) (K g) g : sProp 𝕄)) ⊢ cellInv ER (talkRd I) (K g) g := bigSep_elim hg
  unfold records
  iintro ⟨H, -⟩
  iapply h
  iexact H
theorem reached_at (K : GSem nD τ sig → ℕ) (c : Dev nD) : records I K ⊢ (reached ER (barCell c) 0 : sProp 𝕄) := by
  have h : (bigSep bars fun g => (reached ER g 0 : sProp 𝕄)) ⊢ reached ER (barCell c) 0 :=
    bigSep_elim (Finset.mem_map_of_mem barEmb (Finset.mem_univ c))
  unfold records
  iintro ⟨-, H⟩
  iapply h
  iexact H
theorem devInvs_at (K : GSem nD τ sig → ℕ) (c : Dev nD) : records I K ⊢ (devInvs I K c : sProp 𝕄) := by
  have h (wj : Fin 2 × Fin 7) : records I K ⊢ (iprop(cellInv ER (talkRd I) (K (sendCell wj.1 wj.2 c)) (sendCell wj.1 wj.2 c)
        ∗ cellInv ER (talkRd I) (K (recvCell wj.1 wj.2 c)) (recvCell wj.1 wj.2 c)) : sProp 𝕄) := by
    iintro #H
    isplitr
    · iapply (inv_at I K (send_mem wj.1 wj.2 c)); iexact H
    · iapply (inv_at I K (recv_mem wj.1 wj.2 c)); iexact H
  unfold devInvs
  iintro #H
  isplitr; · iapply (inv_at I K (bar_mem c)); iexact H
  isplitr; · iapply (inv_at I K (exit_mem c)); iexact H
  iapply (show records I K ⊢ bigSep Finset.univ fun wj : Fin 2 × Fin 7 =>
      iprop(cellInv ER (talkRd I) (K (sendCell wj.1 wj.2 c)) (sendCell wj.1 wj.2 c)
        ∗ cellInv ER (talkRd I) (K (recvCell wj.1 wj.2 c)) (recvCell wj.1 wj.2 c)) from bigSep_intro_persistent fun wj _ => h wj)
  iexact H
theorem invs_at (K : GSem nD τ sig → ℕ) : records I K ⊢ (invs I K : sProp 𝕄) := by
  unfold invs
  exact bigSep_intro_persistent fun c _ => devInvs_at I K c

/-- The tokens of a device's own cells. -/
def toks (c : Dev nD) : sProp 𝕄 :=
  iprop(((dutyTok ER (barCell c) 0 false ∗ dutyTok ER (barCell c) 0 true) ∗ (dutyTok ER (exitCell c) 0 false ∗ dutyTok ER (exitCell c) 0 true))
    ∗ bigSep Finset.univ fun j : Fin 7 => bigSep Finset.univ fun w : Fin 2 => iprop(dutyTok ER (sendCell w j c) 0 false ∗ dutyTok ER (recvCell w j c) 0 false))
/-- The tokens of the duties it pays. -/
def dealt (c : Dev nD) : sProp 𝕄 :=
  iprop(((dutyTok ER (barCell (left c)) 0 false ∗ dutyTok ER (barCell (right c)) 0 true) ∗ (dutyTok ER (exitCell (left c)) 0 false ∗ dutyTok ER (exitCell (right c)) 0 true))
    ∗ bigSep Finset.univ fun j : Fin 7 => bigSep Finset.univ fun w : Fin 2 => iprop(dutyTok ER (sendCell w j c) 0 false ∗ dutyTok ER (recvCell w j (right c)) 0 false))
/-- The rights to open its own semaphores. -/
def opens (c : Dev nD) : sProp 𝕄 :=
  iprop(openTok ER (exitCell c) ∗ bigSep Finset.univ fun j : Fin 7 => bigSep Finset.univ fun w : Fin 2 => iprop(openTok ER (sendCell w j c) ∗ openTok ER (recvCell w j c)))
def credits (c : Dev nD) : sProp 𝕄 :=
  iprop((cred (tallyAt (barCell c) () 2) ∗ cred (tallyAt (exitCell c) () 2))
    ∗ bigSep Finset.univ fun j : Fin 7 => bigSep Finset.univ fun w : Fin 2 => cred (tallyAt (recvCell w j c) () (N w)))

theorem toks_eq : bigSep talkToks (fun x => (dutyTok ER x.1 x.2.1 x.2.2 : sProp 𝕄)) = bigSep Finset.univ fun c : Dev nD => toks c := by
  unfold talkToks; rw [bigSep_map, bigSep_univ_prod]
  refine bigSep_congr fun c _ => ?_
  rw [bigSep_univ_sum, bigSep_univ_prod, bigSep_univ_prod, bigSep_univ_two, bigSep_univ_two, bigSep_univ_two]
  unfold toks
  refine congrArg₂ BI.sep rfl (bigSep_congr fun j _ => ?_)
  rw [bigSep_univ_prod]
  exact bigSep_congr fun w _ => bigSep_univ_two _

theorem toks_around : (bigSep Finset.univ fun c : Dev nD => (toks c : sProp 𝕄)) = bigSep Finset.univ fun c : Dev nD => dealt c := by
  have hs (Φ Ψ : Fin 7 → Fin 2 → sProp 𝕄) : (bigSep Finset.univ fun j : Fin 7 => bigSep Finset.univ fun w : Fin 2 => iprop(Φ j w ∗ Ψ j w))
      = iprop((bigSep Finset.univ fun j : Fin 7 => bigSep Finset.univ fun w : Fin 2 => Φ j w) ∗ bigSep Finset.univ fun j : Fin 7 => bigSep Finset.univ fun w : Fin 2 => Ψ j w) := by
    rw [← bigSep_sep']
    exact bigSep_congr fun j _ => bigSep_sep' _ _ _
  unfold toks dealt
  simp only [hs, bigSep_sep']
  rw [bigSep_univ_equiv ring.symm (fun c : Dev nD => (dutyTok ER (barCell c) 0 false : sProp 𝕄)),
    bigSep_univ_equiv ring (fun c : Dev nD => (dutyTok ER (barCell c) 0 true : sProp 𝕄)),
    bigSep_univ_equiv ring.symm (fun c : Dev nD => (dutyTok ER (exitCell c) 0 false : sProp 𝕄)),
    bigSep_univ_equiv ring (fun c : Dev nD => (dutyTok ER (exitCell c) 0 true : sProp 𝕄)),
    bigSep_univ_equiv ring (fun c : Dev nD => (bigSep Finset.univ fun j : Fin 7 => bigSep Finset.univ fun w : Fin 2 => dutyTok ER (recvCell w j c) 0 false : sProp 𝕄))]
  rfl

theorem opens_eq : bigSep scs (fun g => (openTok ER g : sProp 𝕄)) = bigSep Finset.univ fun c : Dev nD => opens c := by
  rw [bigSep_map, bigSep_univ_prod]
  exact bigSep_congr fun c _ => sc_split _
theorem bars_eq (Φ : GSem nD τ sig → sProp 𝕄) : bigSep bars Φ = bigSep Finset.univ fun c : Dev nD => Φ (barCell c) := bigSep_map _

/-! ## The launch credit -/

theorem reg_ne_dma {c d : Dev nD} {s : Sem sig} {n : DmaSem sig} : (((c : Thread nD τ), SemLoc.reg s) : GSem nD τ sig) ≠ ((d : Thread nD τ), .dma n) :=
  fun h => by cases congrArg Prod.snd h
theorem bar_ne_exit {c d : Dev nD} : barCell c ≠ exitCell d := fun h => absurd (congrArg Prod.snd h) (show ¬ (SemLoc.reg barSem : SemLoc sig) = .reg exitSem from by decide)

theorem tally_dev (s : SemLoc sig) (c d : Dev nD) (n : ℕ) :
    (tallyAt (((d : Thread nD τ), s) : GSem nD τ sig) () n : CellTallies nD τ sig Unit) ((c : Thread nD τ), s) () = if c = d then n else 0 := by
  rw [tallyAt_apply]
  by_cases h : c = d
  · subst h; rw [if_pos ⟨rfl, rfl⟩, if_pos rfl]
  · rw [if_neg (fun ⟨h1, _⟩ => h (congrArg (fun g : GSem nD τ sig => g.1.1) h1)), if_neg h]

theorem tally_recv (w w' : Fin 2) (j j' : Fin 7) (c d : Dev nD) (n : ℕ) :
    (tallyAt (recvCell w' j' d) () n : CellTallies nD τ sig Unit) (recvCell w j c) () = if w = w' ∧ j = j' ∧ c = d then n else 0 := by
  rw [tallyAt_apply]
  refine if_congr ⟨fun ⟨h, _⟩ => ?_, fun ⟨h1, h2, h3⟩ => by subst h1 h2 h3; exact ⟨rfl, rfl⟩⟩ rfl rfl
  have hs : rsem w j = rsem w' j' := SemLoc.dma.inj (congrArg Prod.snd h)
  have ho : (w, true, j) = (w', true, j') := (ofSem_recv w j).symm.trans ((congrArg ofSem hs).trans (ofSem_recv w' j'))
  exact ⟨congrArg Prod.fst ho, congrArg (fun x : Fin 2 × Bool × Fin 7 => x.2.2) ho, congrArg (fun g : GSem nD τ sig => g.1.1) h⟩

theorem Ow_reg (d c : Dev nD) (s : Sem sig) (k : ℕ) : Ow d k ((c : Thread nD τ), .reg s) () = Oexit d ((c : Thread nD τ), .reg s) () := by
  induction k with
  | zero => rfl
  | succ k ih =>
    show Ow d k _ () + tallyAt _ () _ _ () + tallyAt _ () _ _ () = _
    rw [tallyAt_ne_cell reg_ne_dma, tallyAt_ne_cell reg_ne_dma, ih]; rfl
theorem Ow_recv (d c : Dev nD) (w : Fin 2) (j : Fin 7) (k : ℕ) (hk : k ≤ 7) :
    Ow d k (recvCell w j c) () = if c = right d ∧ 7 - k ≤ j.val then N w else 0 := by
  induction k with
  | zero =>
    show tallyAt _ () _ _ () + tallyAt _ () _ _ () = _
    rw [tallyAt_ne_cell reg_ne_dma.symm, tallyAt_ne_cell reg_ne_dma.symm, if_neg (fun h => by have := h.2; have := j.isLt; omega)]; rfl
  | succ k ih =>
    show Ow d k _ () + tallyAt _ () _ _ () + tallyAt _ () _ _ () = _
    have hj : j = Fin.ofNat 7 (6 - k) ↔ j.val = 6 - k := by
      rw [Fin.ext_iff]; show j.val = (6 - k) % 7 ↔ _; rw [Nat.mod_eq_of_lt (by omega)]
    rw [tally_recv, tally_recv, ih (by omega)]
    simp only [hj]
    by_cases hc : c = right d
    · have h01 : ¬ (0 : Fin 2) = 1 := by decide
      have h10 : ¬ (1 : Fin 2) = 0 := by decide
      match w with
      | 0 => simp only [hc, true_and, and_true, h01, false_and, if_false]; split_ifs <;> omega
      | 1 => simp only [hc, true_and, and_true, h10, false_and, if_false]; split_ifs <;> omega
    · simp only [hc, false_and, and_false, if_false]

theorem two_neighbours (c : Dev nD) : (∑ d : Dev nD, ((if c = right d then 1 else 0) + if c = left d then 1 else 0) : ℕ) = 2 := by
  revert c; decide

theorem owed_bar (d c : Dev nD) : O₀ d (barCell c) () = (if c = right d then 1 else 0) + if c = left d then 1 else 0 := by
  show Ow d 7 (barCell c) () + tallyAt (barCell (right d)) () 1 (barCell c) () + tallyAt (barCell (left d)) () 1 (barCell c) () = _
  rw [Ow_reg, tally_dev, tally_dev]
  show tallyAt _ () _ _ () + tallyAt _ () _ _ () + _ + _ = _
  rw [tallyAt_ne_cell bar_ne_exit, tallyAt_ne_cell bar_ne_exit]
  exact congrArg (· + _) (Nat.zero_add _)
theorem owed_exit (d c : Dev nD) : O₀ d (exitCell c) () = (if c = right d then 1 else 0) + if c = left d then 1 else 0 := by
  show Ow d 7 (exitCell c) () + tallyAt (barCell (right d)) () 1 (exitCell c) () + tallyAt (barCell (left d)) () 1 (exitCell c) () = _
  rw [Ow_reg, tallyAt_ne_cell bar_ne_exit.symm, tallyAt_ne_cell bar_ne_exit.symm]
  show tallyAt _ () _ _ () + tallyAt _ () _ _ () + _ + _ = _
  rw [tally_dev, tally_dev]; rfl
theorem owed_recv (d c : Dev nD) (w : Fin 2) (j : Fin 7) : O₀ d (recvCell w j c) () = if d = left c then N w else 0 := by
  show Ow d 7 (recvCell w j c) () + tallyAt (barCell (right d)) () 1 (recvCell w j c) () + tallyAt (barCell (left d)) () 1 (recvCell w j c) () = _
  rw [Ow_recv d c w j 7 (le_refl _), tallyAt_ne_cell reg_ne_dma.symm, tallyAt_ne_cell reg_ne_dma.symm]
  have h : (c = right d ∧ 7 - 7 ≤ j.val) ↔ d = left c :=
    ⟨fun h => by rw [h.1, left_right], fun h => ⟨by rw [h, right_left], by omega⟩⟩
  simp only [h]; rfl

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The semaphores the launch credits: the two barriers and the receive semaphores. -/
abbrev CK : Type := Fin 2 ⊕ (Fin 7 × Fin 2)
def ckSem : CK → SemLoc sig
  | .inl b => if b = 0 then .reg barSem else .reg exitSem
  | .inr x => .dma (rsem x.2 x.1)
theorem ckSem_inj : Function.Injective ckSem := by decide +kernel

theorem creds (c : Dev nD) : (Pipeline.launchCred O₀ c : sProp 𝕄) ⊢ credits c := by
  have h1 : (Pipeline.launchCred O₀ c : sProp 𝕄) ⊢ bigSep (Finset.univ.map ⟨ckSem, ckSem_inj⟩)
      (fun sm => (cred (tallyOn ((c : Thread nD τ), sm) (launchCredit (Pipeline.owing O₀) 0 ((c : Thread nD τ), sm))) : sProp 𝕄)) := by
    unfold Pipeline.launchCred
    exact bigSep_subset (Finset.subset_univ _)
  refine h1.trans (Entails.of_eq ?_)
  rw [bigSep_map, bigSep_univ_sum, bigSep_univ_prod, bigSep_univ_two]
  unfold credits
  refine congrArg₂ BI.sep (congrArg₂ BI.sep ?_ ?_) (bigSep_congr fun j _ => bigSep_congr fun w _ => ?_)
  · exact congrArg cred (launch_at (barCell c) 2 ((Finset.sum_congr rfl fun d _ => owed_bar d c).trans (two_neighbours c)))
  · exact congrArg cred (launch_at (exitCell c) 2 ((Finset.sum_congr rfl fun d _ => owed_exit d c).trans (two_neighbours c)))
  · exact congrArg cred (launch_at (recvCell w j c) (N w) ((Finset.sum_congr rfl fun d _ => owed_recv d c w j).trans
      ((Finset.sum_ite_eq' Finset.univ (left c) fun _ => N w).trans (if_pos (Finset.mem_univ _)))))

/-! ## Entering the kernel -/

/-- What the launch leaves with a device until its kernel is entered. -/
def start (c : Dev nD) : sProp 𝕄 :=
  iprop((∃ K, records I K ∗ atPos ER (barCell c) 0 ∅ 0 ∗ opens c ∗ dealt c) ∗ credits c)
/-- The kernel's own semaphores: the two of the head copies, and the protocol's. -/
abbrev KK : Type := Fin 2 ⊕ SC
def ownSem : KK → SemLoc sig
  | .inl s => .dma (kvS s)
  | .inr k => scSem k
def entered (c : Dev nD) : sProp 𝕄 := iprop((∃ K, invs I K ∗ protoIn c) ∗ levAts L lv)

theorem ownSems_eq (c : Dev nD) : (Pipeline.ownSems0 ownSem c : sProp 𝕄)
    = iprop((kvZero c 0 ∗ kvZero c 1) ∗ semVal (exitCell c) 0
      ∗ bigSep Finset.univ fun j : Fin 7 => bigSep Finset.univ fun w : Fin 2 => iprop(semVal (sendCell w j c) 0 ∗ semVal (recvCell w j c) 0)) := by
  unfold Pipeline.ownSems0
  rw [bigSep_univ_sum, bigSep_univ_two, sc_split]
  rfl

theorem open_at (K : GSem nD τ sig → ℕ) (g : GSem nD τ sig) (hg : g ∈ (bars ∪ scs : Finset (GSem nD τ sig))) :
    iprop(records I K ∗ openTok ER g ∗ semVal g 0) ⊢ (|={Set.univ}=> iprop(atPos ER g 0 ∅ 0 ∗ reached ER g 0) : sProp 𝕄) := by
  iintro ⟨#H, Ho, Hv⟩
  imod (Rounds.cell_open ER (talkRd I) (g := g) (Set.mem_univ (K g))) $$ [Ho Hv] with ⟨Ha, #Hr⟩
  · isplitr; · iapply (inv_at I K hg); iexact H
    isplitl [Ho] <;> iassumption
  imodintro
  isplitl [Ha]; · iexact Ha
  iexact Hr

theorem open_ring (K : GSem nD τ sig → ℕ) (c : Dev nD) (j : Fin 7) (w : Fin 2) :
    iprop(records I K ∗ ((openTok ER (sendCell w j c) ∗ openTok ER (recvCell w j c)) ∗ (semVal (sendCell w j c) 0 ∗ semVal (recvCell w j c) 0)
      ∗ (dutyTok ER (sendCell w j c) 0 false ∗ dutyTok ER (recvCell w j (right c)) 0 false) ∗ cred (tallyAt (recvCell w j c) () (N w))))
      ⊢ (|={Set.univ}=> ringIn w c j : sProp 𝕄) := by
  unfold ringIn pend
  iintro ⟨#H, ⟨HoS, HoR⟩, ⟨HvS, HvR⟩, ⟨HtS, HtR⟩, Hc⟩
  imod (open_at I K (sendCell w j c) (send_mem w j c)) $$ [HoS HvS] with ⟨HaS, #HrS⟩
  · isplitr; · iexact H
    isplitl [HoS] <;> iassumption
  imod (open_at I K (recvCell w j c) (recv_mem w j c)) $$ [HoR HvR] with ⟨HaR, #HrR⟩
  · isplitr; · iexact H
    isplitl [HoR] <;> iassumption
  imodintro
  isplitl
  · isplitl [HtS]; · iexact HtS
    isplitl [HtR]; · iexact HtR
    isplitr; · iexact HrS
    isplitl [HaS]; · iexact HaS
    isplitl [HaR]; · iexact HaR
    iexact Hc
  iexact HrR

theorem open_rings (K : GSem nD τ sig → ℕ) (c : Dev nD) :
    iprop(records I K
      ∗ (bigSep Finset.univ fun j : Fin 7 => bigSep Finset.univ fun w : Fin 2 => iprop(openTok ER (sendCell w j c) ∗ openTok ER (recvCell w j c)))
      ∗ (bigSep Finset.univ fun j : Fin 7 => bigSep Finset.univ fun w : Fin 2 => iprop(semVal (sendCell w j c) 0 ∗ semVal (recvCell w j c) 0))
      ∗ (bigSep Finset.univ fun j : Fin 7 => bigSep Finset.univ fun w : Fin 2 => iprop(dutyTok ER (sendCell w j c) 0 false ∗ dutyTok ER (recvCell w j (right c)) 0 false))
      ∗ (bigSep Finset.univ fun j : Fin 7 => bigSep Finset.univ fun w : Fin 2 => cred (tallyAt (recvCell w j c) () (N w))))
      ⊢ (|={Set.univ}=> bigSep Finset.univ fun j : Fin 7 => bigSep Finset.univ fun w : Fin 2 => ringIn w c j : sProp 𝕄) := by
  rw [← bigSep_sep', ← bigSep_sep', ← bigSep_sep']
  refine BIBase.Entails.trans (bigSep_with_persistent (R := records I K) (Ψ := fun j : Fin 7 =>
    (iprop(|={Set.univ}=> bigSep Finset.univ fun w : Fin 2 => ringIn w c j) : sProp 𝕄)) fun j _ => ?_) (bigSep_fupd _ _)
  rw [← bigSep_sep', ← bigSep_sep', ← bigSep_sep']
  exact BIBase.Entails.trans (bigSep_with_persistent (R := records I K) (Ψ := fun w : Fin 2 =>
    (iprop(|={Set.univ}=> ringIn w c j) : sProp 𝕄)) fun w _ => open_ring I K c j w) (bigSep_fupd _ _)

theorem hopen (c : Dev nD) : iprop(start I c ∗ Pipeline.ownSems0 ownSem c ∗ levAts L lv) ⊢ (|={Set.univ}=> entered I c : sProp 𝕄) := by
  rw [ownSems_eq]
  unfold start entered opens dealt credits protoIn
  iintro ⟨⟨⟨%K, #H, Ha, ⟨HoE, Ho⟩, ⟨⟨⟨HtBL, HtBR⟩, ⟨HtEL, HtER⟩⟩, Ht⟩⟩, ⟨⟨HcB, HcE⟩, Hc⟩⟩, ⟨⟨Hz0, Hz1⟩, HvE, Hv⟩, #Hlev⟩
  imod (open_at I K (exitCell c) (exit_mem c)) $$ [HoE HvE] with ⟨HaE, #HrE⟩
  · isplitr; · iexact H
    isplitl [HoE] <;> iassumption
  imod (open_rings I K c) $$ [Ho Hv Ht Hc] with Hring
  · isplitr; · iexact H
    isplitl [Ho]; · iexact Ho
    isplitl [Hv]; · iexact Hv
    isplitl [Ht]; · iexact Ht
    iexact Hc
  imodintro
  isplitl
  · iexists K
    isplitr; · iapply (invs_at I K); iexact H
    isplitl [Ha HcB HtBL HtBR]
    · isplitl [Ha]; · iexact Ha
      isplitl [HcB]; · iexact HcB
      isplitl [HtBL]; · iexact HtBL
      isplitl [HtBR]; · iexact HtBR
      isplitr; · iapply (reached_at I K (left c)); iexact H
      iapply (reached_at I K (right c)); iexact H
    isplitl [HaE HcE HtEL HtER]
    · isplitl [HaE]; · iexact HaE
      isplitr; · iexact HrE
      isplitl [HcE]; · iexact HcE
      isplitl [HtEL]; · iexact HtEL
      iexact HtER
    isplitl [Hring]; · iexact Hring
    isplitl [Hz0]; · iexact Hz0
    iexact Hz1
  iexact Hlev

end Cert.KernelIdeal.Walk

end
-- ==== Proof.KernelIdeal.Region.lean ====
/-
The kernel's region of the program: what its operands hold when it is entered, what it leaves, and its record, which takes
the whole body's run as the obligation of its single point.
-/
module

public import proofs.«01_k».proof.Proof.KernelIdeal.Ghost
public import proofs.«01_k».proof.Proof.Gen.KernelIdeal.Regions

@[expose] public section

set_option maxRecDepth 16384

noncomputable section

namespace Cert.KernelIdeal.Walk

open Idealize.ShloMosaic Idealize.ShloMosaic.TcCoe Idealize.ShloMosaic.Rounds
open Idealize.SL Idealize.SL.RA Idealize.SL.BI
open scoped Idealize.SL.BI
open Idealize.SL.BI.BIBase Idealize.SL.Sem Cert.KernelIdeal Cert.KernelIdeal.Gen Idealize.ShloMosaic.ValueIdx

variable {F : FTy → Type} [FloatOps F] [Named F]

local notation "𝕄" => MT nD τ sig Unit (Elt F) ℕ UU ℕ

open Idealize.ShloMosaic.Pipeline (Dat BodyObligation)

variable (m : (ℓ : Loc nD τ sig) → Buf (Elt F) ℓ)

/-! ## What the kernel finds and what it leaves -/

/-- The operands, as the host operations before the kernel leave them. -/
def ins : Ins F where
  x c := V1 m c main_v20
  wq c := V1 m c main_arg1
  wo c := V1 m c main_v21
  kv w c := match w with | 0 => V1 m c main_v11 | 1 => V1 m c main_v18
/-- What the kernel leaves: its result, and everything else as it was. -/
def outs : Outs (F := F) := fun _ r c => Function.update (V1 m c) (Proc.devRef .tc main_v22) (outFun (ins m) c 7) (Proc.devRef .tc r)

theorem outs_v22 (c : Dev nD) : outs m 2 main_v22 c = outFun (ins m) c 7 := Function.update_self ..
theorem outs_ne (r : Ref sig .tc) (h : r ≠ main_v22) (c : Dev nD) : outs m 2 r c = V1 m c r :=
  Function.update_of_ne (StableHlo.devRef_ne_of_ne h) _ _
theorem V2_v11 (c : Dev nD) : V2 m (outs m) c main_v11 = V1 m c main_v11 := by
  have h : (Proc.devRef .tc main_v11 : DevRef τ sig) ≠ Proc.devRef .tc main_v18 := StableHlo.devRef_ne_of_ne (by decide)
  simp only [V2, Function.update_of_ne h, Function.update_self]
  exact outs_ne m main_v11 (by decide) c
theorem V2_v18 (c : Dev nD) : V2 m (outs m) c main_v18 = V1 m c main_v18 := by
  simp only [V2, Function.update_self]
  exact outs_ne m main_v18 (by decide) c
theorem V2_v22 (c : Dev nD) : V2 m (outs m) c main_v22 = outFun (ins m) c 7 := by
  have h : (Proc.devRef .tc main_v22 : DevRef τ sig) ≠ Proc.devRef .tc main_v18 := StableHlo.devRef_ne_of_ne (by decide)
  have h' : (Proc.devRef .tc main_v22 : DevRef τ sig) ≠ Proc.devRef .tc main_v11 := StableHlo.devRef_ne_of_ne (by decide)
  simp only [V2, Function.update_of_ne h, Function.update_of_ne h', Function.update_self]
  exact outs_v22 m c

/-! ## The region's data -/

def stateIn (c : Dev nD) : sProp 𝕄 := iprop(entered (ins m) c ∗ kvSrcs (ins m) c ∗ scratch c ∗ ∃ r, prngReg c r)
def stateOut (c : Dev nD) : sProp 𝕄 := iprop(semVal (barCell c) 0 ∗ zeros c ∗ kvSrcs (ins m) c ∗ scratch c ∗ ∃ r, prngReg c r)

def dat0 (c : Dev nD) : Dat τ (Elt F) Unit ℕ UU ℕ cfg0 c where
  A w := V1 m c (Proc.devRef .tc (Pipeline.arrRef spec0 w))
  after w _ := match w with
    | ⟨0, _⟩ => (ins m).x c
    | ⟨1, _⟩ => (ins m).wq c
    | ⟨2, _⟩ => (ins m).wo c
    | ⟨3, _⟩ => outFun (ins m) c 7
  Φ t := if t.val = 0 then stateIn m c else stateOut m c
  q _ := fullShare
  owed t := if t.val = 0 then O₀ c else 0

def pdats : (p : Fin 1) → (c : Dev nD) → Dat τ (Elt F) Unit ℕ UU ℕ (cfgs p) c
  | 0 => dat0 m

/-- A window over a whole array moves the array as it is. -/
theorem emb0 (y) : ((cfg0.win 0).blk t0_0).view.emb y = y :=
  funext fun a => Fin.ext (Pipeline.Window.rect_emb_val_of_index_zero (cfg0.win 0) t0_0 a rfl y)
theorem emb1 (y) : ((cfg0.win 1).blk t0_0).view.emb y = y :=
  funext fun a => Fin.ext (Pipeline.Window.rect_emb_val_of_index_zero (cfg0.win 1) t0_0 a rfl y)
theorem emb2 (y) : ((cfg0.win 2).blk t0_0).view.emb y = y :=
  funext fun a => Fin.ext (Pipeline.Window.rect_emb_val_of_index_zero (cfg0.win 2) t0_0 a rfl y)
theorem emb3 (y) : ((cfg0.win 3).blk t0_0).view.emb y = y :=
  funext fun a => Fin.ext (Pipeline.Window.rect_emb_val_of_index_zero (cfg0.win 3) t0_0 a rfl y)

theorem before0 (c : Dev nD) (d) : (dat0 m c).before 0 t0_0 d = (ins m).x c := by
  rw [Dat.before_fetched _ _ _ (fetch0_0 t0_0)]
  refine funext fun y => ?_
  refine ((cfg0.win 0).fill_xinj (cfg0.grid.coords t0_0) d ((dat0 m c).blockOf 0 t0_0) y).trans ?_
  exact congrArg ((ins m).x c) (emb0 y)
theorem before1 (c : Dev nD) (d) : (dat0 m c).before 1 t0_0 d = (ins m).wq c := by
  rw [Dat.before_fetched _ _ _ (fetch0_1 t0_0)]
  refine funext fun y => ?_
  refine ((cfg0.win 1).fill_xinj (cfg0.grid.coords t0_0) d ((dat0 m c).blockOf 1 t0_0) y).trans ?_
  exact congrArg ((ins m).wq c) (emb1 y)
theorem before2 (c : Dev nD) (d) : (dat0 m c).before 2 t0_0 d = (ins m).wo c := by
  rw [Dat.before_fetched _ _ _ (fetch0_2 t0_0)]
  refine funext fun y => ?_
  refine ((cfg0.win 2).fill_xinj (cfg0.grid.coords t0_0) d ((dat0 m c).blockOf 2 t0_0) y).trans ?_
  exact congrArg ((ins m).wo c) (emb2 y)

theorem arrAt_out (c : Dev nD) : (dat0 m c).arrAt 3 cfg0.N = outFun (ins m) c 7 := by
  have h := (dat0 m c).arrAt_succ 3 t0_0
  rw [if_pos (flush0_3 t0_0)] at h
  refine (show (dat0 m c).arrAt 3 cfg0.N = (dat0 m c).arrAt 3 (t0_0.val + 1) from congrArg ((dat0 m c).arrAt 3) N_0).trans (h.trans ?_)
  refine funext fun y => ?_
  have hw := View.write_emb_of_mem (v := ((cfg0.win 3).blk t0_0).view) ((dat0 m c).arrAt 3 t0_0) ((dat0 m c).flushed 3 t0_0) (x := y) (Finset.mem_univ _)
  exact (congrArg (((cfg0.win 3).blk t0_0).view.write (Elt F) ((dat0 m c).arrAt 3 t0_0) ((dat0 m c).flushed 3 t0_0) Finset.univ) (emb3 y).symm).trans hw

theorem owed_first (c : Dev nD) : (dat0 m c).owed t0_0.castSucc = O₀ c := by
  show (if (t0_0.castSucc : Fin (cfg0.N + 1)).val = 0 then O₀ c else 0) = O₀ c
  exact if_pos rfl
theorem owed_zero (c : Dev nD) : (pdats m 0 c).owed 0 = O₀ c := by
  show (if (0 : Fin (cfg0.N + 1)).val = 0 then O₀ c else 0) = O₀ c
  exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]
theorem owed_succ (c : Dev nD) : (dat0 m c).owed t0_0.succ = 0 := by
  show (if (t0_0.succ : Fin (cfg0.N + 1)).val = 0 then O₀ c else 0) = 0
  exact if_neg (Nat.succ_ne_zero _)
theorem state_last (c : Dev nD) : (pdats m 0 c).Φ (Fin.last _) = stateOut m c := by
  show (if (Fin.last cfg0.N).val = 0 then stateIn m c else stateOut m c) = _
  rw [Fin.val_last, if_neg (by rw [show cfg0.N = 1 from N_0]; decide)]
theorem state_zero (c : Dev nD) : (pdats m 0 c).Φ 0 = stateIn m c := by
  show (if (0 : Fin (cfg0.N + 1)).val = 0 then stateIn m c else stateOut m c) = _
  exact if_pos rfl
theorem state_first (c : Dev nD) : (dat0 m c).Φ t0_0.castSucc = stateIn m c := by
  show (if (t0_0.castSucc : Fin (cfg0.N + 1)).val = 0 then stateIn m c else stateOut m c) = _
  exact if_pos rfl
theorem state_succ (c : Dev nD) : (dat0 m c).Φ t0_0.succ = stateOut m c := by
  show (if (t0_0.succ : Fin (cfg0.N + 1)).val = 0 then stateIn m c else stateOut m c) = _
  exact if_neg (Nat.succ_ne_zero _)

theorem owesAt_intro {c : Dev nD} (t : Fin (cfg0.N + 1)) (O : CellTallies nD τ sig Unit) (h0 : (dat0 m c).owed t = O) :
    (owing c O : sProp 𝕄) ⊢ ((dat0 m c).owesAt () t : sProp 𝕄) := by
  unfold owing Dat.owesAt Pipeline.owesWithin Dat.bound; rw [h0]
  iintro ⟨%W, HO⟩; iexists W; isplitr; · ipureintro; exact fun _ _ => Or.inl trivial
  iexact HO
theorem owesAt_elim {c : Dev nD} (t : Fin (cfg0.N + 1)) (O : CellTallies nD τ sig Unit) (h0 : (dat0 m c).owed t = O) :
    ((dat0 m c).owesAt () t : sProp 𝕄) ⊢ (owing c O : sProp 𝕄) := by
  unfold owing Dat.owesAt Pipeline.owesWithin; rw [h0]
  iintro ⟨%W, -, HO⟩; iexists W; iexact HO

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]
theorem owns_intro (c : Dev nD) (b : Ref sig .tc) (X : b.ty.Contents (Elt F)) :
    ((((c : Thread nD τ).loc b) ↦{fullShare} X : sProp 𝕄)) ⊢ (owns (Ix := Unit) (Name := ℕ) (U := UU) (Lvl := ℕ) (c : Thread nD τ) (Memref.whole b) fullShare X : sProp 𝕄) := by
  rw [owns_whole_eq]
  iintro H; iexists X; isplitr; · ipureintro; rfl
  iexact H
theorem owns_elim (c : Dev nD) (b : Ref sig .tc) (X Y : b.ty.Contents (Elt F)) (h : X = Y) :
    (owns (Ix := Unit) (Name := ℕ) (U := UU) (Lvl := ℕ) (c : Thread nD τ) (Memref.whole b) fullShare X : sProp 𝕄) ⊢ (((c : Thread nD τ).loc b) ↦{fullShare} Y : sProp 𝕄) := by
  rw [owns_whole_eq]; subst h
  iintro ⟨%f, %hf, H⟩; rw [hf]; iexact H

theorem prog_eq : defs₀ (F := F) .tc cfg0.body (cfg0.bodyArgs t0_0 (cfg0.slots t0_0)) = walk :=
  (show _ = bodyAt0 t0_0 from rfl).trans (body_eq t0_0)

/-- The point's obligation is the body's run. -/
theorem body0 (c : Dev nD) : BodyObligation (dat0 m c) defs₀ 𝒱₀ () Set.univ := fun t => by
  obtain rfl := fin_N0 t
  rw [bigSep_W0, bigSep_W0]
  rw [state_first, state_succ]
  rw [prog_eq]
  unfold stateIn stateOut entered
  iintro ⟨⟨⟨⟨%K, #HI, Hp⟩, #Hlev⟩, Hkv, Hs, Hreg⟩, HO, ⟨%d0, H0⟩, ⟨%d1, H1⟩, ⟨%d2, H2⟩, ⟨%d3, H3⟩⟩
  ihave HO := (owesAt_elim m _ (O₀ c) (owed_first m c)) $$ HO
  ihave H0 := (owns_elim c cc0_stg0_0 _ _ (before0 m c d0)) $$ H0
  ihave H1 := (owns_elim c cc0_stg1_0 _ _ (before1 m c d1)) $$ H1
  ihave H2 := (owns_elim c cc0_stg2_0 _ _ (before2 m c d2)) $$ H2
  ihave H3 := (owns_elim c cc0_stg3_0 _ _ rfl) $$ H3
  iapply (walk_wp (ins m) K c _) $$ [Hp HO H0 H1 H2 H3 Hkv Hs]
  · isplitr; · iexact HI
    isplitr; · iexact Hlev
    unfold bodyPre xPts wqPts woPts outPts
    isplitl [Hp]; · iexact Hp
    isplitl [HO]; · iexact HO
    isplitl [H0]; · iexact H0
    isplitl [H1]; · iexact H1
    isplitl [H2]; · iexact H2
    isplitl [H3]; · iexists _; iexact H3
    isplitl [Hkv] <;> iassumption
  unfold bodyPost xPts wqPts woPts outPts
  iintro ⟨Hb, Hz, HO, H0, H1, H2, H3, Hkv, Hs⟩
  isplitl [Hb Hz Hkv Hs Hreg]
  · isplitl [Hb]; · iexact Hb
    isplitl [Hz]; · iexact Hz
    isplitl [Hkv]; · iexact Hkv
    isplitl [Hs] <;> iassumption
  isplitl [HO]; · iapply (owesAt_intro m t0_0.succ 0 (owed_succ m c)); iexact HO
  isplitl [H0]; · iapply (owns_intro c cc0_stg0_0 ((ins m).x c)); iexact H0
  isplitl [H1]; · iapply (owns_intro c cc0_stg1_0 ((ins m).wq c)); iexact H1
  isplitl [H2]; · iapply (owns_intro c cc0_stg2_0 ((ins m).wo c)); iexact H2
  iapply (owns_intro c cc0_stg3_0 (outFun (ins m) c 7)); iexact H3

/-! ## The region's record -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem ownFacts : Pipeline.OwnSemFacts spec0 ownSem := by decide +kernel

/-- The buffers the body addresses itself; all that is no window's array. -/
abbrev kvRefs : Finset (DevRef τ sig) := {Proc.devRef .tc main_v11, Proc.devRef .tc main_v18}
abbrev restRefs : Finset (DevRef τ sig) := Pipeline.ucRefs τ sig \ Pipeline.arrRefs (τ := τ) spec0
theorem kvRefs_sub : kvRefs ⊆ restRefs := by decide +kernel

theorem held_kv (c : Dev nD) (W : Valuation τ sig (Elt F)) :
    (StableHlo.held (c.tc : Thread nD τ) kvRefs W : sProp 𝕄)
      = iprop(((c : Thread nD τ).loc main_v11 ↦{fullShare} W (Proc.devRef .tc main_v11)) ∗ ((c : Thread nD τ).loc main_v18 ↦{fullShare} W (Proc.devRef .tc main_v18))) := by
  unfold StableHlo.held
  rw [bigSep_insert (by decide), bigSep_singleton]
  rfl
theorem kvSrcs_eq (c : Dev nD) : (kvSrcs (ins m) c : sProp 𝕄) = StableHlo.held (c.tc : Thread nD τ) kvRefs (V1 m c) := by
  rw [held_kv]; rfl
theorem kvSrcs_eq' (c : Dev nD) : (kvSrcs (ins m) c : sProp 𝕄) = StableHlo.held (c.tc : Thread nD τ) kvRefs (V2 m (outs m) c) := by
  rw [kvSrcs_eq, held_kv, held_kv, V2_v11, V2_v18]
theorem scratch_eq (c : Dev nD) : (Pipeline.scopedRest (Ix := Unit) (Name := ℕ) (U := UU) (Lvl := ℕ) (Val := Elt F) (Pipeline.pin (pcfgs (F := F)) adm 0).spec c : sProp 𝕄)
    = scratch c := (scopedRest0_eq c).trans rfl

theorem hin0 (c : Dev nD) : iprop(Pipeline.scopedRest (Pipeline.pin (pcfgs (F := F)) adm 0).spec c ∗ (∃ r, prngReg c r)
      ∗ StableHlo.held (c.tc : Thread nD τ) kvRefs (V1 m c) ∗ entered (ins m) c) ⊢ ((pdats m 0 c).Φ 0 : sProp 𝕄) := by
  rw [state_zero, scratch_eq]; unfold stateIn; rw [kvSrcs_eq]
  iintro ⟨Hs, Hp, Hkv, HX⟩
  isplitl [HX]; · iexact HX
  isplitl [Hkv]; · iexact Hkv
  isplitl [Hs] <;> iassumption
theorem hout0 (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) kvRefs (V2 m (outs m) c) ∗ Pipeline.ownSems0 ownSem c ∗ semVal (barCell c) 0) := by
  rw [show (pdats m 0 c).Φ (Fin.last (Pipeline.pin (pcfgs (F := F)) adm 0).N) = _ from state_last m c, scratch_eq, ownSems_eq]
  unfold stateOut zeros
  rw [kvSrcs_eq']
  iintro ⟨Hb, ⟨Hz, HzE, Hz0, Hz1⟩, Hkv, Hs, Hp⟩
  isplitl [Hs]; · iexact Hs
  isplitl [Hp]; · iexact Hp
  isplitl [Hkv]; · iexact Hkv
  isplitr [Hb]
  · isplitl [Hz0 Hz1]; · isplitl [Hz0] <;> iassumption
    isplitl [HzE] <;> iassumption
  iexact Hb

theorem cut (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · have h' : 0 < Ow c 7 g i + tallyAt (barCell (right c)) () 1 g i + tallyAt (barCell (left c)) () 1 g i := h
    have hbar (d : Dev nD) (hg : 0 < (tallyAt (barCell d) () 1 : CellTallies nD τ sig Unit) g i) : i ∈ L g ∧ (0 : ℕ) < lv g i := by
      obtain ⟨rfl, -⟩ := tally_pos hg
      rw [lv_bar]
      exact ⟨by rw [L_tc]; exact Finset.mem_singleton_self _, by decide⟩
    rcases Nat.add_pos_iff_pos_or_pos.mp h' with h' | h'
    · rcases Nat.add_pos_iff_pos_or_pos.mp h' with h' | h'
      · obtain ⟨h1, h2⟩ := Ow_pos c 7 (le_refl _) g i h'
        refine ⟨?_, show 0 < lv g () by omega⟩
        obtain ⟨⟨d, p⟩, s⟩ := g
        obtain rfl : p = .tc := h1
        rw [L_tc]; exact Finset.mem_singleton_self _
      · exact hbar _ h'
    · exact hbar _ h'
  · exact absurd h (Nat.lt_irrefl 0)

theorem rest_eq (c : Dev nD) (b : DevRef τ sig) (hb : b ∈ restRefs \ kvRefs) : V2 m (outs m) c b = V1 m c b := by
  have hv : (Proc.devRef .tc main_v22 : DevRef τ sig) ∉ restRefs := by decide +kernel
  have h22 : b ≠ Proc.devRef .tc main_v22 := fun e => hv (e ▸ (Finset.mem_sdiff.mp hb).1)
  have h11 : b ≠ Proc.devRef .tc main_v11 := fun e => (Finset.mem_sdiff.mp hb).2 (by rw [e]; exact Finset.mem_insert_self _ _)
  have h18 : b ≠ Proc.devRef .tc main_v18 := fun e => (Finset.mem_sdiff.mp hb).2 (by rw [e]; exact Finset.mem_insert_of_mem (Finset.mem_singleton_self _))
  simp only [V2, Function.update_of_ne h18, Function.update_of_ne h11, Function.update_of_ne h22]

theorem arrays_out (c : Dev nD) : ∀ w : Fin 4, (dat0 m c).arrAt w cfg0.N = V2 m (outs m) c (Proc.devRef .tc (Pipeline.arrRef spec0 w))
  | 0 => ((dat0 m c).arrAt_in 0 rfl _).trans (V2_of m (outs m) c main_v20 (by decide)).symm
  | 1 => ((dat0 m c).arrAt_in 1 rfl _).trans (V2_of m (outs m) c main_arg1 (by decide)).symm
  | 2 => ((dat0 m c).arrAt_in 2 rfl _).trans (V2_of m (outs m) c main_v21 (by decide)).symm
  | 3 => (arrAt_out m c).trans (V2_v22 m c).symm

theorem stage_level (c : Dev nD) : ∀ (w : Fin cfg0.W) (s : Fin ((cfg0.win w).nbuf)), lv ((c : Thread nD τ), .dma ((cfg0.win w).sem s)) () = 0
  | 0, _ => by dsimp only [lv]; exact if_neg (fun h => absurd h.1 (by decide))
  | 1, _ => by dsimp only [lv]; exact if_neg (fun h => absurd h.1 (by decide))
  | 2, _ => by dsimp only [lv]; exact if_neg (fun h => absurd h.1 (by decide))
  | 3, _ => by dsimp only [lv]; exact if_neg (fun h => absurd h.1 (by decide))

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 ownSem ownFacts
    kvRefs restRefs kvRefs_sub kitP rfl (fun c => (body0 m c).loose)
    (fun _ => 0) O₀ (fun c => (owed_zero m c).trans (zero_add _).symm) (owed_last m) (fun _ => rfl)
    (fun _ w => match w with | 0 => rfl | 1 => rfl | 2 => rfl | 3 => rfl)
    (V1 m) (V2 m (outs m)) (fun c b hb => rest_eq m c b hb)
    (start (ins m)) (fun c => semVal (barCell c) 0) (entered (ins m)) (fun c => semVal (barCell c) 0)
    (hopen (ins m)) (hin0 m) (hout0 m)
    (fun c => by iintro H; imodintro; iexact H)
    (fun _ => 0)
    ⟨fun c w s => by rw [L_tc]; exact Finset.mem_singleton_self _, fun c w s => (stage_level c w s).le, fun c t g i h => cut m c t g i h⟩
    (fun _ => iprop(emp))
    (fun _ w => match w with | 0 => rfl | 1 => rfl | 2 => rfl | 3 => rfl) (fun c w => arrays_out m c w)

/-- Beside the buffers, before the kernel and after it. -/
def rests : Fin 2 → Dev nD → sProp 𝕄
  | 0 => fun c => iprop(start (ins m) c ∗ (∃ r, prngReg c r) ∗ owing c (O₀ c))
  | 1 => fun c => iprop(semVal (barCell c) 0 ∗ owing c 0)

theorem reg0_pre (c : Dev nD) : iprop(StableHlo.held (c : Thread nD τ) (Pipeline.ucRefs τ sig) (V1 m c) ∗ rests m 0 c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) restRefs (V1 m c) ∗ emp) ∗ start (ins m) c ∗ ∃ Wd, owes (c : Thread nD τ) (0 + O₀ c) Wd)
  rw [StableHlo.held_sub_split (c.tc : Thread nD τ) (Pipeline.arrRefs_sub_ucRefs spec0 winFacts0.arr_unscoped) (V1 m c), zero_add]
  unfold rests owing
  iintro ⟨⟨Ha, Hr⟩, Hst, Hp, HO⟩
  isplitl [Ha]; · iexact Ha
  isplitl [Hp]; · iexact Hp
  isplitl [Hr]
  · isplitl [Hr]; · iexact Hr
    iempintro
  isplitl [Hst] <;> iassumption
theorem reg0_post (c : Dev nD) : (reg0 m).post c ⊢ iprop(StableHlo.held (c : Thread nD τ) (Pipeline.ucRefs τ sig) (V2 m (outs m) c) ∗ rests m 1 c) := by
  show iprop(StableHlo.held (c.tc : Thread nD τ) (Pipeline.arrRefs (τ := τ) spec0) (V2 m (outs m) c) ∗ (∃ r, prngReg c r)
    ∗ (StableHlo.held (c.tc : Thread nD τ) restRefs (V2 m (outs m) c) ∗ emp) ∗ semVal (barCell c) 0 ∗ ∃ Wd, owes (c : Thread nD τ) (0 : CellTallies nD τ sig Unit) Wd) ⊢ _
  rw [StableHlo.held_sub_split (c.tc : Thread nD τ) (Pipeline.arrRefs_sub_ucRefs spec0 winFacts0.arr_unscoped) (V2 m (outs m) c)]
  unfold rests owing
  iintro ⟨Ha, -, ⟨Hr, -⟩, Hb, HO⟩
  isplitl [Ha Hr]
  · isplitl [Ha] <;> iassumption
  isplitl [Hb] <;> iassumption

end Cert.KernelIdeal.Walk

end
-- ==== Proof.KernelIdeal.Run.lean ====
/-
The program's run: what it starts from, the launch, and what every final state holds.
-/
module

public import proofs.«01_k».proof.Proof.KernelIdeal.Region
public import Idealize.ShloMosaic.Lib.Quiescent

@[expose] public section

set_option maxRecDepth 16384

noncomputable section

namespace Cert.KernelIdeal.Walk

open Idealize.ShloMosaic Idealize.ShloMosaic.TcCoe Idealize.ShloMosaic.Rounds
open Idealize.SL Idealize.SL.RA Idealize.SL.BI
open scoped Idealize.SL.BI
open Idealize.SL.BI.BIBase Idealize.SL.Sem Cert.KernelIdeal Cert.KernelIdeal.Gen Idealize.ShloMosaic.ValueIdx

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The launch -/

/-- The launch element: the staging cells', the protocol's, and the copies' counters. -/
def u₀ : UU :=
  (initOf (Pipeline.cells (Pipeline.pin (pcfgs (F := F)) adm) cellOf_inj) (Pipeline.launchToks (Pipeline.pin (pcfgs (F := F)) adm) cellOf_inj),
    (launchOf bars scs talkToks, 1))

/-- The protocol's resource before it is dealt, put on one device. -/
def parked (c : Dev nD) : sProp 𝕄 := if c = 0 then BI.own (ER (launchOf bars scs talkToks)) else iprop(emp)
theorem parked_eq : bigSep Finset.univ (fun c : Dev nD => (parked c : sProp 𝕄)) = BI.own (ER (launchOf bars scs talkToks)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

theorem fund : (ownU (u₀ (F := F)) : sProp 𝕄) ⊢ |={Set.univ}=> iprop(BI.own (EP (initOf (Pipeline.cells (Pipeline.pin (pcfgs (F := F)) adm) cellOf_inj)
      (Pipeline.launchToks (Pipeline.pin (pcfgs (F := F)) adm) cellOf_inj))) ∗ bigSep Finset.univ fun c : Dev nD => (parked c : sProp 𝕄)) := by
  rw [parked_eq]
  unfold u₀
  iintro Hu
  ihave H := (ownU_pair _ _) $$ Hu
  icases H with ⟨HP, HX⟩
  imodintro
  isplitl [HP]; · iexact HP
  iexact HX

theorem unscopedSems_eq (c : Dev nD) : (unscopedSems0 c : sProp 𝕄) = semVal (barCell c) 0 := by
  unfold unscopedSems0
  rw [show (Finset.univ.filter fun sm : SemLoc sig => ¬ sm.isScoped .tc = true) = {SemLoc.reg barSem} from by decide +kernel, bigSep_singleton]

/-- What of a device's launch holdings is not the protocol's. -/
def bundle (c : Dev nD) : sProp 𝕄 := iprop(credits c ∗ (∃ r, prngReg c r) ∗ owing c (O₀ c))

theorem rests_intro (K : GSem nD τ sig → ℕ) (c : Dev nD) :
    iprop(records (ins m) K ∗ (bundle c ∗ (atPos ER (barCell c) 0 ∅ 0 ∗ opens c ∗ dealt c))) ⊢ rests m 0 c := by
  unfold rests start bundle
  iintro ⟨#HR, ⟨Hc, Hp, HO⟩, Ha, Ho, Hd⟩
  isplitl [Hc Ha Ho Hd]
  · isplitr [Hc]
    · iexists K
      isplitr; · iexact HR
      isplitl [Ha]; · iexact Ha
      isplitl [Ho] <;> iassumption
    iexact Hc
  isplitl [Hp] <;> iassumption

theorem init : iprop((bigSep Finset.univ fun c : Dev nD => iprop(unscopedSems0 c ∗ owes (c : Thread nD τ) (O₀ c) ∅ ∗ Pipeline.launchCred O₀ c ∗ prngReg c (ρ c) ∗ parked c)) ∗ levAts L lv)
      ⊢ (|={Set.univ}=> bigSep Finset.univ (rests m 0) : sProp 𝕄) := by
  have hcore (c : Dev nD) : iprop(unscopedSems0 c ∗ owes (c : Thread nD τ) (O₀ c) ∅ ∗ Pipeline.launchCred O₀ c ∗ prngReg c (ρ c) ∗ parked c)
      ⊢ (iprop(bundle c ∗ semVal (barCell c) 0 ∗ parked c) : sProp 𝕄) := by
    rw [unscopedSems_eq]
    unfold bundle owing
    iintro ⟨Hv, HO, Hc, Hp, HG⟩
    isplitl [HO Hc Hp]
    · isplitl [Hc]; · iapply (creds c); iexact Hc
      isplitl [Hp]; · iexists (ρ c); iexact Hp
      iexists ∅; iexact HO
    isplitl [Hv] <;> iassumption
  iintro ⟨H, -⟩
  ihave H := (mono hcore) $$ H
  ihave H := (Entails.of_eq (BI.bigSep_sep' _ _ _)) $$ H; icases H with ⟨HB, H⟩
  ihave H := (Entails.of_eq (BI.bigSep_sep' _ _ _)) $$ H; icases H with ⟨Hv, HG⟩
  ihave Hu := (Entails.of_eq parked_eq) $$ HG
  imod (Rounds.fund_launch ER (talkRd (ins m)) disjoint_cells (fun g _ h => h) talkToks) $$ [Hv Hu] with ⟨%K, -, #Hinv, #Hr, Hat, Hopen, Htok⟩
  · isplitl [Hv]
    · iapply (Entails.of_eq (bars_eq fun g => semVal g 0).symm); iexact Hv
    · iexact Hu
  imodintro
  iapply (show iprop(records (ins m) K ∗ bigSep Finset.univ fun c : Dev nD => iprop(bundle c ∗ (atPos ER (barCell c) 0 ∅ 0 ∗ opens c ∗ dealt c)))
    ⊢ bigSep Finset.univ (rests m 0) from bigSep_with_persistent (R := records (ins m) K) fun c _ => rests_intro m K c)
  isplitr
  · unfold records
    isplitr; · iexact Hinv
    iexact Hr
  iapply (Entails.of_eq (BI.bigSep_sep' _ _ _).symm)
  isplitl [HB]; · iexact HB
  iapply (Entails.of_eq (BI.bigSep_sep' _ _ _).symm)
  isplitl [Hat]; · iapply (Entails.of_eq (bars_eq fun g => atPos ER g 0 ∅ 0)); iexact Hat
  iapply (Entails.of_eq (BI.bigSep_sep' _ _ _).symm)
  isplitl [Hopen]; · iapply (Entails.of_eq opens_eq); iexact Hopen
  iapply (Entails.of_eq toks_around)
  iapply (Entails.of_eq toks_eq); iexact Htok

/-! ## The run -/

theorem unscoped_bar : ∀ sm : SemLoc sig, sm.isScoped .tc = false → sm = .reg barSem := by decide +kernel

/-- What a final memory holds on device `c`: the arguments as launched, the result, the entry barrier's counter at zero. -/
def Final (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v23) = V3 m (outs m) c main_v23
  ∧ s.sem (barCell c) = 0

theorem read_final (c : Dev nD) (s' : Phys nD τ sig (Elt F)) :
    iprop((StableHlo.held (c : Thread nD τ) (Pipeline.ucRefs τ sig) (V3 m (outs m) c) ∗ semVal (barCell c) 0) ∗ SI s')
      ⊢ (|={Set.univ}=> iprop(⌜Final m c s'.mem⌝ ∗ SI s') : sProp 𝕄) := by
  have hmem (r : Ref sig .tc) (h : (Proc.devRef .tc r : DevRef τ sig).isScoped = false) : (Proc.devRef .tc r : DevRef τ sig) ∈ Pipeline.ucRefs τ sig :=
    Finset.mem_filter.mpr ⟨StableHlo.devRef_mem_tcRefs r, by simpa using h⟩
  unfold StableHlo.held
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    exact ⟨⟨(h _ (hmem main_arg0 rfl)).trans (V3_main_arg0 m (outs m) c), (h _ (hmem main_arg1 rfl)).trans (V3_main_arg1 m (outs m) c),
      (h _ (hmem main_arg2 rfl)).trans (V3_main_arg2 m (outs m) c), (h _ (hmem main_arg3 rfl)).trans (V3_main_arg3 m (outs m) c),
      (h _ (hmem main_arg4 rfl)).trans (V3_main_arg4 m (outs m) c)⟩, h _ (hmem main_v23 rfl), by simpa using hb⟩
  · iexact HSI

set_option backward.isDefEq.respectTransparency.types false in
/-- From any memory with every counter at zero, every execution of the program on the eight devices ends, and every final
    state holds each argument as launched, the result, and every counter at zero. -/
theorem run_main : θ_run defs (onTc (τ := τ) (main (F := F))) ⟨m, fun _ => 0, ρ⟩ (fun r => (∀ c, Final m c r.2) ∧ r.2.sem = fun _ => 0) := by
  refine Pipeline.θ_run_regions_kit_dev_sems (pcfgs (F := F)) adm (pdats m) () cellOf_inj EP defs₀ 𝒱₀ L lv m ρ main
    (segs m (outs m) 𝒱₀ L lv (rests m) () (pdats m) (reg0 m))
    (fun c Q => by
      rewrite [main_chain c, Pipeline.Seg.run_eq_chain,
        show (segs m (outs m) 𝒱₀ L lv (rests m) () (pdats m) (reg0 m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide) O₀ L_of_ne
    (fun c => parked c) u₀ fund
    (T₀ := fun c => iprop(StableHlo.held (c : Thread nD τ) (Pipeline.ucRefs τ sig) (V0 m c) ∗ rests m 0 c))
    (Tₙ := fun c => iprop(StableHlo.held (c : Thread nD τ) (Pipeline.ucRefs τ sig) (V3 m (outs m) c) ∗ semVal (barCell c) 0))
    (hch := fun c => ⟨.rfl, reg0_pre m c, reg0_post m c, ?_⟩)
    (hinit := ?_) (QY := Final m) (hfin := fun c s' => read_final m c s')
    (hQ := fun s h hs => ⟨h, sem_eq_zero hs fun c sm hsm => by obtain rfl := unscoped_bar sm hsm; exact (h c).2.2⟩)
  · show iprop(StableHlo.held (c : Thread nD τ) (Pipeline.ucRefs τ sig) (V3 m (outs m) c) ∗ rests m 1 c) ⊢ _
    unfold rests owing
    iintro ⟨Hh, Hb, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ parked c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ parked c))
            : sProp 𝕄) := by
      rw [← BI.bigSep_sep']
      exact mono fun c => by rw [← Pipeline.unscopedBufs_held (Ix := Unit) (Name := ℕ) (U := UU) (Lvl := ℕ) c (V0 m c)]
    iintro ⟨H, Hla⟩
    ihave H' := hsplit $$ H
    icases H' with ⟨Hh, Hr⟩
    imod (init m ρ) $$ [Hr Hla] with HE
    · isplitl [Hr]; · iexact Hr
      iexact Hla
    imodintro
    rw [BI.bigSep_sep']
    isplitl [Hh]; · iexact Hh
    iexact HE

end Cert.KernelIdeal.Walk

end
-- ==== Proof.Value.Softmax.lean ====
/-
Facts of the extended reals that the attention's value rests on: a softmax does not see the number
subtracted from its scores, a quotient passes under a sum, and a sum with one block of nonzero terms
is that block's sum.
-/
module

public import Idealize.ShloMosaic.PureOps.Ideal
public import Idealize.ShloMosaic.PureOps.Ideal.Laws

@[expose] public section

noncomputable section

namespace Cert.Attn

open Idealize.ShloMosaic

/-! ## Sums -/

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem sum_mul_coe {ι : Type*} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih, mul_comm, EReal.left_distrib_of_nonneg_of_ne_top (by exact_mod_cast hr) (EReal.coe_ne_top r),
      mul_comm, mul_comm (r : EReal)]

/-- A sum whose terms vanish off the `a`-th of the blocks of `n` positions is that block's sum. -/
theorem sum_block {N n : ℕ} (hn : 0 < n) (a : ℕ) (hb : ∀ j : Fin n, n * a + j.val < N) (f : Fin N → EReal) (hz : ∀ k : Fin N, k.val / n ≠ a → f k = 0) :
    ∑ k, f k = ∑ j : Fin n, f ⟨n * a + j.val, hb j⟩ := by
  refine (Fintype.sum_of_injective (fun j : Fin n => (⟨n * a + j.val, hb j⟩ : Fin N)) (fun i j h => ?_) _ f (fun k hk => ?_) fun _ => rfl).symm
  · have := congrArg Fin.val h
    exact Fin.ext (by simpa using this)
  · refine hz k fun h => hk ?_
    exact ⟨⟨k.val % n, Nat.mod_lt _ hn⟩, Fin.ext (by show n * a + k.val % n = k.val; rw [← h]; exact Nat.div_add_mod k.val n)⟩

/-! ## A row's weights -/

variable {ι : Type*} [Fintype ι] (p : ι → Prop) [DecidablePred p] (s : ι → ℝ)

/-- An exponential, or zero where the row does not attend. -/
def num (j : ι) : ℝ := if p j then Real.exp (s j) else 0
def den : ℝ := ∑ j, num p s j
/-- The softmax's weight of position `j`. -/
def wt (j : ι) : ℝ := num p s j / den p s

theorem num_nonneg (j : ι) : 0 ≤ num p s j := by unfold num; split_ifs <;> positivity
theorem den_pos (h : ∃ j, p j) : 0 < den p s := by
  obtain ⟨j, hj⟩ := h
  refine Finset.sum_pos' (fun j _ => num_nonneg p s j) ⟨j, Finset.mem_univ j, ?_⟩
  unfold num; rw [if_pos hj]; positivity

/-- The score, minus infinity where the row does not attend. -/
def masked (j : ι) : EReal := if p j then (s j : EReal) else ⊥

theorem num_shift (M : ℝ) (j : ι) : Ideal.exp (masked p s j - (M : EReal)) = ((num p s j * Real.exp (-M) : ℝ) : EReal) := by
  unfold masked num
  split_ifs
  · rw [← EReal.coe_sub, Ideal.exp_coe, sub_eq_add_neg, Real.exp_add]
  · simp

/-- A row's maximum is a real number. -/
theorem fold_max (h : ∃ j, p j) : ∃ M : ℝ, (Finset.univ : Finset ι).fold max ⊥ (masked p s) = (M : EReal) := by
  have hs : (Finset.univ : Finset ι).fold max ⊥ (masked p s) = Finset.univ.sup (masked p s) := rfl
  rw [hs]
  obtain ⟨j, hj⟩ := h
  have h1 : Finset.univ.sup (masked p s) ≠ ⊥ := by
    intro hbot
    have := (Finset.le_sup (f := masked p s) (Finset.mem_univ j)).trans hbot.le
    unfold masked at this; rw [if_pos hj] at this
    exact absurd (le_bot_iff.mp this) (EReal.coe_ne_bot _)
  have h2 : Finset.univ.sup (masked p s) < ⊤ := by
    rw [Finset.sup_lt_iff (by simp)]
    intro k _
    unfold masked
    split_ifs
    · exact EReal.coe_lt_top _
    · exact bot_lt_top
  exact ⟨_, (EReal.coe_toReal h2.ne h1).symm⟩

/-- The softmax as written with its row's maximum subtracted. -/
theorem softmax_shift (h : ∃ j, p j) (j : ι) :
    Ideal.div (Ideal.exp (masked p s j - (Finset.univ : Finset ι).fold max ⊥ (masked p s)))
      (∑ k, Ideal.exp (masked p s k - (Finset.univ : Finset ι).fold max ⊥ (masked p s))) = (wt p s j : EReal) := by
  obtain ⟨M, hM⟩ := fold_max p s h
  have hd := den_pos p s h
  rw [hM, Finset.sum_congr rfl fun k _ => num_shift p s M k, coe_sum, num_shift, ← Finset.sum_mul]
  have hp : (∑ k, num p s k) * Real.exp (-M) ≠ 0 := (mul_pos hd (Real.exp_pos _)).ne'
  rw [Ideal.div_coe hp, ← EReal.coe_mul]
  congr 1
  unfold wt den
  have h1 : (∑ k, num p s k) ≠ 0 := hd.ne'
  field_simp

/-- A weighted sum divided by the sum of its weights. -/
theorem softmax_after (h : ∃ j, p j) (v : ι → EReal) :
    Ideal.div (∑ j, (num p s j : EReal) * v j) (∑ j, (num p s j : EReal)) = ∑ j, v j * (wt p s j : EReal) := by
  have hd := den_pos p s h
  rw [coe_sum, Ideal.div_coe (show (∑ j, num p s j) ≠ 0 from hd.ne'), sum_mul_coe _ _ (by have : 0 < ∑ j, num p s j := hd; positivity)]
  refine Finset.sum_congr rfl fun j _ => ?_
  rw [mul_comm (num p s j : EReal), mul_assoc, ← EReal.coe_mul]
  congr 2
  unfold wt den
  rw [mul_one_div]

/-- A power of two of a score over eight times two's logarithm is the exponential of an eighth of it. -/
theorem exp2_masked (j : ι) (t b : EReal) (ht : t = ((s j * (Real.log 2)⁻¹ : ℝ) : EReal)) (hb : b = if p j then 0 else ⊥) :
    Ideal.exp2 (t + b) = (num p s j : EReal) := by
  subst ht hb
  unfold num
  split_ifs
  · rw [add_zero, Ideal.exp2_coe]
    congr 1
    show (2 : ℝ) ^ (s j * (Real.log 2)⁻¹) = _
    rw [Real.rpow_def_of_pos (by norm_num)]
    congr 1
    have : Real.log 2 ≠ 0 := (Real.log_pos (by norm_num)).ne'
    field_simp
  · simp

end Cert.Attn

end
-- ==== Proof.Value.Mask.lean ====
/-
Which query attends to which key, as a proposition of their positions and as the bits that both programs
compute it by.
-/
module

public import Idealize.ShloMosaic.PureOps.Ideal
public import Idealize.ShloMosaic.PureOps.Ideal.Laws

@[expose] public section

noncomputable section

namespace Cert.Attn

open Idealize.ShloMosaic

/-- Query `i` attends to key `j`: they are near each other, or one of them is among the first. -/
def Att (i j : ℕ) : Prop := (i ≤ j + 128 ∧ j ≤ i + 128) ∨ j < 32 ∨ i < 32

instance (i j : ℕ) : Decidable (Att i j) := inferInstanceAs (Decidable (_ ∨ _))

theorem att_zero (i : ℕ) : Att i 0 := .inr (.inl (by omega))

theorem toInt_small {a : ℕ} (ha : a < 512) : (BitVec.ofNat 32 a).toInt = a := by
  rw [BitVec.toInt_ofNat', Int.bmod_def]; norm_num; omega

theorem absi_small {a : ℕ} (ha : a < 512) : IntOp.absi (BitVec.ofNat 32 a) = BitVec.ofNat 32 a := by
  unfold IntOp.absi
  rw [if_neg]
  rw [BitVec.msb_eq_decide]; simp; omega

theorem absi_neg_small {a : ℕ} (h0 : 0 < a) (ha : a < 512) : IntOp.absi (-BitVec.ofNat 32 a) = BitVec.ofNat 32 a := by
  unfold IntOp.absi
  rw [if_pos]
  · simp
  rw [BitVec.msb_eq_decide]; simp; omega

theorem slt_small {a : ℕ} (ha : a < 512) : IntOp.cmpi .slt (BitVec.ofNat 32 a) 32#32 = BitVec.ofBool (decide (a < 32)) := by
  show BitVec.ofBool (BitVec.slt _ _) = _
  rw [BitVec.slt_eq_decide, toInt_small ha]
  congr 2
  show ((a : ℤ) < 32) = _
  exact propext (by omega)

theorem sle_small {a : ℕ} (ha : a < 512) : IntOp.cmpi .sle (BitVec.ofNat 32 a) 128#32 = BitVec.ofBool (decide (a ≤ 128)) := by
  show BitVec.ofBool (BitVec.sle _ _) = _
  rw [BitVec.sle_eq_decide, toInt_small ha]
  congr 2
  show ((a : ℤ) ≤ 128) = _
  exact propext (by omega)

theorem near_bit {a b : ℕ} (ha : a < 512) (hb : b < 512) :
    IntOp.cmpi .sle (IntOp.absi (IntOp.subi (BitVec.ofNat 32 a) (BitVec.ofNat 32 b))) 128#32 = BitVec.ofBool (decide (a ≤ b + 128 ∧ b ≤ a + 128)) := by
  rcases Nat.lt_or_ge a b with h | h
  · have hx : IntOp.subi (BitVec.ofNat 32 a) (BitVec.ofNat 32 b) = -BitVec.ofNat 32 (b - a) := by
      apply BitVec.eq_of_toNat_eq
      simp [IntOp.subi, BitVec.toNat_sub]; omega
    rw [hx, absi_neg_small (by omega) (by omega), sle_small (by omega)]
    congr 2
    exact propext (by omega)
  · have hx : IntOp.subi (BitVec.ofNat 32 a) (BitVec.ofNat 32 b) = BitVec.ofNat 32 (a - b) := by
      apply BitVec.eq_of_toNat_eq
      simp [IntOp.subi, BitVec.toNat_sub]; omega
    rw [hx, absi_small (by omega), sle_small (by omega)]
    congr 2
    exact propext (by omega)

theorem or_bit (p q : Prop) [Decidable p] [Decidable q] : IntOp.ori (BitVec.ofBool (decide p)) (BitVec.ofBool (decide q)) = BitVec.ofBool (decide (p ∨ q)) := by
  unfold IntOp.ori
  by_cases hp : p <;> by_cases hq : q <;> simp [hp, hq]

theorem bit_eq_one (p : Prop) [Decidable p] : (BitVec.ofBool (decide p) = 1#1) ↔ p := by
  by_cases hp : p <;> simp [hp]

/-- The bit as the reference computes it. -/
theorem att_bit {a b : ℕ} (ha : a < 512) (hb : b < 512) :
    IntOp.ori (IntOp.cmpi .sle (IntOp.absi (IntOp.subi (BitVec.ofNat 32 a) (BitVec.ofNat 32 b))) 128#32)
      (IntOp.ori (IntOp.cmpi .slt (BitVec.ofNat 32 b) 32#32) (IntOp.cmpi .slt (BitVec.ofNat 32 a) 32#32)) = BitVec.ofBool (decide (Att a b)) := by
  rw [near_bit ha hb, slt_small ha, slt_small hb, or_bit, or_bit]
  rfl

/-- The bit as the kernel computes it. -/
theorem att_bit' {a b : ℕ} (ha : a < 512) (hb : b < 512) :
    IntOp.ori (IntOp.ori (IntOp.cmpi .sle (IntOp.absi (IntOp.subi (BitVec.ofNat 32 a) (BitVec.ofNat 32 b))) 128#32)
      (IntOp.cmpi .slt (BitVec.ofNat 32 b) 32#32)) (IntOp.cmpi .slt (BitVec.ofNat 32 a) 32#32) = BitVec.ofBool (decide (Att a b)) := by
  rw [near_bit ha hb, slt_small ha, slt_small hb, or_bit, or_bit]
  congr 2
  exact propext or_assoc

end Cert.Attn

end
-- ==== Proof.Value.Spec.lean ====
/-
The score of a query with a key at real inputs, and a sum cut in blocks.
-/
module

public import proofs.«01_k».proof.Proof.Value.Softmax
public import proofs.«01_k».proof.Proof.Value.Mask

@[expose] public section

noncomputable section

namespace Cert.Attn

open Idealize.ShloMosaic

/-- The score of a row `x` of the input with a key, `w` the columns of the query's weights for the key's head. -/
def scr (x : Fin 768 → ℝ) (w : Fin 768 → Fin 64 → ℝ) (k : Fin 64 → ℝ) : ℝ := (∑ d, (∑ m, x m * w m d) * k d) * (1 / 8)

/-- A sum over `m` blocks of `n` positions. -/
theorem sum_split {α : Type*} [AddCommMonoid α] {N m n : ℕ} (hN : m * n = N) (f : Fin N → α) :
    ∑ k, f k = ∑ a : Fin m, ∑ b : Fin n, f ⟨a.val * n + b.val, by
      have := a.isLt; have := b.isLt
      calc a.val * n + b.val < a.val * n + n := by omega
        _ = (a.val + 1) * n := by ring
        _ ≤ m * n := Nat.mul_le_mul_right n (by omega)
        _ = N := hN⟩ := by
  subst hN
  rw [← Fintype.sum_prod_type', ← Equiv.sum_comp finProdFinEquiv]
  refine Finset.sum_congr rfl fun ab _ => congrArg f (Fin.ext ?_)
  simp [finProdFinEquiv, mul_comm, add_comm]

end Cert.Attn

end
-- ==== Proof.Value.Steps.lean ====
/-
The kernel's steps at an index, in the extended reals.
-/
module

public import proofs.«01_k».proof.Proof.KernelIdeal.Run
public import proofs.«01_k».proof.Proof.Value.Spec
public import Idealize.ShloMosaic.Lib.Pointwise

@[expose] public section

noncomputable section

namespace Cert.KernelIdeal.Walk

open Idealize.ShloMosaic Cert.KernelIdeal Cert.KernelIdeal.Gen Cert.Attn

/-- The factor that turns a score into a power of two. -/
def scale : ℝ := 1 / 8 * (Real.log 2)⁻¹

theorem scale_named : Named.named (F := Ideal) (φ := .f32) κ "scale" 0x3E38AA3B#32 = (scale : EReal) :=
  IdealRules.named_const.ideal_named_scalar _ _ _ _ rfl
theorem mask_named : Named.named (F := Ideal) (φ := .f32) κ "mask" 0xCE6E6B28#32 = (⊥ : EReal) :=
  IdealRules.named_const.ideal_named_scalar _ _ _ _ rfl

theorem pay3_apply (w : Vec Ideal S768x512 .f32) (m : Fin 768) (n : Fin 512) : k0_pay3 w (ix3 0 m n) = w (ix2 m n) * (scale : EReal) := by
  pointwise [k0_pay3]
  rw [scale_named]

theorem pay4_apply (w : Vec Ideal S512x768 .bf16) (k : Fin 512) (n : Fin 768) : k0_pay4 w (ix3 0 k n) = w (ix2 k n) := by
  pointwise [k0_pay4]

theorem pay5_apply (y : S2x2x4x128x1024.Idx) : k0_pay5 (F := Ideal) y = 0 := by
  pointwise [k0_pay5]

theorem pay9_apply (i j : Fin 512) : k0_pay9 (F := Ideal) (ix2 i j) = if Att i.val j.val then 0 else ⊥ := by
  pointwise [k0_pay9, k0_pay8]
  rw [mask_named, att_bit' i.isLt j.isLt]
  exact if_congr (bit_eq_one _) rfl rfl

theorem qAll_apply (wq : Vec Ideal S1x768x512 .bf16) (x : Vec Ideal S1024x768 .bf16) (r : Fin 1024) (n : Fin 512) :
    qAll wq x (ix2 r n) = ∑ m : Fin 768, x (ix2 r m) * wq (ix3 0 m n) := by
  pointwise [qAll]

theorem qPair_apply (b : Fin 2) (p : Fin 4) (q : FVec Ideal S1024x512 .bf16) (i : Fin 512) (k : Fin 128) :
    qPair b p q (ix2 i k) = q (ix2 ⟨512 * b.val + i.val, by omega⟩ ⟨128 * p.val + k.val, by omega⟩) := by
  pointwise [qPair]

theorem expo_apply (q : FVec Ideal S512x128 .bf16) (k : Vec Ideal S1x1x1x128x1024 .bf16) (bias : Vec Ideal S512x1024 .f32) (i : Fin 512) (j : Fin 1024) :
    expo q k bias (ix2 i j) = Ideal.exp2 ((∑ t : Fin 128, q (ix2 i t) * k (ix5 0 0 0 t j)) + bias (ix2 i j)) := by
  pointwise [expo]
  rfl

theorem wsum_apply (e : FVec Ideal S512x1024 .f32) (v : Vec Ideal S1x1x1x128x1024 .bf16) (i : Fin 512) (n : Fin 128) :
    wsum e v (ix2 i n) = ∑ j : Fin 1024, e (ix2 i j) * v (ix5 0 0 0 n j) := by
  pointwise [wsum]

theorem den_apply (s : Fin 2) (e : FVec Ideal S512x1024 .f32) (i : Fin 512) :
    den s e (ix2 i 0) = ∑ j : Fin 512, e (ix2 i ⟨512 * s.val + j.val, by omega⟩) := by
  pointwise [den]

theorem head_apply (s : Fin 2) (e : FVec Ideal S512x1024 .f32) (v : Vec Ideal S1x1x1x128x1024 .bf16) (i : Fin 512) (d : Fin 64) :
    head s e v (ix2 i d) = Ideal.div (wsum e v (ix2 i ⟨64 * s.val + d.val, by omega⟩)) (den s e (ix2 i 0)) := by
  pointwise [head]

theorem contrib_apply (ctx : Vec Ideal S1024x512 .bf16) (wo : Vec Ideal S1x512x768 .bf16) (r : Fin 1024) (n : Fin 768) :
    contrib ctx wo (ix2 r n) = ∑ k : Fin 512, ctx (ix2 r k) * wo (ix3 0 k n) := by
  pointwise [contrib]

end Cert.KernelIdeal.Walk

end
-- ==== Proof.Value.Kernel.lean ====
/-
The kernel's value at an index: each hop adds the contexts of the eight heads whose weights have come round to the
device, times the rows of the output weights that have come with them.
-/
module

public import proofs.«01_k».proof.Proof.Value.Steps

@[expose] public section

noncomputable section

namespace Cert.KernelIdeal.Walk

open Idealize.ShloMosaic Cert.KernelIdeal Cert.KernelIdeal.Gen Cert.Attn

variable (I : Ins Ideal)

/-! ## The keys and values of a pair -/

/-- The head that a hop's pair holds on a side. -/
def headOf (c : Dev nD) (h : Fin 8) (p : Fin 4) (s : Fin 2) : Fin 64 := ⟨8 * (back c h).val + 2 * p.val + s.val, by
  have : (back c h).val < 8 := (back c h).isLt
  omega⟩

theorem at_congr {α : Type} {n0 n1 n2 n3 : ℕ} (V : (⟨4, ![n0, n1, n2, n3]⟩ : Shape).Idx → α) {a a' : Fin n0} {b b' : Fin n1} {c c' : Fin n2} {d d' : Fin n3}
    (h0 : a = a') (h1 : b = b') (h2 : c = c') (h3 : d = d') : V (ValueIdx.ix4 a b c d) = V (ValueIdx.ix4 a' b' c' d') := by
  subst h0 h1 h2 h3; rfl

theorem kvFun_on (V : Vec Ideal S2x64x64x512 .bf16) (c : Dev nD) (h : Fin 8) (x : KvIdx) (b : Fin 2) (g d : Fin 64) (j : Fin 512)
    (he : (x 3).val / 64 = (x 4).val / 512) (hb : (x 1).val = b.val) (hg : 8 * ((c.val + 8 - h.val) % 8) + 2 * (x 2).val + (x 3).val / 64 = g.val)
    (hd : (x 3).val % 64 = d.val) (hj : (x 4).val % 512 = j.val) : kvFun V c h x = V (ix4 b g d j) := by
  unfold kvFun
  rw [if_pos he, ix4_eq_valueIdx]
  exact at_congr V (Fin.ext hb) (Fin.ext hg) (Fin.ext hd) (Fin.ext hj)

theorem kPair_on (c : Dev nD) (h : Fin 8) (w b : Fin 2) (p : Fin 4) (s : Fin 2) (d : Fin 64) (j : Fin 512) :
    kPair I c h w b p (ix5 0 0 0 ⟨64 * s.val + d.val, by omega⟩ ⟨512 * s.val + j.val, by omega⟩) = I.kv w c (ix4 b (headOf c h p s) d j) := by
  have hs := s.isLt; have hd := d.isLt; have hj := j.isLt
  refine kvFun_on (I.kv w c) c h _ b (headOf c h p s) d j ?_ ?_ ?_ ?_ ?_
  · show (0 + 1 * (64 * s.val + d.val)) / 64 = (0 + 1 * (512 * s.val + j.val)) / 512
    omega
  · show b.val + 1 * 0 = b.val
    omega
  · show 8 * ((c.val + 8 - h.val) % 8) + 2 * (p.val + 1 * 0) + (0 + 1 * (64 * s.val + d.val)) / 64 = 8 * ((c.val + 8 - h.val) % 8) + 2 * p.val + s.val
    omega
  · show (0 + 1 * (64 * s.val + d.val)) % 64 = d.val
    omega
  · show (0 + 1 * (512 * s.val + j.val)) % 512 = j.val
    omega

theorem kPair_off (c : Dev nD) (h : Fin 8) (w b : Fin 2) (p : Fin 4) (t : Fin 128) (j : Fin 1024) (hne : t.val / 64 ≠ j.val / 512) :
    kPair I c h w b p (ix5 0 0 0 t j) = 0 := by
  have h0 : kPair I c h w b p (ix5 0 0 0 t j) = kvFun (I.kv w c) c h ((pairR (slot h) b p).idx (ix5 0 0 0 t j)) := rfl
  rw [h0]
  unfold kvFun
  rw [if_neg, pay5_apply]
  show ¬ ((0 + 1 * t.val) / 64 = (0 + 1 * j.val) / 512)
  omega

theorem bias_apply (s : Fin 2) (i j : Fin 512) : biasFun (F := Ideal) (ix2 i ⟨512 * s.val + j.val, by omega⟩) = if Att i.val j.val then 0 else ⊥ := by
  have hj := j.isLt
  have e : (⟨(512 * s.val + j.val) % 512, Nat.mod_lt _ (by omega)⟩ : Fin 512) = j := Fin.ext (by show (512 * s.val + j.val) % 512 = j.val; omega)
  rw [← pay9_apply, ix2_eq_valueIdx i j]
  show k0_pay9 (ValueIdx.ix2 i ⟨(512 * s.val + j.val) % 512, _⟩) = _
  rw [e]

/-! ## A head's context at real inputs -/

section Real

variable (xr : Dev nD → Fin 1024 → Fin 768 → ℝ) (wr : Dev nD → Fin 768 → Fin 512 → ℝ) (kr : Dev nD → Fin 2 → Fin 64 → Fin 64 → Fin 512 → ℝ)
  (hx : ∀ c r m, I.x c (ix2 r m) = (xr c r m : EReal)) (hw : ∀ c m n, I.wq c (ix2 m n) = (wr c m n : EReal))
  (hk : ∀ c b g d j, I.kv 0 c (ix4 b g d j) = (kr c b g d j : EReal))

include hx hw in
theorem queries_apply (c : Dev nD) (h : Fin 8) (r : Fin 1024) (n : Fin 512) :
    queries I c h (ix2 r n) = (((∑ m, xr c r m * wr (back c h) m n) * scale : ℝ) : EReal) := by
  unfold queries
  rw [qAll_apply, Finset.sum_mul, ← coe_sum]
  refine Finset.sum_congr rfl fun m _ => ?_
  rw [pay3_apply, hx, hw, ← EReal.coe_mul, ← EReal.coe_mul, mul_assoc]

/-- The score of a row with a key, on a side of a pair. -/
def scoreAt (c : Dev nD) (h : Fin 8) (b : Fin 2) (p : Fin 4) (s : Fin 2) (i j : Fin 512) : ℝ :=
  scr (xr c ⟨512 * b.val + i.val, by omega⟩) (fun m d => wr (back c h) m ⟨128 * p.val + (64 * s.val + d.val), by omega⟩) (fun d => kr c b (headOf c h p s) d j)

include hx hw hk in
theorem expo_value (c : Dev nD) (h : Fin 8) (b : Fin 2) (p : Fin 4) (s : Fin 2) (i j : Fin 512) :
    expo (qPair b p (queries I c h)) (kPair I c h 0 b p) biasFun (ix2 i ⟨512 * s.val + j.val, by omega⟩)
      = (num (fun j : Fin 512 => Att i.val j.val) (fun j => scoreAt xr wr kr c h b p s i j) j : EReal) := by
  have hs := s.isLt; have hj := j.isLt
  rw [expo_apply]
  refine exp2_masked _ _ j _ _ ?_ (bias_apply s i j)
  rw [sum_block (N := 128) (n := 64) (by omega) s.val (fun d => by omega)]
  · have e : ∀ d : Fin 64, qPair b p (queries I c h) (ix2 i ⟨64 * s.val + d.val, by omega⟩)
          * kPair I c h 0 b p (ix5 0 0 0 ⟨64 * s.val + d.val, by omega⟩ ⟨512 * s.val + j.val, by omega⟩)
        = ((((∑ m, xr c ⟨512 * b.val + i.val, by omega⟩ m * wr (back c h) m ⟨128 * p.val + (64 * s.val + d.val), by omega⟩) * scale)
            * kr c b (headOf c h p s) d j : ℝ) : EReal) := fun d => by
      rw [qPair_apply, kPair_on, queries_apply I xr wr hx hw, hk]
      exact (EReal.coe_mul _ _).symm
    rw [Finset.sum_congr rfl fun d _ => e d, coe_sum]
    congr 1
    unfold scoreAt scr scale
    rw [mul_assoc, Finset.sum_mul]
    refine Finset.sum_congr rfl fun d _ => ?_
    ring
  · intro t ht
    rw [kPair_off I c h 0 b p t _ (by show t.val / 64 ≠ (512 * s.val + j.val) / 512; omega), mul_zero]

include hx hw hk in
theorem headFun_value (c : Dev nD) (h : Fin 8) (b : Fin 2) (p : Fin 4) (s : Fin 2) (i : Fin 512) (d : Fin 64) :
    headFun I c h b p s (ix2 i d) = ∑ j : Fin 512, I.kv 1 c (ix4 b (headOf c h p s) d j)
      * (wt (fun j : Fin 512 => Att i.val j.val) (fun j => scoreAt xr wr kr c h b p s i j) j : EReal) := by
  have hs := s.isLt; have hd := d.isLt
  have he := expo_value I xr wr kr hx hw hk c h b p s i
  unfold headFun
  rw [head_apply, den_apply, wsum_apply, sum_block (N := 1024) (n := 512) (by omega) s.val (fun j => by omega)]
  · simp only [he, kPair_on]
    exact softmax_after (fun j : Fin 512 => Att i.val j.val) _ ⟨0, att_zero _⟩ _
  · intro j hj
    rw [kPair_off I c h 1 b p _ j (by show (64 * s.val + d.val) / 64 ≠ j.val / 512; omega), mul_zero]

theorem headFun_congr (c : Dev nD) (h : Fin 8) {b b' : Fin 2} {p p' : Fin 4} {s s' : Fin 2} {i i' : Fin 512} {d d' : Fin 64} (hb : b = b') (hp : p = p')
    (hs : s = s') (hi : i = i') (hd : d = d') : headFun I c h b p s (ValueIdx.ix2 i d) = headFun I c h b' p' s' (ix2 i' d') := by
  subst hb hp hs hi hd
  rw [ix2_eq_valueIdx]

theorem ctxFun_apply (c : Dev nD) (h : Fin 8) (b : Fin 2) (i : Fin 512) (g : Fin 8) (d : Fin 64) :
    ctxFun I c h (ix2 ⟨512 * b.val + i.val, by omega⟩ ⟨g.val * 64 + d.val, by omega⟩)
      = headFun I c h b ⟨g.val / 2, by omega⟩ ⟨g.val % 2, by omega⟩ (ix2 i d) := by
  have hb := b.isLt; have hi := i.isLt; have hg := g.isLt; have hd := d.isLt
  refine headFun_congr I c h (Fin.ext ?_) (Fin.ext ?_) (Fin.ext ?_) (Fin.ext ?_) (Fin.ext ?_)
  · show (512 * b.val + i.val) / 512 = b.val
    omega
  · show (g.val * 64 + d.val) / 128 = g.val / 2
    omega
  · show (g.val * 64 + d.val) % 128 / 64 = g.val % 2
    omega
  · show (512 * b.val + i.val) % 512 = i.val
    omega
  · show (g.val * 64 + d.val) % 64 = d.val
    omega

end Real

/-! ## The result -/

theorem contribAt_apply (c : Dev nD) (h : Fin 8) (r : Fin 1024) (n : Fin 768) :
    contribAt I c h (ix2 r n) = ∑ g : Fin 8, ∑ d : Fin 64, ctxFun I c h (ix2 r ⟨g.val * 64 + d.val, by omega⟩) * I.wo (back c h) (ix2 ⟨g.val * 64 + d.val, by omega⟩ n) := by
  have hN : 8 * 64 = 512 := by norm_num
  have e : contribAt I c h (ix2 r n) = ∑ k : Fin 512, ctxFun I c h (ix2 r k) * I.wo (back c h) (ix2 k n) := by
    unfold contribAt
    rw [contrib_apply]
    exact Finset.sum_congr rfl fun k _ => by rw [pay4_apply]
  rw [e]
  exact sum_split hN fun k => ctxFun I c h (ix2 r k) * I.wo (back c h) (ix2 k n)

theorem outFun_succ (c : Dev nD) (k : ℕ) (r : Fin 1024) (n : Fin 768) : outFun I c (k + 1) (ix2 r n) = outFun I c k (ix2 r n) + contribAt I c (Fin.ofNat 8 (k + 1)) (ix2 r n) := by
  show addf (shapeCast S1024x768 (outFun I c k) shapeCasts_S1024x768_S1024x768 : FVec Ideal S1024x768 .f32) (contribAt I c (Fin.ofNat 8 (k + 1))) (ix2 r n) = _
  generalize outFun I c k = a
  generalize contribAt I c (Fin.ofNat 8 (k + 1)) = b
  pointwise

theorem outFun_apply (c : Dev nD) (r : Fin 1024) (n : Fin 768) : outFun I c 7 (ix2 r n) = ∑ h : Fin 8, contribAt I c h (ix2 r n) := by
  rw [Fin.sum_univ_eight]
  simp only [outFun_succ]
  rfl

end Cert.KernelIdeal.Walk

end
-- ==== Proof.Value.Operands.lean ====
/-
The kernel's operands at an index, as the host leaves them: the device's two batches of keys and values, transposed, and
its rows of the input and of the output weights.
-/
module

public import proofs.«01_k».proof.Proof.Value.Kernel
public import Idealize.ShloMosaic.Lib.StableHlo.Run

@[expose] public section

noncomputable section

namespace Cert.KernelIdeal.Walk

open Idealize.ShloMosaic Idealize.ShloMosaic.TcCoe Cert.KernelIdeal Cert.KernelIdeal.Gen Cert.Attn

variable (m : (ℓ : Loc nD τ sig) → Buf (Elt Ideal) ℓ)

abbrev argX (c : Dev nD) : FVec Ideal S2x512x768 .f32 := m ((c.tc : Thread nD τ).loc main_arg0)
abbrev argWq (c : Dev nD) : FVec Ideal S768x512 .f32 := m ((c.tc : Thread nD τ).loc main_arg1)
abbrev argK (c : Dev nD) : FVec Ideal S16x512x64x64 .f32 := m ((c.tc : Thread nD τ).loc main_arg2)
abbrev argV (c : Dev nD) : FVec Ideal S16x512x64x64 .f32 := m ((c.tc : Thread nD τ).loc main_arg3)
abbrev argWo (c : Dev nD) : FVec Ideal S512x768 .f32 := m ((c.tc : Thread nD τ).loc main_arg4)

theorem x_eq (c : Dev nD) : (ins m).x c = shapeCast S1024x768 (truncf (F := Ideal) .bf16 (argX m c) bitsLt_bf16_f32) shapeCasts_S2x512x768_S1024x768 := by
  unfold ins
  dsimp only [V1, hostOps0]
  after_results_simp <;> rfl

/-- Where the device's batches start. -/
def batchAt (c : Dev nD) : Fin 4 → Int := ![2 * (c.val : Int), 0, 0, 0]

/-- The device's two batches of an operand, transposed. -/
def slab (V : FVec Ideal S16x512x64x64 .f32) (c : Dev nD) : FVec Ideal S2x64x64x512 .bf16 :=
  transpose S2x64x64x512 [0, 2, 3, 1] (truncf (F := Ideal) .bf16 (Host.dynamicSlice S2x512x64x64 V (batchAt c) sliceFits_S16x512x64x64_S2x512x64x64) bitsLt_bf16_f32)
    transposes_S2x512x64x64_S2x64x64x512_0_2_3_1

theorem slab_congr (V : FVec Ideal S16x512x64x64 .f32) (c : Dev nD) (st : Fin 4 → Int) (h : st = batchAt c) :
    transpose S2x64x64x512 [0, 2, 3, 1] (truncf (F := Ideal) .bf16 (Host.dynamicSlice S2x512x64x64 V st sliceFits_S16x512x64x64_S2x512x64x64) bitsLt_bf16_f32)
      transposes_S2x512x64x64_S2x64x64x512_0_2_3_1 = slab V c := by
  subst h; rfl

theorem k_eq (c : Dev nD) : (ins m).kv 0 c = slab (argK m c) c := by
  unfold ins
  dsimp only [V1, hostOps0]
  after_results_simp
  refine slab_congr _ c _ (funext fun k => ?_)
  match k with
  | 0 =>
    dsimp only [Matrix.cons_val]
    after_results_simp
    revert c
    decide
  | 1 =>
    dsimp only [Matrix.cons_val]
    after_results_simp
    rfl
  | 2 =>
    dsimp only [Matrix.cons_val]
    after_results_simp
    rfl
  | 3 =>
    dsimp only [Matrix.cons_val]
    after_results_simp
    rfl

theorem v_eq (c : Dev nD) : (ins m).kv 1 c = slab (argV m c) c := by
  unfold ins
  dsimp only [V1, hostOps0]
  after_results_simp
  refine slab_congr _ c _ (funext fun k => ?_)
  match k with
  | 0 =>
    dsimp only [Matrix.cons_val]
    after_results_simp
    revert c
    decide
  | 1 =>
    dsimp only [Matrix.cons_val]
    after_results_simp
    rfl
  | 2 =>
    dsimp only [Matrix.cons_val]
    after_results_simp
    rfl
  | 3 =>
    dsimp only [Matrix.cons_val]
    after_results_simp
    rfl

theorem at_congr' {α : Type} {n0 n1 n2 n3 : ℕ} (V : (⟨4, ![n0, n1, n2, n3]⟩ : Shape).Idx → α) {a a' : Fin n0} {b b' : Fin n1} {c c' : Fin n2} {d d' : Fin n3}
    (h0 : a = a') (h1 : b = b') (h2 : c = c') (h3 : d = d') : V (ix4 a b c d) = V (ix4 a' b' c' d') := by
  subst h0 h1 h2 h3; rfl

theorem slab_apply (V : FVec Ideal S16x512x64x64 .f32) (c : Dev nD) (b : Fin 2) (g d : Fin 64) (j : Fin 512) :
    slab V c (ix4 b g d j) = V (ix4 ⟨2 * c.val + b.val, by have : c.val < 8 := c.isLt; omega⟩ j g d) := by
  have hc : c.val < 8 := c.isLt
  pointwise [slab]
  refine at_congr' V (Fin.ext ?_) (Fin.ext ?_) (Fin.ext ?_) (Fin.ext ?_)
  · show (min (max (2 * (c.val : Int)) 0) ((14 : ℕ) : Int)).toNat + b.val = 2 * c.val + b.val
    omega
  · show (min (max (0 : Int) 0) ((0 : ℕ) : Int)).toNat + j.val = j.val
    omega
  · show (min (max (0 : Int) 0) ((0 : ℕ) : Int)).toNat + g.val = g.val
    omega
  · show (min (max (0 : Int) 0) ((0 : ℕ) : Int)).toNat + d.val = d.val
    omega

theorem wq_eq (c : Dev nD) : (ins m).wq c = argWq m c := by
  unfold ins
  dsimp only [V1, hostOps0]
  after_results_simp <;> rfl

theorem wo_apply (c : Dev nD) (k : Fin 512) (n : Fin 768) : (ins m).wo c (ix2 k n) = argWo m c (ix2 k n) := by
  have e : (ins m).wo c = truncf (F := Ideal) .bf16 (argWo m c) bitsLt_bf16_f32 := by
    unfold ins
    dsimp only [V1, hostOps0]
    after_results_simp <;> rfl
  rw [e]
  generalize argWo m c = w
  pointwise

/-- The kernel's result at a row of one of the device's two batches. -/
theorem out_apply (c : Dev nD) (b : Fin 2) (i : Fin 512) (n : Fin 768) :
    (V3 m (outs m) c main_v23 : FVec Ideal S2x512x768 .f32) (ix3 b i n) = outFun (ins m) c 7 (ix2 ⟨512 * b.val + i.val, by omega⟩ n) := by
  have e : (V3 m (outs m) c main_v23 : FVec Ideal S2x512x768 .f32) = shapeCast S2x512x768 (outFun (ins m) c 7) shapeCasts_S1024x768_S2x512x768 := by
    rw [← V2_v22]
    dsimp only [V3, hostOps1]
    after_results_simp <;> rfl
  rw [e]
  generalize outFun (ins m) c 7 = x
  have hr : (⟨b.val * 512 + i.val, by omega⟩ : Fin 1024) = ⟨512 * b.val + i.val, by omega⟩ := Fin.ext (by show b.val * 512 + i.val = 512 * b.val + i.val; omega)
  rw [← hr]
  pointwise

theorem x_apply (c : Dev nD) (b : Fin 2) (i : Fin 512) (k : Fin 768) : (ins m).x c (ix2 ⟨512 * b.val + i.val, by omega⟩ k) = argX m c (ix3 b i k) := by
  rw [x_eq]
  generalize argX m c = x
  pointwise

end Cert.KernelIdeal.Walk

end
-- ==== Proof.Value.Reference.lean ====
/-
The reference's value at an index: the softmax of the masked scores, taken over the keys, times the
values and the output weights.
-/
module

public import proofs.«01_k».proof.Proof.Gen.ReferenceIdeal.Run
public import proofs.«01_k».proof.Proof.Value.Spec
public import Idealize.ShloMosaic.Lib.Pointwise
public import Idealize.ShloMosaic.Lib.IdealHost

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo Cert.Attn

/-! ## The reference's term, in steps -/

/-- Who attends to whom. -/
def attends : IVec S512x512 1 :=
  ori (cmpi .sle (absi (subi (broadcastInDim S512x512 ![0, 1] bcast_S512x1_S512x512_0_1 (broadcastInDim S512x1 ![0] bcast_S512_S512x1_0 (iotaInDim S512 32 0))) (broadcastInDim S512x512 ![0, 1] bcast_S1x512_S512x512_0_1 (broadcastInDim S1x512 ![1] bcast_S512_S1x512_1 (iotaInDim S512 32 0))))) (broadcastInDim S512x512 ![] bcast_S_S512x512 (constantI S_ 32 128#32))) (ori (broadcastInDim S512x512 ![0, 1] bcast_S1x512_S512x512_0_1 (cmpi .slt (broadcastInDim S1x512 ![1] bcast_S512_S1x512_1 (iotaInDim S512 32 0)) (broadcastInDim S1x512 ![] bcast_S_S1x512 (constantI S_ 32 32#32)))) (broadcastInDim S512x512 ![0, 1] bcast_S512x1_S512x512_0_1 (cmpi .slt (broadcastInDim S512x1 ![0] bcast_S512_S512x1_0 (iotaInDim S512 32 0)) (broadcastInDim S512x1 ![] bcast_S_S512x1 (constantI S_ 32 32#32)))))

/-- The rows that attend to some column. -/
def keeps : IVec S512 1 := Host.reduce IntOp.ori attends (constantI S_ 1 0#1) reducesTo_S512x512_S512_d1 h_S_

def query (x : FVec Ideal S16x512x768 .f32) (wq : FVec Ideal S768x4096 .f32) : FVec Ideal S16x512x4096 .f32 :=
  Host.dotGeneral dot_S16x512x768_S768x4096_S16x512x4096_2_0_01_1_n_n none x wq

/-- The scores of the rows' queries with the columns' keys. -/
def score (q : FVec Ideal S16x512x4096 .f32) (k : FVec Ideal S16x512x64x64 .f32) : FVec Ideal S16x64x512x512 .f32 :=
  mulf (Host.dotGeneral dot_S16x512x64x64_S16x512x64x64_S16x64x512x512_3_3_1_1_02_02 none (shapeCast _ q shapeCasts_S16x512x4096_S16x512x64x64) k) (broadcastInDim S16x64x512x512 ![] bcast_S_S16x64x512x512 (constant S_ .f32 0x3E000000#32))

def hidden (s : FVec Ideal S16x64x512x512 .f32) : FVec Ideal S16x64x512x512 .f32 :=
  select (broadcastInDim S16x64x512x512 ![0, 1, 2, 3] bcast_S1x1x512x512_S16x64x512x512_0_1_2_3 (broadcastInDim S1x1x512x512 ![2, 3] bcast_S512x512_S1x1x512x512_2_3 attends)) s (broadcastInDim S16x64x512x512 ![] bcast_S_S16x64x512x512 (id (constant S_ .f32 0xFF800000#32)))

def shifted (s : FVec Ideal S16x64x512x512 .f32) : FVec Ideal S16x64x512x512 .f32 :=
  Host.exp (subf s (broadcastInDim S16x64x512x512 ![0, 1, 2, 3] bcast_S16x64x512x1_S16x64x512x512_0_1_2_3 (broadcastInDim S16x64x512x1 ![0, 1, 2] bcast_S16x64x512_S16x64x512x1_0_1_2 (Host.reduce FloatOps.maximumf s (constant S_ .f32 0xFF800000#32) reducesTo_S16x64x512x512_S16x64x512_d3 h_S_))))

def weights (e : FVec Ideal S16x64x512x512 .f32) : FVec Ideal S16x64x512x512 .f32 :=
  select (broadcastInDim S16x64x512x512 ![0, 1, 2, 3] bcast_S1x1x512x1_S16x64x512x512_0_1_2_3 (broadcastInDim S1x1x512x1 ![2] bcast_S512_S1x1x512x1_2 keeps)) (Host.divf e (broadcastInDim S16x64x512x512 ![0, 1, 2, 3] bcast_S16x64x512x1_S16x64x512x512_0_1_2_3 (select (broadcastInDim S16x64x512x1 ![0, 1, 2, 3] bcast_S1x1x512x1_S16x64x512x1_0_1_2_3 (broadcastInDim S1x1x512x1 ![2] bcast_S512_S1x1x512x1_2 keeps)) (broadcastInDim S16x64x512x1 ![0, 1, 2] bcast_S16x64x512_S16x64x512x1_0_1_2 (Host.reduceAdd e (constant S_ .f32 0x00000000#32) reducesTo_S16x64x512x512_S16x64x512_d3 h_S_)) (broadcastInDim S16x64x512x1 ![] bcast_S_S16x64x512x1 (id (constant S_ .f32 0x3F800000#32)))))) (broadcastInDim S16x64x512x512 ![] bcast_S_S16x64x512x512 (id (constant S_ .f32 0x00000000#32)))

def context (v : FVec Ideal S16x512x64x64 .f32) (w : FVec Ideal S16x64x512x512 .f32) : FVec Ideal S16x512x4096 .f32 :=
  shapeCast _ (transpose S16x512x64x64 [0, 3, 1, 2] (Host.dotGeneral dot_S16x512x64x64_S16x64x512x512_S16x64x64x512_1_3_3_2_02_01 none v w) transposes_S16x64x64x512_S16x512x64x64_0_3_1_2) shapeCasts_S16x512x64x64_S16x512x4096

def result (ctx : FVec Ideal S16x512x4096 .f32) (wo : FVec Ideal S4096x768 .f32) : FVec Ideal S16x512x768 .f32 :=
  Host.dotGeneral dot_S16x512x4096_S4096x768_S16x512x768_2_0_01_1_n_n none ctx wo

theorem res_eq (m : (ℓ : Loc nD τ sig) → Buf (Elt Ideal) ℓ) (c : Dev nD) :
    res_main_v42 m c = result (context (m ((c.tc : Thread nD τ).loc main_arg3)) (weights (shifted (hidden (score (query (m ((c.tc : Thread nD τ).loc main_arg0)) (m ((c.tc : Thread nD τ).loc main_arg1))) (m ((c.tc : Thread nD τ).loc main_arg2))))))) (m ((c.tc : Thread nD τ).loc main_arg4)) := rfl

/-! ## The steps at an index -/

theorem attends_apply (i j : Fin 512) : attends (ix2 i j) = BitVec.ofBool (decide (Att i.val j.val)) := by
  pointwise [attends]
  exact att_bit i.isLt j.isLt

theorem fold_ori {ι : Type*} (s : Finset ι) (f : ι → BitVec 1) (a : ι) (ha : a ∈ s) (h : f a = 1#1) : s.fold IntOp.ori 0#1 f = 1#1 := by
  classical
  rw [← Finset.insert_erase ha, Finset.fold_insert (Finset.notMem_erase a s), h]
  generalize (s.erase a).fold IntOp.ori 0#1 f = y
  revert y; decide

theorem keeps_apply (i : Fin 512) : keeps (ix1 i) = 1#1 := by
  pointwise [keeps]
  exact fold_ori _ _ 0 (Finset.mem_univ _) (by rw [attends_apply]; exact (bit_eq_one _).2 (att_zero _))

theorem query_apply (x : FVec Ideal S16x512x768 .f32) (wq : FVec Ideal S768x4096 .f32) (B : Fin 16) (i : Fin 512) (n : Fin 4096) :
    query x wq (ix3 B i n) = ∑ k : Fin 768, x (ix3 B i k) * wq (ix2 k n) := by
  pointwise [query]

theorem eighth : Ideal.ofBits .f32 0x3E000000#32 = ((1 / 8 : ℝ) : EReal) := by
  simp [Ideal.ofBits, Ideal.ieee, -EReal.coe_mul]; norm_num

theorem minus_inf : Ideal.ofBits .f32 0xFF800000#32 = ⊥ := by
  simp [Ideal.ofBits, Ideal.ieee]

theorem score_apply (q : FVec Ideal S16x512x4096 .f32) (k : FVec Ideal S16x512x64x64 .f32) (B : Fin 16) (h : Fin 64) (i j : Fin 512) :
    score q k (ix4 B h i j) = (∑ d : Fin 64, q (ix3 B i ⟨h.val * 64 + d.val, by omega⟩) * k (ix4 B j h d)) * ((1 / 8 : ℝ) : EReal) := by
  pointwise [score]
  rw [eighth]

theorem hidden_apply (s : FVec Ideal S16x64x512x512 .f32) (B : Fin 16) (h : Fin 64) (i j : Fin 512) :
    hidden s (ix4 B h i j) = if Att i.val j.val then s (ix4 B h i j) else ⊥ := by
  pointwise [hidden]
  rw [attends_apply]
  show (if _ then _ else Ideal.ofBits .f32 0xFF800000#32) = _
  rw [minus_inf]
  exact if_congr (bit_eq_one _) rfl rfl

theorem shifted_apply (s : FVec Ideal S16x64x512x512 .f32) (B : Fin 16) (h : Fin 64) (i j : Fin 512) :
    shifted s (ix4 B h i j) = Ideal.exp (s (ix4 B h i j) - (Finset.univ : Finset (Fin 512)).fold max ⊥ fun k => s (ix4 B h i k)) := by
  pointwise [shifted]
  rw [minus_inf]

theorem weights_apply (e : FVec Ideal S16x64x512x512 .f32) (B : Fin 16) (h : Fin 64) (i j : Fin 512) :
    weights e (ix4 B h i j) = Ideal.div (e (ix4 B h i j)) (∑ k : Fin 512, e (ix4 B h i k)) := by
  pointwise [weights]
  rw [keeps_apply]
  rfl

theorem context_apply (v : FVec Ideal S16x512x64x64 .f32) (w : FVec Ideal S16x64x512x512 .f32) (B : Fin 16) (i : Fin 512) (h : Fin 64) (d : Fin 64) :
    context v w (ix3 B i ⟨h.val * 64 + d.val, by omega⟩) = ∑ j : Fin 512, v (ix4 B j h d) * w (ix4 B h i j) := by
  pointwise [context]

theorem result_apply (ctx : FVec Ideal S16x512x4096 .f32) (wo : FVec Ideal S4096x768 .f32) (B : Fin 16) (i : Fin 512) (n : Fin 768) :
    result ctx wo (ix3 B i n) = ∑ k : Fin 4096, ctx (ix3 B i k) * wo (ix2 k n) := by
  pointwise [result]

theorem result_heads (ctx : FVec Ideal S16x512x4096 .f32) (wo : FVec Ideal S4096x768 .f32) (B : Fin 16) (i : Fin 512) (n : Fin 768) :
    result ctx wo (ix3 B i n) = ∑ h : Fin 64, ∑ d : Fin 64, ctx (ix3 B i ⟨h.val * 64 + d.val, by omega⟩) * wo (ix2 ⟨h.val * 64 + d.val, by omega⟩ n) := by
  rw [result_apply]
  have hN : 64 * 64 = 4096 := by norm_num
  exact sum_split hN fun k => ctx (ix3 B i k) * wo (ix2 k n)

/-! ## The reference's value -/

section Value

variable (x : FVec Ideal S16x512x768 .f32) (wq : FVec Ideal S768x4096 .f32) (k v : FVec Ideal S16x512x64x64 .f32) (wo : FVec Ideal S4096x768 .f32)
  (xr : Fin 16 → Fin 512 → Fin 768 → ℝ) (wr : Fin 768 → Fin 4096 → ℝ) (kr : Fin 16 → Fin 512 → Fin 64 → Fin 64 → ℝ)

/-- The whole attention at real inputs, the values and the output weights any extended reals. -/
def attention (B : Fin 16) (i : Fin 512) (n : Fin 768) : EReal :=
  ∑ h : Fin 64, ∑ d : Fin 64, (∑ j : Fin 512, v (ix4 B j h d) * (wt (fun j : Fin 512 => Att i.val j.val) (fun j => scr (xr B i) (fun m d => wr m ⟨h.val * 64 + d.val, by omega⟩) (kr B j h)) j : EReal))
    * wo (ix2 ⟨h.val * 64 + d.val, by omega⟩ n)

theorem value_apply (hx : ∀ B i m, x (ix3 B i m) = (xr B i m : EReal)) (hw : ∀ m n, wq (ix2 m n) = (wr m n : EReal))
    (hk : ∀ B j h d, k (ix4 B j h d) = (kr B j h d : EReal)) (B : Fin 16) (i : Fin 512) (n : Fin 768) :
    result (context v (weights (shifted (hidden (score (query x wq) k))))) wo (ix3 B i n) = attention v wo xr wr kr B i n := by
  have hq : ∀ n : Fin 4096, query x wq (ix3 B i n) = ((∑ m, xr B i m * wr m n : ℝ) : EReal) := fun n => by
    rw [query_apply, ← coe_sum]
    exact Finset.sum_congr rfl fun m _ => by rw [hx, hw, EReal.coe_mul]
  have hs : ∀ (h : Fin 64) (j : Fin 512), hidden (score (query x wq) k) (ix4 B h i j)
      = masked (fun j : Fin 512 => Att i.val j.val) (fun j => scr (xr B i) (fun m d => wr m ⟨h.val * 64 + d.val, by omega⟩) (kr B j h)) j := fun h j => by
    rw [hidden_apply, score_apply]
    unfold masked scr
    refine if_congr Iff.rfl ?_ rfl
    rw [EReal.coe_mul, ← coe_sum]
    congr 1
    exact Finset.sum_congr rfl fun d _ => by rw [hq, hk, EReal.coe_mul]
  have hwt : ∀ (h : Fin 64) (j : Fin 512), weights (shifted (hidden (score (query x wq) k))) (ix4 B h i j)
      = (wt (fun j : Fin 512 => Att i.val j.val) (fun j => scr (xr B i) (fun m d => wr m ⟨h.val * 64 + d.val, by omega⟩) (kr B j h)) j : EReal) := fun h j => by
    rw [weights_apply]
    simp only [shifted_apply, hs]
    exact softmax_shift (fun j : Fin 512 => Att i.val j.val) _ ⟨0, att_zero _⟩ j
  rw [result_heads]
  unfold attention
  refine Finset.sum_congr rfl fun h _ => Finset.sum_congr rfl fun d _ => ?_
  rw [context_apply]
  refine congrArg (fun t : EReal => t * wo (ix2 ⟨h.val * 64 + d.val, by omega⟩ n)) (Finset.sum_congr rfl fun j _ => ?_)
  rw [hwt]

end Value

end Cert.ReferenceIdeal.Value

end
-- ==== Proof.Value.Agree.lean ====
/-
The kernel's result is the reference's: the eight hops of a device bring it the heads of all eight devices, each once.
-/
module

public import proofs.«01_k».proof.Proof.Value.Operands
public import proofs.«01_k».proof.Proof.Value.Reference

@[expose] public section

noncomputable section

namespace Cert.Attn

open Idealize.ShloMosaic Idealize.ShloMosaic.TcCoe Cert.KernelIdeal Cert.KernelIdeal.Gen Cert.KernelIdeal.Walk

section Agree

variable (m : (ℓ : Loc nD τ sig) → Buf (Elt Ideal) ℓ)
  (x : FVec Ideal Cert.ReferenceIdeal.S16x512x768 .f32) (wq : FVec Ideal Cert.ReferenceIdeal.S768x4096 .f32)
  (k v : FVec Ideal Cert.ReferenceIdeal.S16x512x64x64 .f32) (wo : FVec Ideal Cert.ReferenceIdeal.S4096x768 .f32)
  (xr : Fin 16 → Fin 512 → Fin 768 → ℝ) (wr : Fin 768 → Fin 4096 → ℝ) (kr : Fin 16 → Fin 512 → Fin 64 → Fin 64 → ℝ)

theorem dev_lt (c : Dev nD) : c.val < 8 := c.isLt

/-- A device's batch among all. -/
def batch (c : Dev nD) (b : Fin 2) : Fin 16 := ⟨2 * c.val + b.val, by have := dev_lt c; omega⟩
/-- A device's head, or the column of it, among all. -/
def part (c : Dev nD) (n : Fin 512) : Fin 4096 := ⟨512 * c.val + n.val, by have := dev_lt c; omega⟩

/-- The inputs as the devices hold them. -/
def xOn (c : Dev nD) (r : Fin 1024) (n : Fin 768) : ℝ := xr (batch c ⟨r.val / 512, by omega⟩) ⟨r.val % 512, Nat.mod_lt _ (by omega)⟩ n
def wOn (c : Dev nD) (n : Fin 768) (l : Fin 512) : ℝ := wr n (part c l)
def kOn (c : Dev nD) (b : Fin 2) (g d : Fin 64) (j : Fin 512) : ℝ := kr (batch c b) j g d

/-- The `g`-th head of the device that a hop hears from. -/
def headAt (c : Dev nD) (h g : Fin 8) : Fin 64 := ⟨(back c h).val * 8 + g.val, by have := dev_lt (back c h); omega⟩

theorem headOf_eq (c : Dev nD) (h g : Fin 8) : headOf c h ⟨g.val / 2, by omega⟩ ⟨g.val % 2, by omega⟩ = headAt c h g := by
  refine Fin.ext ?_
  show 8 * (back c h).val + 2 * (g.val / 2) + g.val % 2 = (back c h).val * 8 + g.val
  omega

theorem xOn_eq (c : Dev nD) (b : Fin 2) (i : Fin 512) : xOn xr c ⟨512 * b.val + i.val, by omega⟩ = xr (batch c b) i := by
  have hb : (⟨(512 * b.val + i.val) / 512, by omega⟩ : Fin 2) = b := Fin.ext (by show (512 * b.val + i.val) / 512 = b.val; omega)
  have hi : (⟨(512 * b.val + i.val) % 512, Nat.mod_lt _ (by omega)⟩ : Fin 512) = i := Fin.ext (by show (512 * b.val + i.val) % 512 = i.val; omega)
  funext n
  show xr (batch c ⟨(512 * b.val + i.val) / 512, _⟩) ⟨(512 * b.val + i.val) % 512, _⟩ n = _
  rw [hb, hi]

theorem column_eq (c : Dev nD) (h g : Fin 8) (d : Fin 64) :
    part (back c h) ⟨128 * (g.val / 2) + (64 * (g.val % 2) + d.val), by omega⟩ = ⟨(headAt c h g).val * 64 + d.val, by omega⟩ := by
  refine Fin.ext ?_
  show 512 * (back c h).val + (128 * (g.val / 2) + (64 * (g.val % 2) + d.val)) = ((back c h).val * 8 + g.val) * 64 + d.val
  omega

theorem row_eq (c : Dev nD) (h g : Fin 8) (d : Fin 64) :
    part (back c h) ⟨g.val * 64 + d.val, by omega⟩ = ⟨(headAt c h g).val * 64 + d.val, by omega⟩ := by
  refine Fin.ext ?_
  show 512 * (back c h).val + (g.val * 64 + d.val) = ((back c h).val * 8 + g.val) * 64 + d.val
  omega

theorem scoreAt_eq (c : Dev nD) (h : Fin 8) (b : Fin 2) (g : Fin 8) (i j : Fin 512) :
    scoreAt (xOn xr) (wOn wr) (kOn kr) c h b ⟨g.val / 2, by omega⟩ ⟨g.val % 2, by omega⟩ i j
      = scr (xr (batch c b) i) (fun n d => wr n ⟨(headAt c h g).val * 64 + d.val, by omega⟩) (kr (batch c b) j (headAt c h g)) := by
  unfold scoreAt
  rw [xOn_eq, headOf_eq]
  have hw : (fun (n : Fin 768) (d : Fin 64) => wOn wr (back c h) n ⟨128 * (g.val / 2) + (64 * (g.val % 2) + d.val), by omega⟩)
      = fun n d => wr n ⟨(headAt c h g).val * 64 + d.val, by omega⟩ := by
    funext n d
    unfold wOn
    rw [column_eq]
  exact congrArg (fun w => scr (xr (batch c b) i) w (kr (batch c b) j (headAt c h g))) hw

theorem back_bijective (c : Dev nD) : Function.Bijective (back c) := by
  have : ∀ c : Dev nD, Function.Injective (back c) := by decide
  exact Finite.injective_iff_bijective.mp (this c)

/-- A sum over all heads, hop by hop. -/
theorem sum_heads (c : Dev nD) (f : Fin 64 → EReal) : ∑ g, f g = ∑ h : Fin 8, ∑ g : Fin 8, f (headAt c h g) := by
  have hN : 8 * 8 = 64 := by norm_num
  refine (sum_split hN f).trans ?_
  exact ((back_bijective c).sum_comp fun e : Fin 8 => ∑ g : Fin 8, f ⟨e.val * 8 + g.val, by omega⟩).symm

/-- The kernel's result at an index. -/
theorem kernel_value (hx : ∀ B i n, x (ix3 B i n) = (xr B i n : EReal)) (hw : ∀ n l, wq (ix2 n l) = (wr n l : EReal))
    (hk : ∀ B j h d, k (ix4 B j h d) = (kr B j h d : EReal))
    (h0 : ∀ c b i n, argX m c (ix3 b i n) = x (ix3 (batch c b) i n)) (h1 : ∀ c n l, argWq m c (ix2 n l) = wq (ix2 n (part c l)))
    (h2 : ∀ c, argK m c = k) (h3 : ∀ c, argV m c = v) (h4 : ∀ c l n, argWo m c (ix2 l n) = wo (ix2 (part c l) n))
    (c : Dev nD) (b : Fin 2) (i : Fin 512) (n : Fin 768) :
    (V3 m (outs m) c main_v23 : FVec Ideal S2x512x768 .f32) (ix3 b i n) = Cert.ReferenceIdeal.Value.attention v wo xr wr kr (batch c b) i n := by
  have hxI : ∀ c r n, (ins m).x c (ix2 r n) = (xOn xr c r n : EReal) := fun c r n => by
    have hr : (⟨512 * (⟨r.val / 512, by omega⟩ : Fin 2).val + (⟨r.val % 512, Nat.mod_lt _ (by omega)⟩ : Fin 512).val, by
        show 512 * (r.val / 512) + r.val % 512 < 1024; omega⟩ : Fin 1024) = r := Fin.ext (by show 512 * (r.val / 512) + r.val % 512 = r.val; omega)
    have e := x_apply m c ⟨r.val / 512, by omega⟩ ⟨r.val % 512, Nat.mod_lt _ (by omega)⟩ n
    rw [hr] at e
    rw [e, h0, hx]
    rfl
  have hwI : ∀ c n l, (ins m).wq c (ix2 n l) = (wOn wr c n l : EReal) := fun c n l => by
    rw [wq_eq, h1, hw]
    rfl
  have hkI : ∀ c b g d j, (ins m).kv 0 c (ix4 b g d j) = (kOn kr c b g d j : EReal) := fun c b g d j => by
    rw [k_eq, slab_apply, h2]
    exact hk _ _ _ _
  have hvI : ∀ c b g d j, (ins m).kv 1 c (ix4 b g d j) = v (ix4 (batch c b) j g d) := fun c b g d j => by
    rw [v_eq, slab_apply, h3]
    rfl
  refine (out_apply m c b i n).trans ?_
  refine (outFun_apply (ins m) c _ n).trans ?_
  unfold Cert.ReferenceIdeal.Value.attention
  rw [sum_heads c]
  refine Finset.sum_congr (M := EReal) rfl fun h _ => ?_
  refine (contribAt_apply (ins m) c h _ n).trans ?_
  refine Finset.sum_congr (M := EReal) rfl fun g _ => Finset.sum_congr (M := EReal) rfl fun d _ => ?_
  rw [ctxFun_apply, headFun_value (ins m) (xOn xr) (wOn wr) (kOn kr) hxI hwI hkI, headOf_eq, wo_apply, h4, row_eq]
  refine congrArg (fun t : EReal => t * wo (ix2 ⟨(headAt c h g).val * 64 + d.val, by omega⟩ n)) (Finset.sum_congr rfl fun j _ => ?_)
  rw [hvI]
  simp only [scoreAt_eq]

end Agree

end Cert.Attn

end
-- ==== Proof.Value.Finite.lean ====
/-
What the precondition says of an array: every element is a real number.
-/
module

public import proofs.«01_k».proof.Proof.Value.Reference
public import proofs.«01_k».proof.Pre_finite_KernelIdeal
public import proofs.«01_k».proof.Pre_finite_ReferenceIdeal
public import Idealize.ShloMosaic.Lib.Pointwise

@[expose] public section

noncomputable section

namespace Cert.Attn

open Idealize.ShloMosaic

instance finiteFacts : Cert.Pre_finite_KernelIdeal.Facts where
  bcast_S_S2x512x768 := by decide
  bcast_S_S768x512 := by decide
  bcast_S_S16x512x64x64 := by decide

instance finiteFactsReference : Cert.Pre_finite_ReferenceIdeal.Facts where
  bcast_S_S16x512x768 := by decide
  bcast_S_S768x4096 := by decide
  bcast_S_S16x512x64x64 := by decide

theorem ofBits_inf : (Ideal.ofBits .f32 0x7F800000#32 : EReal) = ⊤ := by
  simp [Ideal.ofBits, Ideal.ieee]

/-- A number whose size is below infinity is a real. -/
theorem real_of_lt {a : EReal} (h : max a (-a) < ⊤) : ((a.toReal : ℝ) : EReal) = a := by
  refine EReal.coe_toReal ?_ ?_
  · rintro rfl
    simp at h
  · rintro rfl
    simp at h

/-- The comparison's bit at an index. -/
theorem real_of_bit {s : Shape} {a b : FVec Ideal s .f32} (i : s.Idx) (hb : b i = (⊤ : EReal))
    (h : cmpf .olt (Host.absf a) b = fun _ => 1#1) : (((a i : EReal).toReal : ℝ) : EReal) = a i := by
  have e := congrFun h i
  have e' : BitVec.ofBool (decide ((max (a i) (-(a i)) : EReal) < b i)) = 1#1 := e
  rw [hb] at e'
  refine real_of_lt ?_
  by_contra hn
  rw [decide_eq_false hn] at e'
  exact absurd e' (by decide)

end Cert.Attn

end
-- ==== Proof.Value.Algebraic.lean ====
/-
Kernel and reference agree: each device's result is its part of the reference's result.
-/
module

public import proofs.«01_k».proof.Defs
public import proofs.«01_k».proof.Proof.Value.Agree
public import proofs.«01_k».proof.Proof.Value.Finite
public import proofs.«01_k».proof.Proof.Gen.ReferenceIdeal.Run

@[expose] public section

noncomputable section

namespace Cert.Attn

open Idealize.ShloMosaic Idealize.ShloMosaic.TcCoe Cert.KernelIdeal Cert.KernelIdeal.Gen Cert.KernelIdeal.Walk

/-! ### Where an element of a device's part lies in the whole -/

theorem part_batch {α : Type} (c : Fin 8) (u : Cert.ReferenceIdeal.S16x512x768.Idx → α) (h) (b : Fin 2) (i : Fin 512) (n : Fin 768) :
    Layout.block S2x512x768 Cert.ReferenceIdeal.S16x512x768 0 8 c u h (ix3 b i n) = u (ix3 (batch c b) i n) := by
  rw [Layout.block_apply]
  refine congrArg u (funext fun a => ?_)
  match a with
  | 0 => exact Fin.ext (by show c.val * 2 + b.val = 2 * c.val + b.val; omega)
  | 1 => rfl
  | 2 => rfl

theorem part_columns {α : Type} (c : Fin 8) (u : Cert.ReferenceIdeal.S768x4096.Idx → α) (h) (n : Fin 768) (l : Fin 512) :
    Layout.block S768x512 Cert.ReferenceIdeal.S768x4096 1 8 c u h (ix2 n l) = u (ix2 n (part c l)) := by
  rw [Layout.block_apply]
  refine congrArg u (funext fun a => ?_)
  match a with
  | 0 => rfl
  | 1 => exact Fin.ext (by show c.val * 512 + l.val = 512 * c.val + l.val; omega)

theorem part_rows {α : Type} (c : Fin 8) (u : Cert.ReferenceIdeal.S4096x768.Idx → α) (h) (l : Fin 512) (n : Fin 768) :
    Layout.block S512x768 Cert.ReferenceIdeal.S4096x768 0 8 c u h (ix2 l n) = u (ix2 (part c l) n) := by
  rw [Layout.block_apply]
  refine congrArg u (funext fun a => ?_)
  match a with
  | 0 => exact Fin.ext (by show c.val * 512 + l.val = 512 * c.val + l.val; omega)
  | 1 => rfl

/-- Every batch is some device's. -/
theorem batch_split (B : Fin 16) : batch (⟨B.val / 2, by omega⟩ : Fin 8) ⟨B.val % 2, Nat.mod_lt _ (by omega)⟩ = B :=
  Fin.ext (by show 2 * (B.val / 2) + B.val % 2 = B.val; omega)
/-- Every column is some device's. -/
theorem part_split (N : Fin 4096) : part (⟨N.val / 512, by omega⟩ : Fin 8) ⟨N.val % 512, Nat.mod_lt _ (by omega)⟩ = N :=
  Fin.ext (by show 512 * (N.val / 512) + N.val % 512 = N.val; omega)

/-! ### The claim -/

section Claim

variable (m : (ℓ : Loc nD τ sig) → Buf (Elt Ideal) ℓ)
  (m' : (ℓ : Loc Cert.ReferenceIdeal.nD Cert.ReferenceIdeal.τ Cert.ReferenceIdeal.sig) → Buf (Elt Ideal) ℓ)

abbrev refX : FVec Ideal Cert.ReferenceIdeal.S16x512x768 .f32 := m' (((0 : Dev Cert.ReferenceIdeal.nD).tc : Thread Cert.ReferenceIdeal.nD Cert.ReferenceIdeal.τ).loc Cert.ReferenceIdeal.main_arg0)
abbrev refWq : FVec Ideal Cert.ReferenceIdeal.S768x4096 .f32 := m' (((0 : Dev Cert.ReferenceIdeal.nD).tc : Thread Cert.ReferenceIdeal.nD Cert.ReferenceIdeal.τ).loc Cert.ReferenceIdeal.main_arg1)
abbrev refK : FVec Ideal Cert.ReferenceIdeal.S16x512x64x64 .f32 := m' (((0 : Dev Cert.ReferenceIdeal.nD).tc : Thread Cert.ReferenceIdeal.nD Cert.ReferenceIdeal.τ).loc Cert.ReferenceIdeal.main_arg2)
abbrev refV : FVec Ideal Cert.ReferenceIdeal.S16x512x64x64 .f32 := m' (((0 : Dev Cert.ReferenceIdeal.nD).tc : Thread Cert.ReferenceIdeal.nD Cert.ReferenceIdeal.τ).loc Cert.ReferenceIdeal.main_arg3)
abbrev refWo : FVec Ideal Cert.ReferenceIdeal.S4096x768 .f32 := m' (((0 : Dev Cert.ReferenceIdeal.nD).tc : Thread Cert.ReferenceIdeal.nD Cert.ReferenceIdeal.τ).loc Cert.ReferenceIdeal.main_arg4)

/-- Each device holds its part of the reference's arguments. -/
structure Parts : Prop where
  x : ∀ c b i n, argX m c (ix3 b i n) = refX m' (ix3 (batch c b) i n)
  wq : ∀ c n l, argWq m c (ix2 n l) = refWq m' (ix2 n (part c l))
  k : ∀ c, argK m c = refK m'
  v : ∀ c, argV m c = refV m'
  wo : ∀ c l n, argWo m c (ix2 l n) = refWo m' (ix2 (part c l) n)

/-- The precondition on one device: its numbers are reals. -/
theorem real_args (hp : Cert.Pre_KernelIdeal_finite_KernelIdeal m) (c : Dev nD) :
    (∀ i, (((argX m c i : EReal).toReal : ℝ) : EReal) = argX m c i)
    ∧ (∀ i, (((argWq m c i : EReal).toReal : ℝ) : EReal) = argWq m c i)
    ∧ (∀ i, (((argK m c i : EReal).toReal : ℝ) : EReal) = argK m c i) :=
  ⟨fun i => real_of_bit i ofBits_inf (hp c).1, fun i => real_of_bit i ofBits_inf (hp c).2.1, fun i => real_of_bit i ofBits_inf (hp c).2.2⟩

theorem result_value (hp : Cert.Pre_KernelIdeal_finite_KernelIdeal m) (P : Parts m m') (c : Dev nD) (b : Fin 2) (i : Fin 512) (n : Fin 768) :
    (V3 m (outs m) c main_v23 : FVec Ideal S2x512x768 .f32) (ix3 b i n)
      = (Cert.ReferenceIdeal.Value.res_main_v42 m' 0 : FVec Ideal Cert.ReferenceIdeal.S16x512x768 .f32) (ix3 (batch c b) i n) := by
  have hx : ∀ B i n, refX m' (ix3 B i n) = (((refX m' (ix3 B i n) : EReal).toReal : ℝ) : EReal) := fun B i n => by
    have e := P.x (⟨B.val / 2, by omega⟩ : Fin 8) ⟨B.val % 2, Nat.mod_lt _ (by omega)⟩ i n
    rw [batch_split] at e
    rw [← e]
    exact ((real_args m hp _).1 _).symm
  have hw : ∀ n l, refWq m' (ix2 n l) = (((refWq m' (ix2 n l) : EReal).toReal : ℝ) : EReal) := fun n l => by
    have e := P.wq (⟨l.val / 512, by omega⟩ : Fin 8) n ⟨l.val % 512, Nat.mod_lt _ (by omega)⟩
    rw [part_split] at e
    rw [← e]
    exact ((real_args m hp _).2.1 _).symm
  have hk : ∀ B j h d, refK m' (ix4 B j h d) = (((refK m' (ix4 B j h d) : EReal).toReal : ℝ) : EReal) := fun B j h d => by
    rw [← P.k 0]
    exact ((real_args m hp 0).2.2 _).symm
  refine (kernel_value m (refX m') (refWq m') (refK m') (refV m') (refWo m') (fun B i n => (refX m' (ix3 B i n) : EReal).toReal)
    (fun n l => (refWq m' (ix2 n l) : EReal).toReal) (fun B j h d => (refK m' (ix4 B j h d) : EReal).toReal) hx hw hk
    P.x P.wq P.k P.v P.wo c b i n).trans ?_
  rw [Cert.ReferenceIdeal.Value.res_eq]
  exact (Cert.ReferenceIdeal.Value.value_apply (refX m') (refWq m') (refK m') (refV m') (refWo m') _ _ _ hx hw hk (batch c b) i n).symm

end Claim

theorem algebraic : Cert.algebraic_KernelIdeal_ReferenceIdeal_pre_finite_KernelIdeal := by
  intro m g m' g' hp hin
  have P : Parts m m' :=
    { x := fun c b i n => (congrFun (hin c).1 (ix3 b i n)).trans (part_batch c _ _ b i n)
      wq := fun c n l => (congrFun (hin c).2.1 (ix2 n l)).trans (part_columns c _ _ n l)
      k := fun c => (hin c).2.2.1
      v := fun c => (hin c).2.2.2.1
      wo := fun c l n => (congrFun (hin c).2.2.2.2 (ix2 l n)).trans (part_rows c _ _ l n) }
  refine ⟨Cert.ReferenceIdeal.Value.res_main_v42 m' 0, ?_, ?_⟩
  · refine (θ_run Cert.KernelIdeal.defs _ _).mono (fun r h c => ⟨?_, (h.1 c).1⟩) (Cert.KernelIdeal.Walk.run_main (F := Ideal) m g)
    refine (h.1 c).2.1.trans (funext fun i => ?_)
    have hi : i = ix3 (i 0) (i 1) (i 2) := by
      funext a
      match a with
      | 0 => rfl
      | 1 => rfl
      | 2 => rfl
    rw [hi]
    exact (result_value m m' hp P c (i 0) (i 1) (i 2)).trans (part_batch c _ _ (i 0) (i 1) (i 2)).symm
  · exact (θ_run Cert.ReferenceIdeal.defs _ _).mono (fun r h => h 0) (Cert.ReferenceIdeal.Value.run (F := Ideal) m' g')

end Cert.Attn

end
-- ==== Proof.lean ====
/-
The certificate's claim, assembled from its parts.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Algebraic
public import Idealize.ShloMosaic.Adequacy
public import Idealize.ShloMosaic.Init
public import Idealize.ShloMosaic.Lib.Quiescent

@[expose] public section

noncomputable section

namespace Cert.Proof

open Idealize.ShloMosaic Idealize.SL.Sem

theorem frame_kernel : Cert.quiescent_Kernel := fun m ρ _ =>
  (θ_run Cert.Kernel.defs _ _).mono (fun _ h => ⟨fun c => (h.1 c).1, h.2⟩) (Cert.Kernel.Walk.run_main (F := Bits) m ρ)

theorem frame_kernelIdeal : Cert.quiescent_KernelIdeal := fun m ρ _ =>
  (θ_run Cert.KernelIdeal.defs _ _).mono (fun _ h => ⟨fun c => (h.1 c).1, h.2⟩) (Cert.KernelIdeal.Walk.run_main (F := Ideal) m ρ)

/-- The run needs nothing of the arguments, so it needs not the precondition either. -/
theorem frame_kernelIdeal_finite : Cert.quiescent_KernelIdeal_pre_finite_KernelIdeal := fun m ρ _ => frame_kernelIdeal m ρ trivial

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_finite : Cert.quiescent_ReferenceIdeal_pre_finite_ReferenceIdeal := fun m ρ _ => frame_referenceIdeal m ρ trivial

/-- The factor of the scores and the mask's fill are the reals and the infinity their names stand for. -/
theorem preserves : Cert.preserves_Kernel_KernelIdeal :=
  ⟨IdealRules.named_const.statement Cert.KernelIdeal.κ "scale" .f32 0x3E38AA3B#32 (((1 / 8) * (Real.log 2)⁻¹ : ℝ) : EReal) rfl,
    IdealRules.named_const.statement Cert.KernelIdeal.κ "mask" .f32 0xCE6E6B28#32 ⊥ rfl⟩

theorem claim : Cert.Claim :=
  ⟨Cert.Kernel.Gen.facts, Cert.KernelIdeal.Gen.facts, Cert.ReferenceIdeal.Gen.facts, Cert.Attn.finiteFacts, Cert.Attn.finiteFactsReference,
    frame_kernel, frame_kernelIdeal, frame_kernelIdeal_finite, frame_referenceIdeal, frame_referenceIdeal_finite, preserves,
    Cert.Attn.algebraic⟩

end Cert.Proof

end
